-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputReferenceIdeal (m : (ℓ : Loc Cert.InputReferenceIdeal.nD Cert.InputReferenceIdeal.τ Cert.InputReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1)
      ∧ r.2.mem ((c.tc : Thread Cert.Weight.nD Cert.Weight.τ).loc Cert.Weight.main_arg2) = m ((c.tc : Thread Cert.Weight.nD Cert.Weight.τ).loc Cert.Weight.main_arg2)
      ∧ r.2.mem ((c.tc : Thread Cert.Weight.nD Cert.Weight.τ).loc Cert.Weight.main_arg3) = m ((c.tc : Thread Cert.Weight.nD Cert.Weight.τ).loc Cert.Weight.main_arg3))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
      ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2)
      ∧ r.2.mem ((c.tc : Thread Cert.WeightIdeal.nD Cert.WeightIdeal.τ).loc Cert.WeightIdeal.main_arg3) = m ((c.tc : Thread Cert.WeightIdeal.nD Cert.WeightIdeal.τ).loc Cert.WeightIdeal.main_arg3))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1)
      ∧ r.2.mem ((c.tc : Thread Cert.WeightReferenceIdeal.nD Cert.WeightReferenceIdeal.τ).loc Cert.WeightReferenceIdeal.main_arg2) = m ((c.tc : Thread Cert.WeightReferenceIdeal.nD Cert.WeightReferenceIdeal.τ).loc Cert.WeightReferenceIdeal.main_arg2)
      ∧ r.2.mem ((c.tc : Thread Cert.WeightReferenceIdeal.nD Cert.WeightReferenceIdeal.τ).loc Cert.WeightReferenceIdeal.main_arg3) = m ((c.tc : Thread Cert.WeightReferenceIdeal.nD Cert.WeightReferenceIdeal.τ).loc Cert.WeightReferenceIdeal.main_arg3))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3)
      ∧ r.2.mem ((c.tc : Thread Cert.Input.nD Cert.Input.τ).loc Cert.Input.main_arg4) = m ((c.tc : Thread Cert.Input.nD Cert.Input.τ).loc Cert.Input.main_arg4)
      ∧ r.2.mem ((c.tc : Thread Cert.Input.nD Cert.Input.τ).loc Cert.Input.main_arg5) = m ((c.tc : Thread Cert.Input.nD Cert.Input.τ).loc Cert.Input.main_arg5)
      ∧ r.2.mem ((c.tc : Thread Cert.Input.nD Cert.Input.τ).loc Cert.Input.main_arg6) = m ((c.tc : Thread Cert.Input.nD Cert.Input.τ).loc Cert.Input.main_arg6))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4)
      ∧ r.2.mem ((c.tc : Thread Cert.InputIdeal.nD Cert.InputIdeal.τ).loc Cert.InputIdeal.main_arg5) = m ((c.tc : Thread Cert.InputIdeal.nD Cert.InputIdeal.τ).loc Cert.InputIdeal.main_arg5)
      ∧ r.2.mem ((c.tc : Thread Cert.InputIdeal.nD Cert.InputIdeal.τ).loc Cert.InputIdeal.main_arg6) = m ((c.tc : Thread Cert.InputIdeal.nD Cert.InputIdeal.τ).loc Cert.InputIdeal.main_arg6))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4)
      ∧ r.2.mem ((c.tc : Thread Cert.InputReferenceIdeal.nD Cert.InputReferenceIdeal.τ).loc Cert.InputReferenceIdeal.main_arg5) = m ((c.tc : Thread Cert.InputReferenceIdeal.nD Cert.InputReferenceIdeal.τ).loc Cert.InputReferenceIdeal.main_arg5)
      ∧ r.2.mem ((c.tc : Thread Cert.InputReferenceIdeal.nD Cert.InputReferenceIdeal.τ).loc Cert.InputReferenceIdeal.main_arg6) = m ((c.tc : Thread Cert.InputReferenceIdeal.nD Cert.InputReferenceIdeal.τ).loc Cert.InputReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)) (v2 : (c : Dev Cert.KernelIdeal.nD) → Buf (Elt Ideal) ((c.tc : Thread Cert.KernelIdeal.nD Cert.KernelIdeal.τ).loc Cert.KernelIdeal.main_v70_2)) (v3 : (c : Dev Cert.KernelIdeal.nD) → Buf (Elt Ideal) ((c.tc : Thread Cert.KernelIdeal.nD Cert.KernelIdeal.τ).loc Cert.KernelIdeal.main_v70_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_v70_2) = v2 c
          ∧ r.2.mem ((c.tc : Thread Cert.KernelIdeal.nD Cert.KernelIdeal.τ).loc Cert.KernelIdeal.main_v70_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_v139) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v4_0)) (v1 : (c : Dev Cert.MlpIdeal.nD) → Buf (Elt Ideal) ((c.tc : Thread Cert.MlpIdeal.nD Cert.MlpIdeal.τ).loc Cert.MlpIdeal.main_v4_1)) (v2 : (c : Dev Cert.MlpIdeal.nD) → Buf (Elt Ideal) ((c.tc : Thread Cert.MlpIdeal.nD Cert.MlpIdeal.τ).loc Cert.MlpIdeal.main_v4_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4_0) = v0 c
          ∧ r.2.mem ((c.tc : Thread Cert.MlpIdeal.nD Cert.MlpIdeal.τ).loc Cert.MlpIdeal.main_v4_1) = v1 c
          ∧ r.2.mem ((c.tc : Thread Cert.MlpIdeal.nD Cert.MlpIdeal.τ).loc Cert.MlpIdeal.main_v4_2) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v17) = v0 c
          ∧ r.2.mem ((c.tc : Thread Cert.MlpReferenceIdeal.nD Cert.MlpReferenceIdeal.τ).loc Cert.MlpReferenceIdeal.main_v18) = v1 c
          ∧ r.2.mem ((c.tc : Thread Cert.MlpReferenceIdeal.nD Cert.MlpReferenceIdeal.τ).loc Cert.MlpReferenceIdeal.main_v19) = v2 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_Weight_WeightIdeal : Prop :=
  True

def algebraic_WeightIdeal_WeightReferenceIdeal [hWeightIdeal : Cert.WeightIdeal.Facts] [hWeightReferenceIdeal : Cert.WeightReferenceIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightIdeal m →
    (∀ c : Dev Cert.WeightIdeal.nD,
      m' ((c.tc : Thread Cert.WeightReferenceIdeal.nD Cert.WeightReferenceIdeal.τ).loc Cert.WeightReferenceIdeal.main_arg0) = m ((c.tc : Thread Cert.WeightIdeal.nD Cert.WeightIdeal.τ).loc Cert.WeightIdeal.main_arg0)
      ∧ m' ((c.tc : Thread Cert.WeightReferenceIdeal.nD Cert.WeightReferenceIdeal.τ).loc Cert.WeightReferenceIdeal.main_arg1) = m ((c.tc : Thread Cert.WeightIdeal.nD Cert.WeightIdeal.τ).loc Cert.WeightIdeal.main_arg1)
      ∧ m' ((c.tc : Thread Cert.WeightReferenceIdeal.nD Cert.WeightReferenceIdeal.τ).loc Cert.WeightReferenceIdeal.main_arg2) = m ((c.tc : Thread Cert.WeightIdeal.nD Cert.WeightIdeal.τ).loc Cert.WeightIdeal.main_arg2)
      ∧ m' ((c.tc : Thread Cert.WeightReferenceIdeal.nD Cert.WeightReferenceIdeal.τ).loc Cert.WeightReferenceIdeal.main_arg3) = m ((c.tc : Thread Cert.WeightIdeal.nD Cert.WeightIdeal.τ).loc Cert.WeightIdeal.main_arg3)) →
    ∃ (v0 : (c : Dev Cert.WeightIdeal.nD) → Buf (Elt Ideal) ((c.tc : Thread Cert.WeightIdeal.nD Cert.WeightIdeal.τ).loc Cert.WeightIdeal.main_v6)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v6) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
          ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2)
          ∧ r.2.mem ((c.tc : Thread Cert.WeightIdeal.nD Cert.WeightIdeal.τ).loc Cert.WeightIdeal.main_arg3) = m ((c.tc : Thread Cert.WeightIdeal.nD Cert.WeightIdeal.τ).loc Cert.WeightIdeal.main_arg3))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v6) = v0 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0)
          ∧ r.2.mem ((c.tc : Thread Cert.WeightReferenceIdeal.nD Cert.WeightReferenceIdeal.τ).loc Cert.WeightReferenceIdeal.main_arg1) = m' ((c.tc : Thread Cert.WeightReferenceIdeal.nD Cert.WeightReferenceIdeal.τ).loc Cert.WeightReferenceIdeal.main_arg1)
          ∧ r.2.mem ((c.tc : Thread Cert.WeightReferenceIdeal.nD Cert.WeightReferenceIdeal.τ).loc Cert.WeightReferenceIdeal.main_arg2) = m' ((c.tc : Thread Cert.WeightReferenceIdeal.nD Cert.WeightReferenceIdeal.τ).loc Cert.WeightReferenceIdeal.main_arg2)
          ∧ r.2.mem ((c.tc : Thread Cert.WeightReferenceIdeal.nD Cert.WeightReferenceIdeal.τ).loc Cert.WeightReferenceIdeal.main_arg3) = m' ((c.tc : Thread Cert.WeightReferenceIdeal.nD Cert.WeightReferenceIdeal.τ).loc Cert.WeightReferenceIdeal.main_arg3))

def preserves_Input_InputIdeal : Prop :=
  True

def algebraic_InputIdeal_InputReferenceIdeal [hInputIdeal : Cert.InputIdeal.Facts] [hInputReferenceIdeal : Cert.InputReferenceIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputIdeal m →
    (∀ c : Dev Cert.InputIdeal.nD,
      m' ((c.tc : Thread Cert.InputReferenceIdeal.nD Cert.InputReferenceIdeal.τ).loc Cert.InputReferenceIdeal.main_arg0) = m ((c.tc : Thread Cert.InputIdeal.nD Cert.InputIdeal.τ).loc Cert.InputIdeal.main_arg0)
      ∧ m' ((c.tc : Thread Cert.InputReferenceIdeal.nD Cert.InputReferenceIdeal.τ).loc Cert.InputReferenceIdeal.main_arg1) = m ((c.tc : Thread Cert.InputIdeal.nD Cert.InputIdeal.τ).loc Cert.InputIdeal.main_arg1)
      ∧ m' ((c.tc : Thread Cert.InputReferenceIdeal.nD Cert.InputReferenceIdeal.τ).loc Cert.InputReferenceIdeal.main_arg2) = m ((c.tc : Thread Cert.InputIdeal.nD Cert.InputIdeal.τ).loc Cert.InputIdeal.main_arg2)
      ∧ m' ((c.tc : Thread Cert.InputReferenceIdeal.nD Cert.InputReferenceIdeal.τ).loc Cert.InputReferenceIdeal.main_arg3) = m ((c.tc : Thread Cert.InputIdeal.nD Cert.InputIdeal.τ).loc Cert.InputIdeal.main_arg3)
      ∧ m' ((c.tc : Thread Cert.InputReferenceIdeal.nD Cert.InputReferenceIdeal.τ).loc Cert.InputReferenceIdeal.main_arg4) = m ((c.tc : Thread Cert.InputIdeal.nD Cert.InputIdeal.τ).loc Cert.InputIdeal.main_arg4)
      ∧ m' ((c.tc : Thread Cert.InputReferenceIdeal.nD Cert.InputReferenceIdeal.τ).loc Cert.InputReferenceIdeal.main_arg5) = m ((c.tc : Thread Cert.InputIdeal.nD Cert.InputIdeal.τ).loc Cert.InputIdeal.main_arg5)
      ∧ m' ((c.tc : Thread Cert.InputReferenceIdeal.nD Cert.InputReferenceIdeal.τ).loc Cert.InputReferenceIdeal.main_arg6) = m ((c.tc : Thread Cert.InputIdeal.nD Cert.InputIdeal.τ).loc Cert.InputIdeal.main_arg6)) →
    ∃ (v0 : (c : Dev Cert.InputIdeal.nD) → Buf (Elt Ideal) ((c.tc : Thread Cert.InputIdeal.nD Cert.InputIdeal.τ).loc Cert.InputIdeal.main_v6_0)) (v1 : (c : Dev Cert.InputIdeal.nD) → Buf (Elt Ideal) ((c.tc : Thread Cert.InputIdeal.nD Cert.InputIdeal.τ).loc Cert.InputIdeal.main_v6_1)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v6_0) = v0 c
          ∧ r.2.mem ((c.tc : Thread Cert.InputIdeal.nD Cert.InputIdeal.τ).loc Cert.InputIdeal.main_v6_1) = v1 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
          ∧ r.2.mem ((c.tc : Thread Cert.InputIdeal.nD Cert.InputIdeal.τ).loc Cert.InputIdeal.main_arg4) = m ((c.tc : Thread Cert.InputIdeal.nD Cert.InputIdeal.τ).loc Cert.InputIdeal.main_arg4)
          ∧ r.2.mem ((c.tc : Thread Cert.InputIdeal.nD Cert.InputIdeal.τ).loc Cert.InputIdeal.main_arg5) = m ((c.tc : Thread Cert.InputIdeal.nD Cert.InputIdeal.τ).loc Cert.InputIdeal.main_arg5)
          ∧ r.2.mem ((c.tc : Thread Cert.InputIdeal.nD Cert.InputIdeal.τ).loc Cert.InputIdeal.main_arg6) = m ((c.tc : Thread Cert.InputIdeal.nD Cert.InputIdeal.τ).loc Cert.InputIdeal.main_arg6))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v41) = v0 c
          ∧ r.2.mem ((c.tc : Thread Cert.InputReferenceIdeal.nD Cert.InputReferenceIdeal.τ).loc Cert.InputReferenceIdeal.main_v42) = v1 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1)
          ∧ r.2.mem ((c.tc : Thread Cert.InputReferenceIdeal.nD Cert.InputReferenceIdeal.τ).loc Cert.InputReferenceIdeal.main_arg2) = m' ((c.tc : Thread Cert.InputReferenceIdeal.nD Cert.InputReferenceIdeal.τ).loc Cert.InputReferenceIdeal.main_arg2)
          ∧ r.2.mem ((c.tc : Thread Cert.InputReferenceIdeal.nD Cert.InputReferenceIdeal.τ).loc Cert.InputReferenceIdeal.main_arg3) = m' ((c.tc : Thread Cert.InputReferenceIdeal.nD Cert.InputReferenceIdeal.τ).loc Cert.InputReferenceIdeal.main_arg3)
          ∧ r.2.mem ((c.tc : Thread Cert.InputReferenceIdeal.nD Cert.InputReferenceIdeal.τ).loc Cert.InputReferenceIdeal.main_arg4) = m' ((c.tc : Thread Cert.InputReferenceIdeal.nD Cert.InputReferenceIdeal.τ).loc Cert.InputReferenceIdeal.main_arg4)
          ∧ r.2.mem ((c.tc : Thread Cert.InputReferenceIdeal.nD Cert.InputReferenceIdeal.τ).loc Cert.InputReferenceIdeal.main_arg5) = m' ((c.tc : Thread Cert.InputReferenceIdeal.nD Cert.InputReferenceIdeal.τ).loc Cert.InputReferenceIdeal.main_arg5)
          ∧ r.2.mem ((c.tc : Thread Cert.InputReferenceIdeal.nD Cert.InputReferenceIdeal.τ).loc Cert.InputReferenceIdeal.main_arg6) = m' ((c.tc : Thread Cert.InputReferenceIdeal.nD Cert.InputReferenceIdeal.τ).loc Cert.InputReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v22_0)) (v1 : (c : Dev Cert.MergeIdeal.nD) → Buf (Elt Ideal) ((c.tc : Thread Cert.MergeIdeal.nD Cert.MergeIdeal.τ).loc Cert.MergeIdeal.main_v22_1)) (v2 : (c : Dev Cert.MergeIdeal.nD) → Buf (Elt Ideal) ((c.tc : Thread Cert.MergeIdeal.nD Cert.MergeIdeal.τ).loc Cert.MergeIdeal.main_v22_2)) (v3 : (c : Dev Cert.MergeIdeal.nD) → Buf (Elt Ideal) ((c.tc : Thread Cert.MergeIdeal.nD Cert.MergeIdeal.τ).loc Cert.MergeIdeal.main_v22_3)) (v4 : (c : Dev Cert.MergeIdeal.nD) → Buf (Elt Ideal) ((c.tc : Thread Cert.MergeIdeal.nD Cert.MergeIdeal.τ).loc Cert.MergeIdeal.main_v22_4)) (v5 : (c : Dev Cert.MergeIdeal.nD) → Buf (Elt Ideal) ((c.tc : Thread Cert.MergeIdeal.nD Cert.MergeIdeal.τ).loc Cert.MergeIdeal.main_v22_5)) (v6 : (c : Dev Cert.MergeIdeal.nD) → Buf (Elt Ideal) ((c.tc : Thread Cert.MergeIdeal.nD Cert.MergeIdeal.τ).loc Cert.MergeIdeal.main_v22_6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v22_0) = v0 c
          ∧ r.2.mem ((c.tc : Thread Cert.MergeIdeal.nD Cert.MergeIdeal.τ).loc Cert.MergeIdeal.main_v22_1) = v1 c
          ∧ r.2.mem ((c.tc : Thread Cert.MergeIdeal.nD Cert.MergeIdeal.τ).loc Cert.MergeIdeal.main_v22_2) = v2 c
          ∧ r.2.mem ((c.tc : Thread Cert.MergeIdeal.nD Cert.MergeIdeal.τ).loc Cert.MergeIdeal.main_v22_3) = v3 c
          ∧ r.2.mem ((c.tc : Thread Cert.MergeIdeal.nD Cert.MergeIdeal.τ).loc Cert.MergeIdeal.main_v22_4) = v4 c
          ∧ r.2.mem ((c.tc : Thread Cert.MergeIdeal.nD Cert.MergeIdeal.τ).loc Cert.MergeIdeal.main_v22_5) = v5 c
          ∧ r.2.mem ((c.tc : Thread Cert.MergeIdeal.nD Cert.MergeIdeal.τ).loc Cert.MergeIdeal.main_v22_6) = v6 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v52) = v0 c
          ∧ r.2.mem ((c.tc : Thread Cert.MergeReferenceIdeal.nD Cert.MergeReferenceIdeal.τ).loc Cert.MergeReferenceIdeal.main_v98) = v1 c
          ∧ r.2.mem ((c.tc : Thread Cert.MergeReferenceIdeal.nD Cert.MergeReferenceIdeal.τ).loc Cert.MergeReferenceIdeal.main_v99) = v2 c
          ∧ r.2.mem ((c.tc : Thread Cert.MergeReferenceIdeal.nD Cert.MergeReferenceIdeal.τ).loc Cert.MergeReferenceIdeal.main_v100) = v3 c
          ∧ r.2.mem ((c.tc : Thread Cert.MergeReferenceIdeal.nD Cert.MergeReferenceIdeal.τ).loc Cert.MergeReferenceIdeal.main_v101) = v4 c
          ∧ r.2.mem ((c.tc : Thread Cert.MergeReferenceIdeal.nD Cert.MergeReferenceIdeal.τ).loc Cert.MergeReferenceIdeal.main_v102) = v5 c
          ∧ r.2.mem ((c.tc : Thread Cert.MergeReferenceIdeal.nD Cert.MergeReferenceIdeal.τ).loc Cert.MergeReferenceIdeal.main_v103) = v6 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hWeight : Cert.Weight.Facts) (hWeightIdeal : Cert.WeightIdeal.Facts) (hWeightReferenceIdeal : Cert.WeightReferenceIdeal.Facts) (hInput : Cert.Input.Facts) (hInputIdeal : Cert.InputIdeal.Facts) (hInputReferenceIdeal : Cert.InputReferenceIdeal.Facts) (hMerge : Cert.Merge.Facts) (hMergeIdeal : Cert.MergeIdeal.Facts) (hMergeReferenceIdeal : Cert.MergeReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Weight (hWeight := hWeight)
    ∧ quiescent_WeightIdeal (hWeightIdeal := hWeightIdeal)
    ∧ quiescent_WeightReferenceIdeal (hWeightReferenceIdeal := hWeightReferenceIdeal)
    ∧ quiescent_Input (hInput := hInput)
    ∧ quiescent_InputIdeal (hInputIdeal := hInputIdeal)
    ∧ quiescent_InputReferenceIdeal (hInputReferenceIdeal := hInputReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_Weight_WeightIdeal
    ∧ algebraic_WeightIdeal_WeightReferenceIdeal (hWeightIdeal := hWeightIdeal) (hWeightReferenceIdeal := hWeightReferenceIdeal)
    ∧ preserves_Input_InputIdeal
    ∧ algebraic_InputIdeal_InputReferenceIdeal (hInputIdeal := hInputIdeal) (hInputReferenceIdeal := hInputReferenceIdeal)
    ∧ preserves_Merge_MergeIdeal
    ∧ algebraic_MergeIdeal_MergeReferenceIdeal (hMergeIdeal := hMergeIdeal) (hMergeReferenceIdeal := hMergeReferenceIdeal)
-- ==== Pre_finite.lean ====
abbrev S4096x1024 : Shape := ⟨2, ![4096, 1024]⟩
abbrev S4x256x256 : Shape := ⟨3, ![4, 256, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S5377x1024 : Shape := ⟨2, ![5377, 1024]⟩
abbrev S_ : Shape := ⟨0, ![]⟩

class Facts : Prop where
  shapeCasts_S4x256x256_S256x1024 : S4x256x256.ShapeCasts S256x1024
  shapeCasts_S1024_S1x1024 : S1024.ShapeCasts S1x1024
  concatenates_S4096x1024_S1024x1024_S256x1024_S1x1024_S5377x1024_d0 : Shape.Concatenates [S4096x1024, S1024x1024, S256x1024, S1x1024] S5377x1024 0
  bcast_S_S5377x1024 : S_.BroadcastsInDim S5377x1024 (![] : Fin 0 → Fin S5377x1024.rank)

variable [Facts]

def fn {F : FTy → Type} [FloatOps F] (main_arg0 : FVec F S4096x1024 .f32) (main_arg1 : FVec F S4x256x256 .f32) (main_arg2 : FVec F S1024 .f32) (main_arg3 : FVec F S1024x1024 .f32) (main_arg4 : FVec F S4096x1024 .f32) : IVec S5377x1024 1 :=
  let main_v0 : FVec F S256x1024 .f32 := shapeCast S256x1024 main_arg1 shapeCasts_S4x256x256_S256x1024
  let main_v1 : FVec F S1x1024 .f32 := shapeCast S1x1024 main_arg2 shapeCasts_S1024_S1x1024
  let main_v2 : FVec F S5377x1024 .f32 := concatenate S5377x1024 0 [⟨S4096x1024, main_arg4⟩, ⟨S1024x1024, main_arg3⟩, ⟨S256x1024, main_v0⟩, ⟨S1x1024, main_v1⟩] concatenates_S4096x1024_S1024x1024_S256x1024_S1x1024_S5377x1024_d0
  let main_v3 : FVec F S5377x1024 .f32 := Host.absf main_v2
  let main_cst : FVec F S_ .f32 := constant S_ .f32 0x7F800000#32
  let main_v4 : FVec F S5377x1024 .f32 := broadcastInDim S5377x1024 ![] bcast_S_S5377x1024 main_cst
  let main_v5 : IVec S5377x1024 1 := cmpf .olt main_v3 main_v4
  main_v5
-- ==== Kernel.lean ====
abbrev S4096x1024 : Shape := ⟨2, ![4096, 1024]⟩
abbrev S4x256x256 : Shape := ⟨3, ![4, 256, 256]⟩
abbrev S1024 : Shape := ⟨1, ![1024]⟩
abbrev S1024x1024 : Shape := ⟨2, ![1024, 1024]⟩
abbrev S4096x4x256 : Shape := ⟨3, ![4096, 4, 256]⟩
abbrev S_ : Shape := ⟨0, ![]⟩
abbrev S4096 : Shape := ⟨1, ![4096]⟩
abbrev S4096x1x256 : Shape := ⟨3, ![4096, 1, 256]⟩
abbrev S4096x256 : Shape := ⟨2, ![4096, 256]⟩
abbrev S2x256 : Shape := ⟨2, ![2, 256]⟩
abbrev S4094x256 : Shape := ⟨2, ![4094, 256]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x4096 : Shape := ⟨3, ![4, 256, 4096]⟩
abbrev S1x1024 : Shape := ⟨2, ![1, 1024]⟩
abbrev S8x128 : Shape := ⟨2, ![8, 128]⟩
abbrev S512x1024 : Shape := ⟨2, ![512, 1024]⟩
abbrev S544x1024 : Shape := ⟨2, ![544, 1024]⟩
abbrev S32x1024 : Shape := ⟨2, ![32, 1024]⟩
abbrev S512x256 : Shape := ⟨2, ![512, 256]⟩
abbrev S1x256x256 : Shape := ⟨3, ![1, 256, 256]⟩
abbrev S256x256 : Shape := ⟨2, ![256, 256]⟩
abbrev S512x1 : Shape := ⟨2, ![512, 1]⟩
abbrev S544x256 : Shape := ⟨2, ![544, 256]⟩

abbrev nBuf : Space → Nat
  | .hbm => 91
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S1024, .f32⟩
  | .hbm, ⟨3, _⟩ => ⟨S1024x1024, .f32⟩
  | .hbm, ⟨4, _⟩ => ⟨S4096x1024, .f32⟩
  | .hbm, ⟨5, _⟩ => ⟨S4096x4x256, .f32⟩
  | .hbm, ⟨6, _⟩ => ⟨S_, .f32⟩
  | .hbm, ⟨7, _⟩ => ⟨S_, .f32⟩
  | .hbm, ⟨8, _⟩ => ⟨S4096x4x256, .f32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096x1x256, .f32⟩
  | .hbm, ⟨14, _⟩ => ⟨S4096x256, .f32⟩
  | .hbm, ⟨15, _⟩ => ⟨S_, .f32⟩
  | .hbm, ⟨16, _⟩ => ⟨S2x256, .f32⟩
  | .hbm, ⟨17, _⟩ => ⟨S4094x256, .f32⟩
  | .hbm, ⟨18, _⟩ => ⟨S4096x256, .f32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .f32⟩
  | .hbm, ⟨23, _⟩ => ⟨S4096x1, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x1x256, .f32⟩
  | .hbm, ⟨28, _⟩ => ⟨S4096x256, .f32⟩
  | .hbm, ⟨29, _⟩ => ⟨S_, .f32⟩
  | .hbm, ⟨30, _⟩ => ⟨S4x256, .f32⟩
  | .hbm, ⟨31, _⟩ => ⟨S4092x256, .f32⟩
  | .hbm, ⟨32, _⟩ => ⟨S4096x256, .f32⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .f32⟩
  | .hbm, ⟨37, _⟩ => ⟨S4096x1, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S4096x1x256, .f32⟩
  | .hbm, ⟨42, _⟩ => ⟨S4096x256, .f32⟩
  | .hbm, ⟨43, _⟩ => ⟨S_, .f32⟩
  | .hbm, ⟨44, _⟩ => ⟨S8x256, .f32⟩
  | .hbm, ⟨45, _⟩ => ⟨S4088x256, .f32⟩
  | .hbm, ⟨46, _⟩ => ⟨S4096x256, .f32⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .f32⟩
  | .hbm, ⟨51, _⟩ => ⟨S4096x1, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S4096x1x256, .f32⟩
  | .hbm, ⟨56, _⟩ => ⟨S4096x256, .f32⟩
  | .hbm, ⟨57, _⟩ => ⟨S_, .f32⟩
  | .hbm, ⟨58, _⟩ => ⟨S16x256, .f32⟩
  | .hbm, ⟨59, _⟩ => ⟨S4080x256, .f32⟩
  | .hbm, ⟨60, _⟩ => ⟨S4096x256, .f32⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .f32⟩
  | .hbm, ⟨65, _⟩ => ⟨S4096x1, .f32⟩
  | .hbm, ⟨66, _⟩ => ⟨S4096x256, .f32⟩
  | .hbm, ⟨67, _⟩ => ⟨S4096x256, .f32⟩
  | .hbm, ⟨68, _⟩ => ⟨S4096x256, .f32⟩
  | .hbm, ⟨69, _⟩ => ⟨S4096x1x256, .f32⟩
  | .hbm, ⟨70, _⟩ => ⟨S4096x1x256, .f32⟩
  | .hbm, ⟨71, _⟩ => ⟨S4096x1x256, .f32⟩
  | .hbm, ⟨72, _⟩ => ⟨S4096x1x256, .f32⟩
  | .hbm, ⟨73, _⟩ => ⟨S4096x4x256, .f32⟩
  | .hbm, ⟨74, _⟩ => ⟨S4096x4x256, .f32⟩
  | .hbm, ⟨75, _⟩ => ⟨S4x256x4096, .f32⟩
  | .hbm, ⟨76, _⟩ => ⟨S4096x4x256, .f32⟩
  | .hbm, ⟨77, _⟩ => ⟨S4096x1024, .f32⟩
  | .hbm, ⟨78, _⟩ => ⟨S4096x1024, .bf16⟩
  | .hbm, ⟨79, _⟩ => ⟨S4096x1024, .bf16⟩
  | .hbm, ⟨80, _⟩ => ⟨S4096x1024, .f32⟩
  | .hbm, ⟨81, _⟩ => ⟨S4096x1024, .bf16⟩
  | .hbm, ⟨82, _⟩ => ⟨S4x256x256, .bf16⟩
  | .hbm, ⟨83, _⟩ => ⟨S1x1024, .f32⟩
  | .hbm, ⟨84, _⟩ => ⟨S1024x1024, .bf16⟩
  | .hbm, ⟨85, _⟩ => ⟨S_, .f32⟩
  | .hbm, ⟨86, _⟩ => ⟨S8x128, .f32⟩
  | .hbm, ⟨87, _⟩ => ⟨S4096x1024, .bf16⟩
  | .hbm, ⟨88, _⟩ => ⟨S1024x1024, .bf16⟩
  | .hbm, ⟨89, _⟩ => ⟨S4x256x256, .bf16⟩
  | .hbm, ⟨90, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S4x256x256, .bf16⟩
  | .local _ .vmem, ⟨7, _⟩ => ⟨S1x1024, .f32⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S4x256x256, .bf16⟩
  | .local _ .vmem, ⟨13, _⟩ => ⟨S1x1024, .f32⟩
  | .local _ .vmem, ⟨14, _⟩ => ⟨S544x1024, .f32⟩
  | .local _ .vmem, ⟨15, _⟩ => ⟨S1024x1024, .f32⟩
  | .local _ .vmem, ⟨16, _⟩ => ⟨S4x256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70_0 : Ref sig .tc := ⟨.hbm, 87, rfl⟩
abbrev main_v70_1 : Ref sig .tc := ⟨.hbm, 88, rfl⟩
abbrev main_v70_2 : Ref sig .tc := ⟨.hbm, 89, rfl⟩
abbrev main_v70_3 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond15 (i : grid0.Coords) : BitVec 1 :=
  let arg0 : BitVec 32 := BitVec.ofNat 32 (i 0).val
  let c7_i32_100 : BitVec 32 := 7#32
  let v199 : BitVec 1 := Scalar.cmpi .eq arg0 c7_i32_100
  let v200 : BitVec 32 := Scalar.extui v199
  let c0_i32_101 : BitVec 32 := 0#32
  let v201 : BitVec 1 := Scalar.cmpi .ne v200 c0_i32_101
  v201

def k0_cond3 (i : grid0.Coords) : BitVec 1 :=
  let arg0 : BitVec 32 := BitVec.ofNat 32 (i 0).val
  let c0_i32 : BitVec 32 := 0#32
  let v1 : BitVec 1 := Scalar.cmpi .eq arg0 c0_i32
  let v24 : BitVec 32 := Scalar.extui v1
  let c0_i32_11 : BitVec 32 := 0#32
  let v25 : BitVec 1 := Scalar.cmpi .ne v24 c0_i32_11
  v25

def k0_cond4 (i : grid0.Coords) : BitVec 1 :=
  let arg0 : BitVec 32 := BitVec.ofNat 32 (i 0).val
  let c0_i32 : BitVec 32 := 0#32
  let v1 : BitVec 1 := Scalar.cmpi .eq arg0 c0_i32
  let true_12 : BitVec 1 := 1#1
  let v26 : BitVec 1 := Scalar.xori v1 true_12
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x1024 : Shape := ⟨2, ![4096, 1024]⟩
abbrev S4x256x256 : Shape := ⟨3, ![4, 256, 256]⟩
abbrev S1024 : Shape := ⟨1, ![1024]⟩
abbrev S1024x1024 : Shape := ⟨2, ![1024, 1024]⟩
abbrev S4096x4x256 : Shape := ⟨3, ![4096, 4, 256]⟩
abbrev S_ : Shape := ⟨0, ![]⟩
abbrev S4096 : Shape := ⟨1, ![4096]⟩
abbrev S4096x1x256 : Shape := ⟨3, ![4096, 1, 256]⟩
abbrev S4096x256 : Shape := ⟨2, ![4096, 256]⟩
abbrev S2x256 : Shape := ⟨2, ![2, 256]⟩
abbrev S4094x256 : Shape := ⟨2, ![4094, 256]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x4096 : Shape := ⟨3, ![4, 256, 4096]⟩
abbrev S1x1024 : Shape := ⟨2, ![1, 1024]⟩
abbrev S4x4096x256 : Shape := ⟨3, ![4, 4096, 256]⟩

abbrev nBuf : Space → Nat
  | .hbm => 172
  | .vmem => 0
  | .smem => 0
  | _ => 0

abbrev hbmTy0_0 (i : Nat) : BufTy := match i % 128 with
  | 0 => ⟨S4096x1024, .f32⟩
  | 1 => ⟨S4x256x256, .f32⟩
  | 2 => ⟨S1024, .f32⟩
  | 3 => ⟨S1024x1024, .f32⟩
  | 4 => ⟨S4096x1024, .f32⟩
  | 5 => ⟨S4096x4x256, .f32⟩
  | 6 => ⟨S_, .f32⟩
  | 7 => ⟨S_, .f32⟩
  | 8 => ⟨S4096x4x256, .f32⟩
  | 9 => ⟨S4096, .i32⟩
  | 10 => ⟨S_, .i32⟩
  | 11 => ⟨S4096, .i32⟩
  | 12 => ⟨S4096, .i32⟩
  | 13 => ⟨S4096x1x256, .f32⟩
  | 14 => ⟨S4096x256, .f32⟩
  | 15 => ⟨S_, .f32⟩
  | 16 => ⟨S2x256, .f32⟩
  | 17 => ⟨S4094x256, .f32⟩
  | 18 => ⟨S4096x256, .f32⟩
  | 19 => ⟨S_, .f32⟩
  | 20 => ⟨S2x256, .f32⟩
  | 21 => ⟨S_, .i32⟩
  | 22 => ⟨S4096, .i32⟩
  | 23 => ⟨S4096, .i32⟩
  | 24 => ⟨S4096, .f32⟩
  | 25 => ⟨S4096x1, .f32⟩
  | 26 => ⟨S4096x256, .f32⟩
  | 27 => ⟨S4096x256, .f32⟩
  | 28 => ⟨S4096x256, .f32⟩
  | 29 => ⟨S4096x1x256, .f32⟩
  | 30 => ⟨S4096x256, .f32⟩
  | 31 => ⟨S_, .f32⟩
  | 32 => ⟨S4x256, .f32⟩
  | 33 => ⟨S4092x256, .f32⟩
  | 34 => ⟨S4096x256, .f32⟩
  | 35 => ⟨S_, .f32⟩
  | 36 => ⟨S4x256, .f32⟩
  | 37 => ⟨S_, .i32⟩
  | 38 => ⟨S4096, .i32⟩
  | 39 => ⟨S4096, .i32⟩
  | 40 => ⟨S4096, .f32⟩
  | 41 => ⟨S4096x1, .f32⟩
  | 42 => ⟨S4096x256, .f32⟩
  | 43 => ⟨S4096x256, .f32⟩
  | 44 => ⟨S4096x256, .f32⟩
  | 45 => ⟨S4096x1x256, .f32⟩
  | 46 => ⟨S4096x256, .f32⟩
  | 47 => ⟨S_, .f32⟩
  | 48 => ⟨S8x256, .f32⟩
  | 49 => ⟨S4088x256, .f32⟩
  | 50 => ⟨S4096x256, .f32⟩
  | 51 => ⟨S_, .f32⟩
  | 52 => ⟨S8x256, .f32⟩
  | 53 => ⟨S_, .i32⟩
  | 54 => ⟨S4096, .i32⟩
  | 55 => ⟨S4096, .i32⟩
  | 56 => ⟨S4096, .f32⟩
  | 57 => ⟨S4096x1, .f32⟩
  | 58 => ⟨S4096x256, .f32⟩
  | 59 => ⟨S4096x256, .f32⟩
  | 60 => ⟨S4096x256, .f32⟩
  | 61 => ⟨S4096x1x256, .f32⟩
  | 62 => ⟨S4096x256, .f32⟩
  | 63 => ⟨S_, .f32⟩
  | 64 => ⟨S16x256, .f32⟩
  | 65 => ⟨S4080x256, .f32⟩
  | 66 => ⟨S4096x256, .f32⟩
  | 67 => ⟨S_, .f32⟩
  | 68 => ⟨S16x256, .f32⟩
  | 69 => ⟨S_, .i32⟩
  | 70 => ⟨S4096, .i32⟩
  | 71 => ⟨S4096, .i32⟩
  | 72 => ⟨S4096, .f32⟩
  | 73 => ⟨S4096x1, .f32⟩
  | 74 => ⟨S4096x256, .f32⟩
  | 75 => ⟨S4096x256, .f32⟩
  | 76 => ⟨S4096x256, .f32⟩
  | 77 => ⟨S4096x1x256, .f32⟩
  | 78 => ⟨S4096x1x256, .f32⟩
  | 79 => ⟨S4096x1x256, .f32⟩
  | 80 => ⟨S4096x1x256, .f32⟩
  | 81 => ⟨S4096x4x256, .f32⟩
  | 82 => ⟨S4096x4x256, .f32⟩
  | 83 => ⟨S4x256x4096, .f32⟩
  | 84 => ⟨S4096x4x256, .f32⟩
  | 85 => ⟨S4096x1024, .f32⟩
  | 86 => ⟨S1x1024, .f32⟩
  | 87 => ⟨S4096x1024, .f32⟩
  | 88 => ⟨S4096x1024, .f32⟩
  | 89 => ⟨S4096x1024, .f32⟩
  | 90 => ⟨S1024x1024, .f32⟩
  | 91 => ⟨S1024x1024, .f32⟩
  | 92 => ⟨S4096x1024, .f32⟩
  | 93 => ⟨S4096x1024, .f32⟩
  | 94 => ⟨S_, .f32⟩
  | 95 => ⟨S1024, .f32⟩
  | 96 => ⟨S1x1024, .f32⟩
  | 97 => ⟨S4096x1024, .f32⟩
  | 98 => ⟨S4096x1024, .f32⟩
  | 99 => ⟨S_, .f32⟩
  | 100 => ⟨S1024, .f32⟩
  | 101 => ⟨S4096x4x256, .f32⟩
  | 102 => ⟨S4x256x4096, .f32⟩
  | 103 => ⟨S4x4096x256, .f32⟩
  | 104 => ⟨S4096x4x256, .f32⟩
  | 105 => ⟨S4x256x256, .f32⟩
  | 106 => ⟨S4x256x256, .f32⟩
  | 107 => ⟨S4096x4x256, .f32⟩
  | 108 => ⟨S4096x1x256, .f32⟩
  | 109 => ⟨S4096x256, .f32⟩
  | 110 => ⟨S4096x1x256, .f32⟩
  | 111 => ⟨S4096x256, .f32⟩
  | 112 => ⟨S4096x1x256, .f32⟩
  | 113 => ⟨S4096x256, .f32⟩
  | 114 => ⟨S4096x1x256, .f32⟩
  | 115 => ⟨S4096x256, .f32⟩
  | 116 => ⟨S4096x256, .f32⟩
  | 117 => ⟨S4096x256, .f32⟩
  | 118 => ⟨S4096x256, .f32⟩
  | 119 => ⟨S16x256, .f32⟩
  | 120 => ⟨S4080x256, .f32⟩
  | 121 => ⟨S_, .f32⟩
  | 122 => ⟨S4096x256, .f32⟩
  | 123 => ⟨S4096x256, .f32⟩
  | 124 => ⟨S4096x1x256, .f32⟩
  | 125 => ⟨S_, .f32⟩
  | 126 => ⟨S4096x4x256, .f32⟩
  | 127 => ⟨S4096x256, .f32⟩
  | _ => ⟨S4096x1024, .f32⟩

abbrev hbmTy0_1 (i : Nat) : BufTy := match i % 128 with
  | 0 => ⟨S4096x256, .f32⟩
  | 1 => ⟨S4096x256, .f32⟩
  | 2 => ⟨S8x256, .f32⟩
  | 3 => ⟨S4088x256, .f32⟩
  | 4 => ⟨S_, .f32⟩
  | 5 => ⟨S4096x256, .f32⟩
  | 6 => ⟨S4096x256, .f32⟩
  | 7 => ⟨S4096x1x256, .f32⟩
  | 8 => ⟨S_, .f32⟩
  | 9 => ⟨S4096x4x256, .f32⟩
  | 10 => ⟨S4096x4x256, .f32⟩
  | 11 => ⟨S4096x256, .f32⟩
  | 12 => ⟨S4096x256, .f32⟩
  | 13 => ⟨S4096x256, .f32⟩
  | 14 => ⟨S4x256, .f32⟩
  | 15 => ⟨S4092x256, .f32⟩
  | 16 => ⟨S_, .f32⟩
  | 17 => ⟨S4096x256, .f32⟩
  | 18 => ⟨S4096x256, .f32⟩
  | 19 => ⟨S4096x1x256, .f32⟩
  | 20 => ⟨S_, .f32⟩
  | 21 => ⟨S4096x4x256, .f32⟩
  | 22 => ⟨S4096x4x256, .f32⟩
  | 23 => ⟨S4096x256, .f32⟩
  | 24 => ⟨S4096x256, .f32⟩
  | 25 => ⟨S4096x256, .f32⟩
  | 26 => ⟨S2x256, .f32⟩
  | 27 => ⟨S4094x256, .f32⟩
  | 28 => ⟨S_, .f32⟩
  | 29 => ⟨S4096x256, .f32⟩
  | 30 => ⟨S4096x256, .f32⟩
  | 31 => ⟨S4096x1x256, .f32⟩
  | 32 => ⟨S_, .f32⟩
  | 33 => ⟨S4096x4x256, .f32⟩
  | 34 => ⟨S4096x4x256, .f32⟩
  | 35 => ⟨S_, .f32⟩
  | 36 => ⟨S_, .f32⟩
  | 37 => ⟨S4096x4x256, .f32⟩
  | 38 => ⟨S4096x4x256, .f32⟩
  | 39 => ⟨S4096x1024, .f32⟩
  | 40 => ⟨S4096x1024, .bf16⟩
  | 41 => ⟨S1024x1024, .bf16⟩
  | 42 => ⟨S4x256x256, .bf16⟩
  | 43 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_c_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_11 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_12 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_13 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_14 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_15 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_16 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_cst_17 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_cst_18 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_19 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_cst_20 : Ref sig .tc := ⟨.hbm, 160, rfl⟩
abbrev main_v131 : Ref sig .tc := ⟨.hbm, 161, rfl⟩
abbrev main_v132 : Ref sig .tc := ⟨.hbm, 162, rfl⟩
abbrev main_call1_call0_cst : Ref sig .tc := ⟨.hbm, 163, rfl⟩
abbrev main_call1_call0_v0 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩

abbrev nD : Nat := 1
abbrev τ : Topo := Topo.v7x

variable {F : FTy → Type} [FloatOps F]
-- ==== Mlp.lean ====
abbrev S4096x1024 : Shape := ⟨2, ![4096, 1024]⟩
abbrev S1024x4096 : Shape := ⟨2, ![1024, 4096]⟩
abbrev S1024x1024 : Shape := ⟨2, ![1024, 1024]⟩
abbrev S1024x512 : Shape := ⟨2, ![1024, 512]⟩
abbrev S512x1024 : Shape := ⟨2, ![512, 1024]⟩
abbrev S4 : Shape := ⟨1, ![4]⟩
abbrev S1 : Shape := ⟨1, ![1]⟩
abbrev S_ : Shape := ⟨0, ![]⟩

abbrev nBuf : Space → Nat
  | .hbm => 11
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S4096x1024, .bf16⟩
  | .hbm, ⟨5, _⟩ => ⟨S4096x1024, .bf16⟩
  | .hbm, ⟨6, _⟩ => ⟨S1024x4096, .bf16⟩
  | .hbm, ⟨7, _⟩ => ⟨S4096x1024, .bf16⟩
  | .hbm, ⟨8, _⟩ => ⟨S4096x1024, .f32⟩
  | .hbm, ⟨9, _⟩ => ⟨S1024x4096, .bf16⟩
  | .hbm, ⟨10, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .bf16⟩
  | .local _ .vmem, ⟨12, _⟩ => ⟨S4096x1024, .f32⟩
  | .local _ .vmem, ⟨13, _⟩ => ⟨S1024x512, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v16 : BitVec 32 := Scalar.muli arg1 c1024_i32
  v16
def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_13 : BitVec 32 := 0#32
  let v23 : BitVec 1 := Scalar.cmpi .ne v22 c0_i32_13
  v23

def k0_off1 (i : grid0.Coords) : Fin 2 → Nat :=
  let arg1 : BitVec 32 := BitVec.ofNat 32 (i 1).val
  let c1024_i32 : BitVec 32 := 1024#32
  let v16 : BitVec 32 := Scalar.muli arg1 c1024_i32
  let v17 : BitVec 32 := v16
  let v47 : Index := Scalar.indexCast v17
  let c0_26 : Index := 0#32
  ![v47.toNat, 0]
def k0_cond2 (i : grid0.Coords) : BitVec 1 :=
  let arg0 : BitVec 32 := BitVec.ofNat 32 (i 0).val
  let c0_i32_14 : BitVec 32 := 0#32
  let v24 : BitVec 1 := Scalar.cmpi .sgt arg0 c0_i32_14
  let v25 : BitVec 32 := Scalar.extui v24
  let c0_i32_15 : BitVec 32 := 0#32
  let v26 : BitVec 1 := Scalar.cmpi .ne v25 c0_i32_15
  v26

def k0_off2 (i : grid0.Coords) : Fin 2 → Nat :=
  let arg1 : BitVec 32 := BitVec.ofNat 32 (i 1).val
  let c1024_i32 : BitVec 32 := 1024#32
  let v16 : BitVec 32 := Scalar.muli arg1 c1024_i32
  let v17 : BitVec 32 := v16
  let v47 : Index := Scalar.indexCast v17
  let c0_26 : Index := 0#32
  ![v47.toNat, 0]
def k0_cond6 (i : grid0.Coords) : BitVec 1 :=
  let arg0 : BitVec 32 := BitVec.ofNat 32 (i 0).val
  let c7_i32 : BitVec 32 := 7#32
  let v40 : BitVec 1 := Scalar.cmpi .eq arg0 c7_i32
  let v41 : BitVec 32 := Scalar.extui v40
  let c0_i32_23 : BitVec 32 := 0#32
  let v42 : BitVec 1 := Scalar.cmpi .ne v41 c0_i32_23
  v42

def k0_off3 (i : grid0.Coords) : Fin 1 → Nat :=
  let arg1 : BitVec 32 := BitVec.ofNat 32 (i 1).val
  ![arg1.toNat]
def k0_off4 (i : grid0.Coords) : Fin 2 → Nat :=
  let arg1 : BitVec 32 := BitVec.ofNat 32 (i 1).val
  let c1024_i32 : BitVec 32 := 1024#32
  let v16 : BitVec 32 := Scalar.muli arg1 c1024_i32
  let v17 : BitVec 32 := v16
  let c0_i32_26 : BitVec 32 := 0#32
  ![v17.toNat, 0]
def k0_cond5 (i : grid0.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_22 : BitVec 32 := 0#32
  let v39 : BitVec 1 := Scalar.cmpi .ne v38 c0_i32_22
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S1024x4096, .f32⟩
  | .hbm, ⟨19, _⟩ => ⟨S4096x1024, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x1024, .f32⟩
  | .hbm, ⟨26, _⟩ => ⟨S1024x4096, .f32⟩
  | .hbm, ⟨27, _⟩ => ⟨S4096x1024, .f32⟩
  | .hbm, ⟨28, _⟩ => ⟨S1024x4096, .bf16⟩
  | .hbm, ⟨29, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Weight.lean ====
abbrev S4096x1024 : Shape := ⟨2, ![4096, 1024]⟩
abbrev S4096x2048 : Shape := ⟨2, ![4096, 2048]⟩
abbrev S1024x4096 : Shape := ⟨2, ![1024, 4096]⟩
abbrev S_ : Shape := ⟨0, ![]⟩
abbrev S8x128 : Shape := ⟨2, ![8, 128]⟩
abbrev S1024x5120 : Shape := ⟨2, ![1024, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x2048, .f32⟩
  | .hbm, ⟨4, _⟩ => ⟨S1024x4096, .f32⟩
  | .hbm, ⟨5, _⟩ => ⟨S1024x4096, .bf16⟩
  | .hbm, ⟨6, _⟩ => ⟨S4096x2048, .bf16⟩
  | .hbm, ⟨7, _⟩ => ⟨S4096x1024, .bf16⟩
  | .hbm, ⟨8, _⟩ => ⟨S4096x2048, .bf16⟩
  | .hbm, ⟨9, _⟩ => ⟨S_, .f32⟩
  | .hbm, ⟨10, _⟩ => ⟨S8x128, .f32⟩
  | .hbm, ⟨11, _⟩ => ⟨S1024x5120, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 2], ![false, false]⟩

def k0_cond10 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 arg1 c0_i32
  let c1_i32 : BitVec 32 := 1#32
  let v2 : BitVec 32 := Scalar.minsi arg0 c1_i32
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sgt arg0 c2_i32
  let c0_i32 : BitVec 32 := 0#32
  let v1 : BitVec 32 := Scalar.select v0 arg1 c0_i32
  let c3_i32 : BitVec 32 := 3#32
  let v2 : BitVec 32 := Scalar.subi arg0 c3_i32
  let c0_i32_0 : BitVec 32 := 0#32
  let v3 : BitVec 32 := Scalar.maxsi v2 c0_i32_0
  let c0_i32_1 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== WeightReferenceIdeal.lean ====
abbrev S4096x1024 : Shape := ⟨2, ![4096, 1024]⟩
abbrev S4096x2048 : Shape := ⟨2, ![4096, 2048]⟩
abbrev S_ : Shape := ⟨0, ![]⟩
abbrev S1024x5120 : Shape := ⟨2, ![1024, 5120]⟩
abbrev S4096x5120 : Shape := ⟨2, ![4096, 5120]⟩
abbrev S5120x1024 : Shape := ⟨2, ![5120, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S1024x5120, .f32⟩
  | .hbm, ⟨6, _⟩ => ⟨S4096x5120, .f32⟩
  | .hbm, ⟨7, _⟩ => ⟨S4096x5120, .f32⟩
  | .hbm, ⟨8, _⟩ => ⟨S5120x1024, .f32⟩
  | .hbm, ⟨9, _⟩ => ⟨S1024x5120, .f32⟩
  | .hbm, ⟨10, _⟩ => ⟨S4096x1024, .f32⟩
  | .hbm, ⟨11, _⟩ => ⟨S1024x5120, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Input.lean ====
abbrev S4096x2048 : Shape := ⟨2, ![4096, 2048]⟩
abbrev S4096x1024 : Shape := ⟨2, ![4096, 1024]⟩
abbrev S1024x5120 : Shape := ⟨2, ![1024, 5120]⟩
abbrev S1024 : Shape := ⟨1, ![1024]⟩
abbrev S1x1024 : Shape := ⟨2, ![1, 1024]⟩
abbrev S_ : Shape := ⟨0, ![]⟩
abbrev S8x128 : Shape := ⟨2, ![8, 128]⟩
abbrev S512x2048 : Shape := ⟨2, ![512, 2048]⟩
abbrev S512x1024 : Shape := ⟨2, ![512, 1024]⟩
abbrev S1024x2048 : Shape := ⟨2, ![1024, 2048]⟩
abbrev S1024x1024 : Shape := ⟨2, ![1024, 1024]⟩
abbrev S512 : Shape := ⟨1, ![512]⟩
abbrev S512x1 : Shape := ⟨2, ![512, 1]⟩

abbrev nBuf : Space → Nat
  | .hbm => 16
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .f32⟩
  | .hbm, ⟨3, _⟩ => ⟨S1024x5120, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S4096x2048, .bf16⟩
  | .hbm, ⟨8, _⟩ => ⟨S4096x1024, .bf16⟩
  | .hbm, ⟨9, _⟩ => ⟨S4096x2048, .bf16⟩
  | .hbm, ⟨10, _⟩ => ⟨S1024x5120, .bf16⟩
  | .hbm, ⟨11, _⟩ => ⟨S1x1024, .f32⟩
  | .hbm, ⟨12, _⟩ => ⟨S_, .f32⟩
  | .hbm, ⟨13, _⟩ => ⟨S8x128, .f32⟩
  | .hbm, ⟨14, _⟩ => ⟨S4096x1024, .f32⟩
  | .hbm, ⟨15, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S1024x5120, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_28 : BitVec 32 := 0#32
  let v60 : BitVec 1 := Scalar.cmpi .ne v59 c0_i32_28
  v60

def k0_cond2 (i : grid0.Coords) : BitVec 1 :=
  let arg0 : BitVec 32 := BitVec.ofNat 32 (i 0).val
  let c0_i32 : BitVec 32 := 0#32
  let v58 : BitVec 1 := Scalar.cmpi .eq arg0 c0_i32
  let v_true : BitVec 1 := 1#1
  let v61 : BitVec 1 := Scalar.xori v58 v_true
  let v62 : BitVec 32 := Scalar.extui v61
  let c0_i32_29 : BitVec 32 := 0#32
  let v63 : BitVec 1 := Scalar.cmpi .ne v62 c0_i32_29
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InputReferenceIdeal.lean ====
abbrev S4096x2048 : Shape := ⟨2, ![4096, 2048]⟩
abbrev S4096x1024 : Shape := ⟨2, ![4096, 1024]⟩
abbrev S1024x5120 : Shape := ⟨2, ![1024, 5120]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5120 : Shape := ⟨2, ![4096, 5120]⟩
abbrev S5120x1024 : Shape := ⟨2, ![5120, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .f32⟩
  | .hbm, ⟨3, _⟩ => ⟨S1024x5120, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x5120, .f32⟩
  | .hbm, ⟨28, _⟩ => ⟨S4096x5120, .f32⟩
  | .hbm, ⟨29, _⟩ => ⟨S5120x1024, .f32⟩
  | .hbm, ⟨30, _⟩ => ⟨S1024x5120, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Merge.lean ====
abbrev S4096x1024 : Shape := ⟨2, ![4096, 1024]⟩
abbrev S1024 : Shape := ⟨1, ![1024]⟩
abbrev S1024x1024 : Shape := ⟨2, ![1024, 1024]⟩
abbrev S4096x5120 : Shape := ⟨2, ![4096, 5120]⟩
abbrev S4096x2048 : Shape := ⟨2, ![4096, 2048]⟩
abbrev S_ : Shape := ⟨0, ![]⟩
abbrev S1x1024 : Shape := ⟨2, ![1, 1024]⟩
abbrev S8x128 : Shape := ⟨2, ![8, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 41
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S4096x5120, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S1x1024, .f32⟩
  | .hbm, ⟨25, _⟩ => ⟨S4096x1024, .f32⟩
  | .hbm, ⟨26, _⟩ => ⟨S1x1024, .f32⟩
  | .hbm, ⟨27, _⟩ => ⟨S1024x1024, .bf16⟩
  | .hbm, ⟨28, _⟩ => ⟨S4096x1024, .bf16⟩
  | .hbm, ⟨29, _⟩ => ⟨S4096x5120, .bf16⟩
  | .hbm, ⟨30, _⟩ => ⟨S4096x1024, .bf16⟩
  | .hbm, ⟨31, _⟩ => ⟨S4096x1024, .bf16⟩
  | .hbm, ⟨32, _⟩ => ⟨S_, .f32⟩
  | .hbm, ⟨33, _⟩ => ⟨S8x128, .f32⟩
  | .hbm, ⟨34, _⟩ => ⟨S4096x1024, .f32⟩
  | .hbm, ⟨35, _⟩ => ⟨S4096x1024, .bf16⟩
  | .hbm, ⟨36, _⟩ => ⟨S4096x1024, .bf16⟩
  | .hbm, ⟨37, _⟩ => ⟨S4096x2048, .bf16⟩
  | .hbm, ⟨38, _⟩ => ⟨S1024x1024, .bf16⟩
  | .hbm, ⟨39, _⟩ => ⟨S1x1024, .f32⟩
  | .hbm, ⟨40, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1024x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x2048, .bf16⟩
  | .local _ .vmem, ⟨28, _⟩ => ⟨S256x2048, .bf16⟩
  | .local _ .vmem, ⟨29, _⟩ => ⟨S1024x1024, .bf16⟩
  | .local _ .vmem, ⟨30, _⟩ => ⟨S1x1024, .f32⟩
  | .local _ .vmem, ⟨31, _⟩ => ⟨S1x1024, .f32⟩
  | .local _ .vmem, ⟨32, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v22_3 : Ref sig .tc := ⟨.hbm, 37, rfl⟩
abbrev main_v22_4 : Ref sig .tc := ⟨.hbm, 38, rfl⟩
abbrev main_v22_5 : Ref sig .tc := ⟨.hbm, 39, rfl⟩
abbrev main_v22_6 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨1, ![16], ![false]⟩

def k0_cond7 (i : grid0.Coords) : BitVec 1 :=
  let arg0 : BitVec 32 := BitVec.ofNat 32 (i 0).val
  let c15_i32 : BitVec 32 := 15#32
  let v148 : BitVec 1 := Scalar.cmpi .eq arg0 c15_i32
  let v149 : BitVec 32 := Scalar.extui v148
  let c0_i32_63 : BitVec 32 := 0#32
  let v150 : BitVec 1 := Scalar.cmpi .ne v149 c0_i32_63
  v150

def k0_cond1 (i : grid0.Coords) : BitVec 1 :=
  let arg0 : BitVec 32 := BitVec.ofNat 32 (i 0).val
  let c0_i32 : BitVec 32 := 0#32
  let v82 : BitVec 1 := Scalar.cmpi .eq arg0 c0_i32
  let v83 : BitVec 32 := Scalar.extui v82
  let c0_i32_30 : BitVec 32 := 0#32
  let v84 : BitVec 1 := Scalar.cmpi .ne v83 c0_i32_30
  v84

def k0_cond2 (i : grid0.Coords) : BitVec 1 :=
  let arg0 : BitVec 32 := BitVec.ofNat 32 (i 0).val
  let c0_i32 : BitVec 32 := 0#32
  let v82 : BitVec 1 := Scalar.cmpi .eq arg0 c0_i32
  let v_true : BitVec 1 := 1#1
  let v85 : BitVec 1 := Scalar.xori v82 v_true
  let v86 : BitVec 32 := Scalar.extui v85
  let c0_i32_31 : BitVec 32 := 0#32
  let v87 : BitVec 1 := Scalar.cmpi .ne v86 c0_i32_31
  v87

def k0_cond3 (i : grid0.Coords) : BitVec 1 :=
  let arg0 : BitVec 32 := BitVec.ofNat 32 (i 0).val
  let c0_i32_32 : BitVec 32 := 0#32
  let v88 : BitVec 1 := Scalar.cmpi .eq arg0 c0_i32_32
  let v89 : BitVec 32 := Scalar.extui v88
  let c0_i32_33 : BitVec 32 := 0#32
  let v90 : BitVec 1 := Scalar.cmpi .ne v89 c0_i32_33
  v90

def k0_cond4 (i : grid0.Coords) : BitVec 1 :=
  let arg0 : BitVec 32 := BitVec.ofNat 32 (i 0).val
  let c0_i32_32 : BitVec 32 := 0#32
  let v88 : BitVec 1 := Scalar.cmpi .eq arg0 c0_i32_32
  let true_34 : BitVec 1 := 1#1
  let v91 : BitVec 1 := Scalar.xori v88 true_34
  let v92 : BitVec 32 := Scalar.extui v91
  let c0_i32_35 : BitVec 32 := 0#32
  let v93 : BitVec 1 := Scalar.cmpi .ne v92 c0_i32_35
  v93

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MergeReferenceIdeal.lean ====
abbrev S4096x1024 : Shape := ⟨2, ![4096, 1024]⟩
abbrev S1024 : Shape := ⟨1, ![1024]⟩
abbrev S1024x1024 : Shape := ⟨2, ![1024, 1024]⟩
abbrev S4096x5120 : Shape := ⟨2, ![4096, 5120]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 134
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S1024, .f32⟩
  | 4 => ⟨S1024, .f32⟩
  | 5 => ⟨S1024x1024, .f32⟩
  | 6 => ⟨S4096x5120, .f32⟩
  | 7 => ⟨S4096x1024, .f32⟩
  | 8 => ⟨S4096x1024, .f32⟩
  | 9 => ⟨S4096x2048, .f32⟩
  | 10 => ⟨S4096x2048, .f32⟩
  | 11 => ⟨S4096x2048, .f32⟩
  | 12 => ⟨S_, .f32⟩
  | 13 => ⟨S4096x2048, .f32⟩
  | 14 => ⟨S4096x2048, .f32⟩
  | 15 => ⟨S_, .f32⟩
  | 16 => ⟨S4096x2048, .f32⟩
  | 17 => ⟨S4096x2048, .f32⟩
  | 18 => ⟨S_, .f32⟩
  | 19 => ⟨S4096x2048, .f32⟩
  | 20 => ⟨S4096x2048, .f32⟩
  | 21 => ⟨S4096x2048, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x1024, .f32⟩
  | 44 => ⟨S4096x1024, .f32⟩
  | 45 => ⟨S1x1024, .f32⟩
  | 46 => ⟨S4096x1024, .f32⟩
  | 47 => ⟨S4096x1024, .f32⟩
  | 48 => ⟨S4096x1024, .f32⟩
  | 49 => ⟨S_, .f32⟩
  | 50 => ⟨S1024, .f32⟩
  | 51 => ⟨S1x1024, .f32⟩
  | 52 => ⟨S4096x1024, .f32⟩
  | 53 => ⟨S4096x1024, .f32⟩
  | 54 => ⟨S_, .f32⟩
  | 55 => ⟨S1024, .f32⟩
  | 56 => ⟨S4096x1024, .f32⟩
  | 57 => ⟨S_, .f32⟩
  | 58 => ⟨S4096, .f32⟩
  | 59 => ⟨S4096x1, .f32⟩
  | 60 => ⟨S4096x1024, .f32⟩
  | 61 => ⟨S4096x1024, .f32⟩
  | 62 => ⟨S4096x1, .f32⟩
  | 63 => ⟨S_, .f32⟩
  | 64 => ⟨S4096x1, .f32⟩
  | 65 => ⟨S4096x1, .f32⟩
  | 66 => ⟨S_, .f32⟩
  | 67 => ⟨S4096, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S_, .f32⟩
  | 76 => ⟨S4096, .f32⟩
  | 77 => ⟨S4096x1, .f32⟩
  | 78 => ⟨S_, .f32⟩
  | 79 => ⟨S4096x1, .f32⟩
  | 80 => ⟨S4096x1, .f32⟩
  | 81 => ⟨S_, .f32⟩
  | 82 => ⟨S4096x1, .f32⟩
  | 83 => ⟨S4096x1, .f32⟩
  | 84 => ⟨S4096x1, .f32⟩
  | 85 => ⟨S4096x1, .f32⟩
  | 86 => ⟨S_, .f32⟩
  | 87 => ⟨S4096x1, .f32⟩
  | 88 => ⟨S4096x1, .f32⟩
  | 89 => ⟨S4096x1024, .f32⟩
  | 90 => ⟨S4096x1024, .f32⟩
  | 91 => ⟨S1x1024, .f32⟩
  | 92 => ⟨S4096x1024, .f32⟩
  | 93 => ⟨S4096x1024, .f32⟩
  | 94 => ⟨S4096x1024, .f32⟩
  | 95 => ⟨S_, .f32⟩
  | 96 => ⟨S1024, .f32⟩
  | 97 => ⟨S1x1024, .f32⟩
  | 98 => ⟨S4096x1024, .f32⟩
  | 99 => ⟨S4096x1024, .f32⟩
  | 100 => ⟨S_, .f32⟩
  | 101 => ⟨S1024, .f32⟩
  | 102 => ⟨S4096x1024, .f32⟩
  | 103 => ⟨S_, .f32⟩
  | 104 => ⟨S4096, .f32⟩
  | 105 => ⟨S4096x1, .f32⟩
  | 106 => ⟨S4096x1024, .f32⟩
  | 107 => ⟨S4096x1024, .f32⟩
  | 108 => ⟨S4096x1, .f32⟩
  | 109 => ⟨S_, .f32⟩
  | 110 => ⟨S4096x1, .f32⟩
  | 111 => ⟨S4096x1, .f32⟩
  | 112 => ⟨S_, .f32⟩
  | 113 => ⟨S4096, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S1024x1024, .f32⟩
  | 120 => ⟨S1024x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x2048, .f32⟩
  | 127 => ⟨S4096x2048, .f32⟩
  | _ => ⟨S4096x1024, .f32⟩

abbrev hbmTy0_1 (i : Nat) : BufTy := match i % 128 with
  | 0 => ⟨S4096x1024, .bf16⟩
  | 1 => ⟨S4096x1024, .bf16⟩
  | 2 => ⟨S4096x2048, .bf16⟩
  | 3 => ⟨S1024x1024, .bf16⟩
  | 4 => ⟨S1x1024, .f32⟩
  | 5 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_v75 : Ref sig .tc := ⟨.hbm, 102, rfl⟩
abbrev main_cst_17 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_18 : Ref sig .tc := ⟨.hbm, 109, rfl⟩
abbrev main_v81 : Ref sig .tc := ⟨.hbm, 110, rfl⟩
abbrev main_v82 : Ref sig .tc := ⟨.hbm, 111, rfl⟩
abbrev main_cst_19 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩

abbrev nD : Nat := 1
abbrev τ : Topo := Topo.v7x

variable {F : FTy → Type} [FloatOps F]
-- ==== Proof.Pay.lean ====
module
public import proofs.«01_k».proof.Proof.Gen.KernelIdeal.Skeleton
public import Idealize.ShloMosaic.Lib.Pointwise
public import Idealize.ShloMosaic.Lib.Pipeline.Value
@[expose] public section
set_option maxRecDepth 16384
noncomputable section
/-! What one tile's payloads of the pooling branch's backward kernel hold, element by element, over the extended reals. -/
namespace Cert.PoolVal
open Idealize.ShloMosaic Idealize.ShloMosaic.TcCoe Idealize.SL.Sem
open Cert.KernelIdeal Cert.KernelIdeal.Gen

/-- The group of a column. -/
def grp (j : Fin 1024) : Fin 4 := ⟨j.val / 256, by omega⟩
/-- A column's place inside its group. -/
def off (j : Fin 1024) : Fin 256 := ⟨j.val % 256, by omega⟩
/-- Column `k` of group `g`. -/
def col (g : Fin 4) (k : Fin 256) : Fin 1024 := ⟨256 * g.val + k.val, by omega⟩
/-- The window of a column's group: 2, 4, 8 or 16 rows. -/
def win (j : Fin 1024) : Nat := 2 ^ (j.val / 256 + 1)

theorem grp_col (g : Fin 4) (k : Fin 256) : grp (col g k) = g := Fin.ext (by simp only [grp, col]; omega)
theorem off_col (g : Fin 4) (k : Fin 256) : off (col g k) = k := Fin.ext (by simp only [off, col]; omega)
theorem win_col (g : Fin 4) (k : Fin 256) : win (col g k) = 2 ^ (g.val + 1) := by
  have h : (256 * g.val + k.val) / 256 = g.val := by omega
  simp only [win, col, h]

/-- The gradient of the scaled mixing of one tile's row: the incoming gradient times the output weight, transposed. -/
def bDzs (x0 : Vec Ideal S512x1024 .bf16) (x5 : Vec Ideal S1024x1024 .bf16) (r : Fin 512) (j : Fin 1024) : EReal :=
  ∑ k : Fin 1024, x0 (ix2 r k) * x5 (ix2 j k)
/-- The gradient before the scale. -/
def bDzl (x0 : Vec Ideal S512x1024 .bf16) (x5 : Vec Ideal S1024x1024 .bf16) (x4 : Vec Ideal S1x1024 .f32) (r : Fin 512)
    (j : Fin 1024) : EReal := bDzs x0 x5 r j * x4 (ix2 0 j)
/-- The gradient of the pooled rows: the gradient before the scale times the group's weight, transposed. -/
def bDz (x0 : Vec Ideal S512x1024 .bf16) (x5 : Vec Ideal S1024x1024 .bf16) (x4 : Vec Ideal S1x1024 .f32)
    (x3 : Vec Ideal S4x256x256 .bf16) (r : Fin 512) (g : Fin 4) (d : Fin 256) : EReal :=
  ∑ k : Fin 256, bDzl x0 x5 x4 r (col g k) * x3 (ix3 g d k)

theorem pay7 (x0 : Vec Ideal S512x1024 .bf16) (x5 : Vec Ideal S1024x1024 .bf16) (r : Fin 512) (j : Fin 1024) :
    k0_pay7 x0 x5 (ix2 r j) = bDzs x0 x5 r j := by
  pointwise [k0_pay7, k0_pay5]
  rfl

theorem pay8 (x0 x1 : Vec Ideal S512x1024 .bf16) (x4 : Vec Ideal S1x1024 .f32) (a b : Fin 1024) :
    k0_pay8 x0 x1 x4 (ix2 a b) = ∑ r : Fin 512, x1 (ix2 r a) * x4 (ix2 0 a) * x0 (ix2 r b) := by
  pointwise [k0_pay8, k0_pay5, k0_pay6]

theorem pay11 (x0 x1 : Vec Ideal S512x1024 .bf16) (x5 : Vec Ideal S1024x1024 .bf16) (j : Fin 1024) :
    k0_pay11 x0 x1 x5 (ix2 0 j) = ∑ r : Fin 512, bDzs x0 x5 r j * x1 (ix2 r j) := by
  pointwise [k0_pay11, k0_pay6]
  exact Finset.sum_congr rfl fun r _ => by rw [pay7]

theorem pay13 (x0 : Vec Ideal S512x1024 .bf16) (x5 : Vec Ideal S1024x1024 .bf16) (x4 : Vec Ideal S1x1024 .f32) (r : Fin 512)
    (j : Fin 1024) : k0_pay13 x0 x5 x4 (ix2 r j) = bDzl x0 x5 x4 r j := by
  pointwise [k0_pay13]
  rw [pay7]
  rfl

/-- Group `g`'s weight, as the kernel loads it. -/
abbrev wgt (x3 : Vec Ideal S4x256x256 .bf16) (g : Nat)
    (h : ∀ a, (![g, 0, 0] : Fin 3 → Nat) a + S1x256x256.size a ≤ S4x256x256.size a) : Vec Ideal S1x256x256 .bf16 :=
  View.ld x3 (Rect.unit ![g, 0, 0] S1x256x256.size h)

theorem wgt_apply (x3 : Vec Ideal S4x256x256 .bf16) (g : Fin 4) (h) (a b : Fin 256) :
    wgt x3 g.val h (ix3 0 a b) = x3 (ix3 g a b) :=
  congrArg x3 (funext fun i => Fin.ext (by
    match i with
    | ⟨0, _⟩ => show g.val + 1 * 0 = g.val; omega
    | ⟨1, _⟩ => show 0 + 1 * a.val = a.val; omega
    | ⟨2, _⟩ => show 0 + 1 * b.val = b.val; omega))

/-- The lanes of group `g` of a tile, as the kernel loads them. -/
abbrev lanes (x : Vec Ideal S512x1024 .bf16) (o : Nat)
    (h : ∀ a, (![0, o] : Fin 2 → Nat) a + S512x256.size a ≤ S512x1024.size a) : Vec Ideal S512x256 .bf16 :=
  View.ld x (Rect.unit ![0, o] S512x256.size h)

theorem lanes_apply (x : Vec Ideal S512x1024 .bf16) (g : Fin 4) (o : Nat) (ho : o = 256 * g.val) (h) (r : Fin 512) (d : Fin 256) :
    lanes x o h (ix2 r d) = x (ix2 r (col g d)) :=
  congrArg x (funext fun i => Fin.ext (by
    subst ho
    match i with
    | ⟨0, _⟩ => show 0 + 1 * r.val = r.val; omega
    | ⟨1, _⟩ => show 256 * g.val + 1 * d.val = 256 * g.val + d.val; omega))

/-- The pooled rows' gradient from its two factors as loaded: what each of the four groups' products reads. -/
theorem bDz_of (x0 : Vec Ideal S512x1024 .bf16) (x5 : Vec Ideal S1024x1024 .bf16) (x4 : Vec Ideal S1x1024 .f32)
    (x3 : Vec Ideal S4x256x256 .bf16) (r : Fin 512) (g : Fin 4) (h) (d : Fin 256) (c : Fin 256 → Fin 1024) (hc : ∀ k, c k = col g k) :
    ∑ k : Fin 256, k0_pay13 x0 x5 x4 (ix2 r (c k)) * wgt x3 g.val h (ix3 0 d k) = bDz x0 x5 x4 x3 r g d :=
  Finset.sum_congr rfl fun k _ => by rw [hc, pay13, wgt_apply]

theorem dz0 (x0 x5 x4 x3 h) (r : Fin 512) (d : Fin 256) :
    k0_pay17 (F := Ideal) (k0_pay13 x0 x5 x4) (wgt x3 0 h) (ix2 r d) = bDz x0 x5 x4 x3 r 0 d := by
  pointwise [k0_pay17, k0_pay16]
  exact bDz_of x0 x5 x4 x3 r 0 h d _ fun k => Fin.ext (by simp [col])

theorem dz1 (x0 x5 x4 x3 h) (r : Fin 512) (d : Fin 256) :
    k0_pay23 (F := Ideal) (k0_pay22 (k0_pay13 x0 x5 x4)) (wgt x3 1 h) (ix2 r d) = bDz x0 x5 x4 x3 r 1 d := by
  pointwise [k0_pay22, k0_pay23]
  exact bDz_of x0 x5 x4 x3 r 1 h d _ fun k => Fin.ext (by simp [col])

theorem dz2 (x0 x5 x4 x3 h) (r : Fin 512) (d : Fin 256) :
    k0_pay29 (F := Ideal) (k0_pay13 x0 x5 x4) (wgt x3 2 h) (ix2 r d) = bDz x0 x5 x4 x3 r 2 d := by
  pointwise [k0_pay28, k0_pay29]
  exact bDz_of x0 x5 x4 x3 r 2 h d _ fun k => Fin.ext (by simp [col])

theorem dz3 (x0 x5 x4 x3 h) (r : Fin 512) (d : Fin 256) :
    k0_pay36 (F := Ideal) (k0_pay13 x0 x5 x4) (wgt x3 3 h) (ix2 r d) = bDz x0 x5 x4 x3 r 3 d := by
  pointwise [k0_pay35, k0_pay36]
  exact bDz_of x0 x5 x4 x3 r 3 h d _ fun k => Fin.ext (by simp [col])

theorem toInt_ofNat (n : Nat) (h : n < 2 ^ 31) : (BitVec.ofNat 32 n).toInt = n := by
  rw [BitVec.toInt_eq_toNat_of_lt (by rw [BitVec.toNat_ofNat]; omega), BitVec.toNat_ofNat]
  omega

theorem count_ne (n : Nat) (h : 1 ≤ n) : ((n : ℕ) : EReal) ≠ 0 := by
  exact_mod_cast (by omega : n ≠ 0)

/-- One over a positive whole number held in a word is its inverse. -/
theorem div_one_word (n : Nat) (h : 1 ≤ n) (h' : n < 2 ^ 31) :
    Ideal.div 1 (FloatOps.sitofp (F := Ideal) .f32 (BitVec.ofNat 32 n)) = ((n : ℕ) : EReal)⁻¹ := by
  have e : FloatOps.sitofp (F := Ideal) .f32 (BitVec.ofNat 32 n) = ((n : ℕ) : EReal) := by
    show (((BitVec.ofNat 32 n).toInt : ℝ) : EReal) = _
    rw [toInt_ofNat n h']
    push_cast
    rfl
  rw [e]
  unfold Ideal.div
  rw [if_neg (count_ne n h), one_mul]

/-- One over the number of rows a window sees at row `r` of tile `7 - i`, from the words the kernel computes it of. -/
theorem inv_count (i r w : Nat) (hi : i < 8) (hr : r < 512) (hw : 1 ≤ w) (hw' : w ≤ 16) :
    Ideal.div 1 (FloatOps.sitofp (F := Ideal) .f32 (IntOp.minsi (IntOp.addi (IntOp.addi
      (Scalar.muli (Scalar.subi 7#32 (BitVec.ofNat 32 i)) 512#32) (BitVec.ofNat 32 r)) 1#32) (BitVec.ofNat 32 w)))
      = ((min (512 * (7 - i) + r + 1) w : ℕ) : EReal)⁻¹ := by
  have e : IntOp.addi (IntOp.addi (Scalar.muli (Scalar.subi 7#32 (BitVec.ofNat 32 i)) 512#32) (BitVec.ofNat 32 r)) 1#32
      = BitVec.ofNat 32 (512 * (7 - i) + r + 1) := by
    apply BitVec.eq_of_toNat_eq
    simp only [IntOp.addi, Scalar.muli, Scalar.subi, IntOp.muli, IntOp.subi, BitVec.toNat_add, BitVec.toNat_mul, BitVec.toNat_sub,
      BitVec.toNat_ofNat]
    omega
  have e2 : IntOp.minsi (BitVec.ofNat 32 (512 * (7 - i) + r + 1)) (BitVec.ofNat 32 w)
      = BitVec.ofNat 32 (min (512 * (7 - i) + r + 1) w) := by
    unfold IntOp.minsi
    rw [BitVec.slt_eq_decide, toInt_ofNat _ (by omega), toInt_ofNat _ (by omega)]
    by_cases h : 512 * (7 - i) + r + 1 < w
    · rw [if_pos (by simpa using by exact_mod_cast h), min_eq_left (by omega)]
    · rw [if_neg (by simpa using by exact_mod_cast not_lt.mp h), min_eq_right (by omega)]
  rw [e, e2]
  exact div_one_word _ (by omega) (by omega)

theorem q0 (i : Nat) (hi : i < 8) (x0 x5 x4 x3 h) (r : Fin 512) (d : Fin 256) :
    k0_pay21 (F := Ideal) (Scalar.subi 7#32 (BitVec.ofNat 32 i)) (k0_pay13 x0 x5 x4) (wgt x3 0 h) (ix2 r d)
      = bDz x0 x5 x4 x3 r 0 d * ((min (512 * (7 - i) + r.val + 1) 2 : ℕ) : EReal)⁻¹ := by
  pointwise [k0_pay21]
  rw [dz0, inv_count i r 2 hi r.isLt (by omega) (by omega)]

theorem q1 (i : Nat) (hi : i < 8) (x0 x5 x4 x3 h) (r : Fin 512) (d : Fin 256) :
    k0_pay27 (F := Ideal) (Scalar.subi 7#32 (BitVec.ofNat 32 i)) (k0_pay22 (k0_pay13 x0 x5 x4)) (wgt x3 1 h) (ix2 r d)
      = bDz x0 x5 x4 x3 r 1 d * ((min (512 * (7 - i) + r.val + 1) 4 : ℕ) : EReal)⁻¹ := by
  pointwise [k0_pay27]
  rw [dz1, inv_count i r 4 hi r.isLt (by omega) (by omega)]

theorem q2 (i : Nat) (hi : i < 8) (x0 x5 x4 x3 h) (r : Fin 512) (d : Fin 256) :
    k0_pay34 (F := Ideal) (Scalar.subi 7#32 (BitVec.ofNat 32 i)) (k0_pay29 (k0_pay13 x0 x5 x4) (wgt x3 2 h)) (ix2 r d)
      = bDz x0 x5 x4 x3 r 2 d * ((min (512 * (7 - i) + r.val + 1) 8 : ℕ) : EReal)⁻¹ := by
  pointwise [k0_pay34]
  rw [dz2, inv_count i r 8 hi r.isLt (by omega) (by omega)]

theorem q3 (i : Nat) (hi : i < 8) (x0 x5 x4 x3 h) (r : Fin 512) (d : Fin 256) :
    k0_pay40 (F := Ideal) (Scalar.subi 7#32 (BitVec.ofNat 32 i)) (k0_pay36 (k0_pay13 x0 x5 x4) (wgt x3 3 h)) (ix2 r d)
      = bDz x0 x5 x4 x3 r 3 d * ((min (512 * (7 - i) + r.val + 1) 16 : ℕ) : EReal)⁻¹ := by
  pointwise [k0_pay40]
  rw [dz3, inv_count i r 16 hi r.isLt (by omega) (by omega)]

end Cert.PoolVal
-- ==== Proof.Windows.lean ====
module
public import proofs.«01_k».proof.Proof.Pay
@[expose] public section
set_option maxRecDepth 16384
noncomputable section
/-! The four window sums of one tile: each group's rows added to the rows after them by doubling spans, over the extended
reals the sum of the window's rows. -/
namespace Cert.PoolVal
open Idealize.ShloMosaic Idealize.ShloMosaic.TcCoe Idealize.SL.Sem
open Cert.KernelIdeal Cert.KernelIdeal.Gen

theorem roll1 (n : Nat) (h : n < 543) : (n + 544 - 543) % 544 = n + 1 := by omega
theorem roll2 (n : Nat) (h : n < 542) : (n + 544 - 542) % 544 = n + 2 := by omega
theorem roll4 (n : Nat) (h : n < 540) : (n + 544 - 540) % 544 = n + 4 := by omega
theorem roll8 (n : Nat) (h : n < 536) : (n + 544 - 536) % 544 = n + 8 := by omega

variable (dz : FVec Ideal S512x256 .f32) (v : FVec Ideal S544x256 .f32) (r : Fin 512) (d : Fin 256) (f : Nat → EReal)
  (hf : ∀ n (h : n < 544), v (ix2 ⟨n, h⟩ d) = f n)

include hf

/-- Group 0: two rows. -/
theorem sum2 : k0_pay41 dz v (ix2 r d) = (∑ i ∈ Finset.range 2, f (r.val + i)) - dz (ix2 r d) := by
  pointwise [k0_pay41]
  simp (disch := omega) only [hf, roll1, Finset.sum_range_succ, Finset.sum_range_zero, Nat.add_assoc, Nat.reduceAdd, Nat.add_zero]
  abel_nf

/-- Group 1: four rows. -/
theorem sum4 : k0_pay42 dz v (ix2 r d) = (∑ i ∈ Finset.range 4, f (r.val + i)) - dz (ix2 r d) := by
  pointwise [k0_pay42]
  simp (disch := omega) only [hf, roll1, roll2, Finset.sum_range_succ, Finset.sum_range_zero, Nat.add_assoc, Nat.reduceAdd, Nat.add_zero]
  abel_nf

/-- Group 2: eight rows. -/
theorem sum8 : k0_pay1 dz v (ix2 r d) = (∑ i ∈ Finset.range 8, f (r.val + i)) - dz (ix2 r d) := by
  pointwise [k0_pay1]
  simp (disch := omega) only [hf, roll1, roll2, roll4, Finset.sum_range_succ, Finset.sum_range_zero, Nat.add_assoc, Nat.reduceAdd, Nat.add_zero]
  abel_nf

/-- A row and the row after it, of every row; then pairs of pairs; then pairs of those. -/
def rows8 : FVec Ideal S544x256 .f32 :=
  addf (addf (addf v (dynamicRotate 0 543#32 none v rotates_S544x256_d0))
      (dynamicRotate 0 542#32 none (addf v (dynamicRotate 0 543#32 none v rotates_S544x256_d0)) rotates_S544x256_d0))
    (dynamicRotate 0 540#32 none
      (addf (addf v (dynamicRotate 0 543#32 none v rotates_S544x256_d0))
        (dynamicRotate 0 542#32 none (addf v (dynamicRotate 0 543#32 none v rotates_S544x256_d0)) rotates_S544x256_d0))
      rotates_S544x256_d0)

theorem rows8_apply (n : Nat) (h : n < 537) :
    rows8 v (ix2 ⟨n, by omega⟩ d) = ∑ i ∈ Finset.range 8, f (n + i) := by
  pointwise [rows8]
  simp (disch := omega) only [hf, roll1, roll2, roll4, Finset.sum_range_succ, Finset.sum_range_zero, Nat.add_assoc, Nat.reduceAdd, Nat.add_zero]
  abel_nf

/-- Group 3: sixteen rows. -/
theorem sum16 : k0_pay2 dz v (ix2 r d) = (∑ i ∈ Finset.range 16, f (r.val + i)) - dz (ix2 r d) := by
  have e : k0_pay2 dz v = shapeCast S512x256 (truncf .bf16 (subf (extractStridedSlice S512x256 ![0, 0]
      (addf (rows8 v) (dynamicRotate 0 536#32 none (rows8 v) rotates_S544x256_d0)) slices_S544x256_o0_0_S512x256) dz)
      bitsLt_bf16_f32) shapeCasts_S512x256_S512x256 := rfl
  rw [e]
  pointwise
  have e8 := roll8 r.val (by omega)
  simp only [e8]
  rw [rows8_apply v d f hf r.val (by omega), rows8_apply v d f hf (r.val + 8) (by omega),
    Finset.sum_range_add (fun i => f (r.val + i)) 8 8]
  simp only [Nat.add_assoc]

end Cert.PoolVal
-- ==== Proof.Block.lean ====
module
public import proofs.«01_k».proof.Proof.Windows
public import proofs.«01_k».proof.Proof.Gen.KernelIdeal.Frame
public import Idealize.ShloMosaic.Lib.Tactic
@[expose] public section
set_option maxRecDepth 16384
noncomputable section
/-! What the stores of one tile leave in the buffers they fill in several pieces: the buffer of windowed rows, the tile of
the result and the accumulated gradient of the mixing weights. -/
namespace Cert.PoolVal
open Idealize.ShloMosaic Idealize.ShloMosaic.TcCoe Idealize.SL.Sem
open Cert.KernelIdeal Cert.KernelIdeal.Gen

variable (i : Nat) (x0 x1 x2 : Vec Ideal S512x1024 .bf16) (x5 : Vec Ideal S1024x1024 .bf16) (x4 : Vec Ideal S1x1024 .f32)
  (x3 : Vec Ideal S4x256x256 .bf16)

/-- The rows of tile `7 - i` over their counts, and after them the 32 rows carried over from the tile after it. -/
def bQ (halo : Nat → Fin 1024 → EReal) (n : Nat) (j : Fin 1024) : EReal :=
  if h : n < 512 then bDz x0 x5 x4 x3 ⟨n, h⟩ (grp j) (off j) * ((min (512 * (7 - i) + n + 1) (win j) : ℕ) : EReal)⁻¹
  else halo (n - 512) j

theorem bQ_row (halo : Nat → Fin 1024 → EReal) (r : Fin 512) (g : Fin 4) (d : Fin 256) :
    bQ i x0 x5 x4 x3 halo r.val (col g d)
      = bDz x0 x5 x4 x3 r g d * ((min (512 * (7 - i) + r.val + 1) (2 ^ (g.val + 1)) : ℕ) : EReal)⁻¹ := by
  unfold bQ
  rw [dif_pos r.isLt, grp_col, off_col, win_col]

/-- The pieces stored into the row buffer at one tile, last first: the four groups' lanes, then the carried rows. -/
abbrev qPieces (p : Vec Ideal S32x1024 .f32) : List (View.Piece (Elt Ideal) S544x1024 .f32) :=
  [⟨Rect.unit ![0, 768] S512x256.size inb_S544x1024_S512x256_0_768,
      k0_pay40 (Scalar.subi 7#32 (BitVec.ofNat 32 i)) (k0_pay36 (k0_pay13 x0 x5 x4) (wgt x3 3 inb_S4x256x256_S1x256x256_3_0_0))⟩,
    ⟨Rect.unit ![0, 512] S512x256.size inb_S544x1024_S512x256_0_512,
      k0_pay34 (Scalar.subi 7#32 (BitVec.ofNat 32 i)) (k0_pay29 (k0_pay13 x0 x5 x4) (wgt x3 2 inb_S4x256x256_S1x256x256_2_0_0))⟩,
    ⟨Rect.unit ![0, 256] S512x256.size inb_S544x1024_S512x256_0_256,
      k0_pay27 (Scalar.subi 7#32 (BitVec.ofNat 32 i)) (k0_pay22 (k0_pay13 x0 x5 x4)) (wgt x3 1 inb_S4x256x256_S1x256x256_1_0_0)⟩,
    ⟨Rect.unit ![0, 0] S512x256.size inb_S544x1024_S512x256_0_0,
      k0_pay21 (Scalar.subi 7#32 (BitVec.ofNat 32 i)) (k0_pay13 x0 x5 x4) (wgt x3 0 inb_S4x256x256_S1x256x256_0_0_0)⟩,
    ⟨Rect.unit ![512, 0] S32x1024.size inb_S544x1024_S32x1024_512_0, p⟩]

theorem qPieces_cover (p : Vec Ideal S32x1024 .f32) (y : S544x1024.Idx) : ∃ pc ∈ qPieces i x0 x5 x4 x3 p, y ∈ pc.1.set :=
  View.cover_of_tiledBy (qPieces i x0 x5 x4 x3 p) ![32, 256] (by sl_kernel_rfl) y

/-- An index of a rectangle of lanes, as the buffer's index. -/
theorem emb_lanes {n : Nat} (g : Fin 4) (o : Nat) (ho : o = 256 * g.val)
    (h : ∀ a, (![0, o] : Fin 2 → Nat) a + (![512, 256] : Fin 2 → Nat) a ≤ (⟨2, ![n, 1024]⟩ : Shape).size a) (hn : 512 ≤ n)
    (r : Fin 512) (d : Fin 256) :
    (Rect.unit (s := ⟨2, ![n, 1024]⟩) ![0, o] ![512, 256] h).emb (ix2 r d) = ix2 ⟨r.val, by omega⟩ (col g d) :=
  funext fun a => Fin.ext (by
    subst ho
    match a with
    | ⟨0, _⟩ => show 0 + 1 * r.val = r.val; omega
    | ⟨1, _⟩ => show 256 * g.val + 1 * d.val = 256 * g.val + d.val; omega)

theorem qPieces_canon (p : Vec Ideal S32x1024 .f32) (halo : Nat → Fin 1024 → EReal)
    (hp : ∀ (h : Fin 32) j, p (ix2 h j) = halo h.val j) (y : S544x1024.Idx) (hi : i < 8) :
    View.canon (qPieces i x0 x5 x4 x3 p) y = bQ i x0 x5 x4 x3 halo (y 0).val (y 1) := by
  refine View.canon_apply_of_pieces (fun y => bQ i x0 x5 x4 x3 halo (y 0).val (y 1)) _ ?_ y (qPieces_cover i x0 x5 x4 x3 p y)
  intro pc hpc x
  simp only [List.mem_cons, List.not_mem_nil, or_false] at hpc
  rcases hpc with rfl | rfl | rfl | rfl | rfl
  · obtain ⟨r, d, rfl⟩ : ∃ (r : Fin 512) (d : Fin 256), x = ix2 r d := ⟨x 0, x 1, eq_ix2 x⟩
    rw [emb_lanes 3 768 rfl _ (by omega)]
    exact (q3 i hi x0 x5 x4 x3 _ r d).trans (bQ_row i x0 x5 x4 x3 halo r 3 d).symm
  · obtain ⟨r, d, rfl⟩ : ∃ (r : Fin 512) (d : Fin 256), x = ix2 r d := ⟨x 0, x 1, eq_ix2 x⟩
    rw [emb_lanes 2 512 rfl _ (by omega)]
    exact (q2 i hi x0 x5 x4 x3 _ r d).trans (bQ_row i x0 x5 x4 x3 halo r 2 d).symm
  · obtain ⟨r, d, rfl⟩ : ∃ (r : Fin 512) (d : Fin 256), x = ix2 r d := ⟨x 0, x 1, eq_ix2 x⟩
    rw [emb_lanes 1 256 rfl _ (by omega)]
    exact (q1 i hi x0 x5 x4 x3 _ r d).trans (bQ_row i x0 x5 x4 x3 halo r 1 d).symm
  · obtain ⟨r, d, rfl⟩ : ∃ (r : Fin 512) (d : Fin 256), x = ix2 r d := ⟨x 0, x 1, eq_ix2 x⟩
    rw [emb_lanes 0 0 rfl _ (by omega)]
    exact (q0 i hi x0 x5 x4 x3 _ r d).trans (bQ_row i x0 x5 x4 x3 halo r 0 d).symm
  · obtain ⟨h, j, rfl⟩ : ∃ (h : Fin 32) (j : Fin 1024), x = ix2 h j := ⟨x 0, x 1, eq_ix2 x⟩
    have e : (Rect.unit (s := S544x1024) ![512, 0] S32x1024.size inb_S544x1024_S32x1024_512_0).emb (ix2 h j)
        = ix2 ⟨512 + h.val, by omega⟩ j := funext fun a => Fin.ext (by
      match a with
      | ⟨0, _⟩ => show 512 + 1 * h.val = 512 + h.val; omega
      | ⟨1, _⟩ => show 0 + 1 * j.val = j.val; omega)
    rw [e]
    show p (ix2 h j) = bQ i x0 x5 x4 x3 halo (512 + h.val) j
    unfold bQ
    rw [dif_neg (by omega), hp, Nat.add_sub_cancel_left]

/-- The row buffer's lanes of group `g`, read back after those stores. -/
theorem qPieces_readCov (p : Vec Ideal S32x1024 .f32) (halo : Nat → Fin 1024 → EReal)
    (hp : ∀ (h : Fin 32) j, p (ix2 h j) = halo h.val j) (hi : i < 8) (g : Fin 4) (o : Nat) (ho : o = 256 * g.val)
    (h : ∀ a, (![0, o] : Fin 2 → Nat) a + S544x256.size a ≤ S544x1024.size a) (d : Fin 256) (n : Nat) (hn : n < 544) :
    (View.whole cc0_scratch0).readCov (qPieces i x0 x5 x4 x3 p) (Rect.unit (s := S544x1024) ![0, o] S544x256.size h).toLoadRect (ix2 ⟨n, hn⟩ d)
      = bQ i x0 x5 x4 x3 halo n (col g d) := by
  rw [View.readCov_eq_canon_ld _ _ _ (qPieces_cover i x0 x5 x4 x3 p)]
  show View.canon (qPieces i x0 x5 x4 x3 p) ((Rect.unit (s := S544x1024) ![0, o] S544x256.size h).emb (ix2 ⟨n, hn⟩ d)) = _
  have e : (Rect.unit (s := S544x1024) ![0, o] S544x256.size h).emb (ix2 ⟨n, hn⟩ d) = ix2 ⟨n, hn⟩ (col g d) :=
    funext fun a => Fin.ext (by
      subst ho
      match a with
      | ⟨0, _⟩ => show 0 + 1 * n = n; omega
      | ⟨1, _⟩ => show 256 * g.val + 1 * d.val = 256 * g.val + d.val; omega)
  rw [e, qPieces_canon i x0 x5 x4 x3 p halo hp _ hi]
  rfl

/-- The pieces stored into the result's tile, last first. -/
abbrev dpPieces (p : Vec Ideal S32x1024 .f32) : List (View.Piece (Elt Ideal) S512x1024 .bf16) :=
  [⟨Rect.unit ![0, 768] S512x256.size inb_S512x1024_S512x256_0_768,
      k0_pay2 (k0_pay36 (k0_pay13 x0 x5 x4) (wgt x3 3 inb_S4x256x256_S1x256x256_3_0_0))
        ((View.whole cc0_scratch0).readCov (qPieces i x0 x5 x4 x3 p) (Rect.unit (s := S544x1024) ![0, 768] S544x256.size inb_S544x1024_S544x256_0_768).toLoadRect)⟩,
    ⟨Rect.unit ![0, 512] S512x256.size inb_S512x1024_S512x256_0_512,
      k0_pay1 (k0_pay29 (k0_pay13 x0 x5 x4) (wgt x3 2 inb_S4x256x256_S1x256x256_2_0_0))
        ((View.whole cc0_scratch0).readCov (qPieces i x0 x5 x4 x3 p) (Rect.unit (s := S544x1024) ![0, 512] S544x256.size inb_S544x1024_S544x256_0_512).toLoadRect)⟩,
    ⟨Rect.unit ![0, 256] S512x256.size inb_S512x1024_S512x256_0_256,
      k0_pay42 (k0_pay23 (k0_pay22 (k0_pay13 x0 x5 x4)) (wgt x3 1 inb_S4x256x256_S1x256x256_1_0_0))
        ((View.whole cc0_scratch0).readCov (qPieces i x0 x5 x4 x3 p) (Rect.unit (s := S544x1024) ![0, 256] S544x256.size inb_S544x1024_S544x256_0_256).toLoadRect)⟩,
    ⟨Rect.unit ![0, 0] S512x256.size inb_S512x1024_S512x256_0_0,
      k0_pay41 (k0_pay17 (k0_pay13 x0 x5 x4) (wgt x3 0 inb_S4x256x256_S1x256x256_0_0_0))
        ((View.whole cc0_scratch0).readCov (qPieces i x0 x5 x4 x3 p) (Rect.unit (s := S544x1024) ![0, 0] S544x256.size inb_S544x1024_S544x256_0_0).toLoadRect)⟩]

/-- One element of the result's tile: the window of rows from its row on, less the gradient of the pooled row. -/
def bDp (halo : Nat → Fin 1024 → EReal) (r : Fin 512) (j : Fin 1024) : EReal :=
  (∑ k ∈ Finset.range (win j), bQ i x0 x5 x4 x3 halo (r.val + k) j) - bDz x0 x5 x4 x3 r (grp j) (off j)

theorem bDp_col (halo : Nat → Fin 1024 → EReal) (r : Fin 512) (g : Fin 4) (d : Fin 256) :
    bDp i x0 x5 x4 x3 halo r (col g d)
      = (∑ k ∈ Finset.range (2 ^ (g.val + 1)), bQ i x0 x5 x4 x3 halo (r.val + k) (col g d)) - bDz x0 x5 x4 x3 r g d := by
  unfold bDp
  rw [grp_col, off_col, win_col]

theorem dpPieces_canon (p : Vec Ideal S32x1024 .f32) (halo : Nat → Fin 1024 → EReal)
    (hp : ∀ (h : Fin 32) j, p (ix2 h j) = halo h.val j) (y : S512x1024.Idx) (hi : i < 8) :
    View.canon (dpPieces i x0 x5 x4 x3 p) y = bDp i x0 x5 x4 x3 halo (y 0) (y 1) := by
  refine View.canon_apply_of_pieces (fun y => bDp i x0 x5 x4 x3 halo (y 0) (y 1)) _ ?_ y
    (View.cover_of_tiledBy (dpPieces i x0 x5 x4 x3 p) ![512, 256] (by sl_kernel_rfl) y)
  intro pc hpc x
  simp only [List.mem_cons, List.not_mem_nil, or_false] at hpc
  rcases hpc with rfl | rfl | rfl | rfl
  · obtain ⟨r, d, rfl⟩ : ∃ (r : Fin 512) (d : Fin 256), x = ix2 r d := ⟨x 0, x 1, eq_ix2 x⟩
    rw [emb_lanes 3 768 rfl _ (by omega)]
    exact (sum16 _ _ r d _ (qPieces_readCov i x0 x5 x4 x3 p halo hp hi 3 768 rfl _ d)).trans
      ((congrArg _ (dz3 x0 x5 x4 x3 _ r d)).trans (bDp_col i x0 x5 x4 x3 halo r 3 d).symm)
  · obtain ⟨r, d, rfl⟩ : ∃ (r : Fin 512) (d : Fin 256), x = ix2 r d := ⟨x 0, x 1, eq_ix2 x⟩
    rw [emb_lanes 2 512 rfl _ (by omega)]
    exact (sum8 _ _ r d _ (qPieces_readCov i x0 x5 x4 x3 p halo hp hi 2 512 rfl _ d)).trans
      ((congrArg _ (dz2 x0 x5 x4 x3 _ r d)).trans (bDp_col i x0 x5 x4 x3 halo r 2 d).symm)
  · obtain ⟨r, d, rfl⟩ : ∃ (r : Fin 512) (d : Fin 256), x = ix2 r d := ⟨x 0, x 1, eq_ix2 x⟩
    rw [emb_lanes 1 256 rfl _ (by omega)]
    exact (sum4 _ _ r d _ (qPieces_readCov i x0 x5 x4 x3 p halo hp hi 1 256 rfl _ d)).trans
      ((congrArg _ (dz1 x0 x5 x4 x3 _ r d)).trans (bDp_col i x0 x5 x4 x3 halo r 1 d).symm)
  · obtain ⟨r, d, rfl⟩ : ∃ (r : Fin 512) (d : Fin 256), x = ix2 r d := ⟨x 0, x 1, eq_ix2 x⟩
    rw [emb_lanes 0 0 rfl _ (by omega)]
    exact (sum2 _ _ r d _ (qPieces_readCov i x0 x5 x4 x3 p halo hp hi 0 0 rfl _ d)).trans
      ((congrArg _ (dz0 x0 x5 x4 x3 _ r d)).trans (bDp_col i x0 x5 x4 x3 halo r 0 d).symm)

end Cert.PoolVal
-- ==== Proof.Mixing.lean ====
module
public import proofs.«01_k».proof.Proof.Block
@[expose] public section
set_option maxRecDepth 16384
noncomputable section
/-! The four pieces in which the gradient of the mixing weights is accumulated. -/
namespace Cert.PoolVal
open Idealize.ShloMosaic Idealize.ShloMosaic.TcCoe Idealize.SL.Sem
open Cert.KernelIdeal Cert.KernelIdeal.Gen

variable (x0 x2 : Vec Ideal S512x1024 .bf16) (x5 : Vec Ideal S1024x1024 .bf16) (x4 : Vec Ideal S1x1024 .f32)
  (acc : Vec Ideal S4x256x256 .f32)

/-- One tile's part of the gradient of group `g`'s mixing weight. -/
def bGpw (g : Fin 4) (a b : Fin 256) : EReal := ∑ r : Fin 512, x2 (ix2 r (col g a)) * bDzl x0 x5 x4 r (col g b)

theorem bGpw_of (g : Fin 4) (o : Nat) (ho : o = 256 * g.val) (h) (a b : Fin 256) (c : Fin 1024)
    (hc : c = col g b) :
    ∑ r : Fin 512, lanes x2 o h (ix2 r a) * k0_pay13 x0 x5 x4 (ix2 r c) = bGpw x0 x2 x5 x4 g a b :=
  Finset.sum_congr rfl fun r _ => by rw [hc, pay13, lanes_apply x2 g o ho]

/-- The accumulated gradient of group `g`, as the kernel loads it. -/
abbrev slab (g : Nat) (h : ∀ a, (![g, 0, 0] : Fin 3 → Nat) a + S1x256x256.size a ≤ S4x256x256.size a) :
    Vec Ideal S1x256x256 .f32 := View.ld acc (Rect.unit ![g, 0, 0] S1x256x256.size h)

theorem slab_apply (g : Fin 4) (h) (a b : Fin 256) : slab acc g.val h (ix3 0 a b) = acc (ix3 g a b) :=
  congrArg acc (funext fun i => Fin.ext (by
    match i with
    | ⟨0, _⟩ => show g.val + 1 * 0 = g.val; omega
    | ⟨1, _⟩ => show 0 + 1 * a.val = a.val; omega
    | ⟨2, _⟩ => show 0 + 1 * b.val = b.val; omega))

theorem gfirst0 (h) (a b : Fin 256) :
    k0_pay19 (F := Ideal) (k0_pay13 x0 x5 x4) (lanes x2 0 h) (ix3 0 a b) = bGpw x0 x2 x5 x4 0 a b := by
  pointwise [k0_pay19, k0_pay18, k0_pay16]
  have e : (⟨b.val, by omega⟩ : Fin 1024) = col 0 b := Fin.ext (by simp [col])
  have this := bGpw_of x0 x2 x5 x4 0 0 rfl h a b _ e
  exact this

theorem gfirst1 (h) (a b : Fin 256) :
    k0_pay25 (F := Ideal) (k0_pay22 (k0_pay13 x0 x5 x4)) (lanes x2 256 h) (ix3 0 a b) = bGpw x0 x2 x5 x4 1 a b := by
  pointwise [k0_pay25, k0_pay24, k0_pay22]
  have e : (⟨256 + b.val, by omega⟩ : Fin 1024) = col 1 b := Fin.ext (by simp [col])
  have this := bGpw_of x0 x2 x5 x4 1 256 rfl h a b _ e
  exact this

theorem gfirst2 (h) (a b : Fin 256) :
    k0_pay32 (F := Ideal) (k0_pay28 (k0_pay13 x0 x5 x4)) (k0_pay30 (lanes x2 512 h)) (ix3 0 a b) = bGpw x0 x2 x5 x4 2 a b := by
  pointwise [k0_pay32, k0_pay31, k0_pay30, k0_pay28]
  have e : (⟨512 + b.val, by omega⟩ : Fin 1024) = col 2 b := Fin.ext (by simp [col])
  have this := bGpw_of x0 x2 x5 x4 2 512 rfl h a b _ e
  exact this

theorem gfirst3 (h) (a b : Fin 256) :
    k0_pay38 (F := Ideal) (k0_pay13 x0 x5 x4) (lanes x2 768 h) (ix3 0 a b) = bGpw x0 x2 x5 x4 3 a b := by
  pointwise [k0_pay38, k0_pay37, k0_pay35]
  have e : (⟨768 + b.val, by omega⟩ : Fin 1024) = col 3 b := Fin.ext (by simp [col])
  have this := bGpw_of x0 x2 x5 x4 3 768 rfl h a b _ e
  exact this

theorem gnext0 (h h') (a b : Fin 256) :
    k0_pay20 (F := Ideal) (k0_pay13 x0 x5 x4) (lanes x2 0 h) (slab acc 0 h') (ix3 0 a b)
      = acc (ix3 0 a b) + bGpw x0 x2 x5 x4 0 a b := by
  pointwise [k0_pay20, k0_pay18, k0_pay16]
  have e : (⟨b.val, by omega⟩ : Fin 1024) = col 0 b := Fin.ext (by simp [col])
  have this := bGpw_of x0 x2 x5 x4 0 0 rfl h a b _ e
  have this' := slab_apply acc 0 h' a b
  exact congrArg₂ (· + ·) this' this

theorem gnext1 (h h') (a b : Fin 256) :
    k0_pay26 (F := Ideal) (k0_pay22 (k0_pay13 x0 x5 x4)) (lanes x2 256 h) (slab acc 1 h') (ix3 0 a b)
      = acc (ix3 1 a b) + bGpw x0 x2 x5 x4 1 a b := by
  pointwise [k0_pay26, k0_pay24, k0_pay22]
  have e : (⟨256 + b.val, by omega⟩ : Fin 1024) = col 1 b := Fin.ext (by simp [col])
  have this := bGpw_of x0 x2 x5 x4 1 256 rfl h a b _ e
  have this' := slab_apply acc 1 h' a b
  exact congrArg₂ (· + ·) this' this

theorem gnext2 (h h') (a b : Fin 256) :
    k0_pay33 (F := Ideal) (k0_pay28 (k0_pay13 x0 x5 x4)) (k0_pay30 (lanes x2 512 h)) (slab acc 2 h') (ix3 0 a b)
      = acc (ix3 2 a b) + bGpw x0 x2 x5 x4 2 a b := by
  pointwise [k0_pay33, k0_pay31, k0_pay30, k0_pay28]
  have e : (⟨512 + b.val, by omega⟩ : Fin 1024) = col 2 b := Fin.ext (by simp [col])
  have this := bGpw_of x0 x2 x5 x4 2 512 rfl h a b _ e
  have this' := slab_apply acc 2 h' a b
  exact congrArg₂ (· + ·) this' this

theorem gnext3 (h h') (a b : Fin 256) :
    k0_pay39 (F := Ideal) (k0_pay37 (k0_pay13 x0 x5 x4) (lanes x2 768 h)) (slab acc 3 h') (ix3 0 a b)
      = acc (ix3 3 a b) + bGpw x0 x2 x5 x4 3 a b := by
  pointwise [k0_pay39, k0_pay37, k0_pay35]
  have e : (⟨768 + b.val, by omega⟩ : Fin 1024) = col 3 b := Fin.ext (by simp [col])
  have this := bGpw_of x0 x2 x5 x4 3 768 rfl h a b _ e
  have this' := slab_apply acc 3 h' a b
  exact congrArg₂ (· + ·) this' this

/-- The accumulator's pieces of one tile, last first. -/
abbrev gPieces (p0 p1 p2 p3 : Vec Ideal S1x256x256 .f32) : List (View.Piece (Elt Ideal) S4x256x256 .f32) :=
  [⟨Rect.unit ![3, 0, 0] S1x256x256.size inb_S4x256x256_S1x256x256_3_0_0, p3⟩,
    ⟨Rect.unit ![2, 0, 0] S1x256x256.size inb_S4x256x256_S1x256x256_2_0_0, p2⟩,
    ⟨Rect.unit ![1, 0, 0] S1x256x256.size inb_S4x256x256_S1x256x256_1_0_0, p1⟩,
    ⟨Rect.unit ![0, 0, 0] S1x256x256.size inb_S4x256x256_S1x256x256_0_0_0, p0⟩]

theorem gPieces_cover (p0 p1 p2 p3 : Vec Ideal S1x256x256 .f32) (y : S4x256x256.Idx) :
    ∃ pc ∈ gPieces p0 p1 p2 p3, y ∈ pc.1.set :=
  View.cover_of_tiledBy (gPieces p0 p1 p2 p3) ![1, 256, 256] (by sl_kernel_rfl) y

theorem emb_slab (g : Fin 4) (o : Nat) (ho : o = g.val)
    (h : ∀ a, (![o, 0, 0] : Fin 3 → Nat) a + (![1, 256, 256] : Fin 3 → Nat) a ≤ S4x256x256.size a)
    (x : S1x256x256.Idx) : (Rect.unit (s := S4x256x256) ![o, 0, 0] ![1, 256, 256] h).emb x = ix3 g (x 1) (x 2) :=
  funext fun i => Fin.ext (by
    subst ho
    have h0 : (x 0).val < 1 := (x 0).isLt
    match i with
    | ⟨0, _⟩ => show g.val + 1 * (x 0).val = g.val; omega
    | ⟨1, _⟩ => show 0 + 1 * (x 1).val = (x 1).val; omega
    | ⟨2, _⟩ => show 0 + 1 * (x 2).val = (x 2).val; omega)

theorem idx_slab (x : S1x256x256.Idx) : x = ix3 0 (x 1) (x 2) := by
  have h0 : x 0 = (0 : Fin 1) := Subsingleton.elim (α := Fin 1) _ _
  refine (eq_ix3 x).trans ?_
  rw [h0]
  rfl

theorem gPieces_canon (p0 p1 p2 p3 : Vec Ideal S1x256x256 .f32) (f : Fin 4 → Fin 256 → Fin 256 → EReal)
    (h0 : ∀ a b, p0 (ix3 0 a b) = f 0 a b) (h1 : ∀ a b, p1 (ix3 0 a b) = f 1 a b) (h2 : ∀ a b, p2 (ix3 0 a b) = f 2 a b)
    (h3 : ∀ a b, p3 (ix3 0 a b) = f 3 a b) (y : S4x256x256.Idx) :
    View.canon (gPieces p0 p1 p2 p3) y = f (y 0) (y 1) (y 2) := by
  refine View.canon_apply_of_pieces (fun y => f (y 0) (y 1) (y 2)) _ ?_ y (gPieces_cover p0 p1 p2 p3 y)
  intro pc hpc x
  simp only [List.mem_cons, List.not_mem_nil, or_false] at hpc
  rcases hpc with rfl | rfl | rfl | rfl
  · rw [emb_slab 3 3 rfl]; exact (congrArg p3 (idx_slab x)).trans (h3 (x 1) (x 2))
  · rw [emb_slab 2 2 rfl]; exact (congrArg p2 (idx_slab x)).trans (h2 (x 1) (x 2))
  · rw [emb_slab 1 1 rfl]; exact (congrArg p1 (idx_slab x)).trans (h1 (x 1) (x 2))
  · rw [emb_slab 0 0 rfl]; exact (congrArg p0 (idx_slab x)).trans (h0 (x 1) (x 2))

end Cert.PoolVal
-- ==== Proof.Steps.lean ====
module
public import proofs.«01_k».proof.Proof.Mixing
public import Idealize.ShloMosaic.Lib.Pipeline.Value
@[expose] public section
set_option maxRecDepth 16384
set_option maxHeartbeats 400000
noncomputable section
/-! What one point of the grid leaves in each buffer, in terms of the blocks it is given and of what the point before
left. -/
namespace Cert.PoolVal
open Idealize.ShloMosaic Idealize.ShloMosaic.TcCoe Idealize.SL.Sem
open Cert.KernelIdeal Cert.KernelIdeal.Gen

variable (m : (ℓ : Loc nD τ sig) → Buf (Elt Ideal) ℓ) (c : Dev nD)

theorem zero2 : (![0, 0] : Fin 2 → Nat) = fun _ => 0 := funext fun a => by fin_cases a <;> rfl
theorem zero3 : (![0, 0, 0] : Fin 3 → Nat) = fun _ => 0 := funext fun a => by fin_cases a <;> rfl
theorem coord (t : Fin cfg0.N) : (grid0.coords t 0).val = t.val := by revert t; decide +kernel

/-- The rows the row buffer carries over to the next point. -/
abbrev carried (q : Vec Ideal S544x1024 .f32) : Vec Ideal S32x1024 .f32 :=
  k0_pay15 (View.ld q (Rect.unit ![0, 0] S32x1024.size inb_S544x1024_S32x1024_0_0))

/-- The accumulated mixing gradients after a later point. -/
abbrev gNext (x0 x2 : Vec Ideal S512x1024 .bf16) (x5 : Vec Ideal S1024x1024 .bf16) (x4 : Vec Ideal S1x1024 .f32)
    (acc : Vec Ideal S4x256x256 .f32) : List (View.Piece (Elt Ideal) S4x256x256 .f32) :=
  gPieces (k0_pay20 (k0_pay13 x0 x5 x4) (lanes x2 0 inb_S512x1024_S512x256_0_0) (slab acc 0 inb_S4x256x256_S1x256x256_0_0_0))
    (k0_pay26 (k0_pay22 (k0_pay13 x0 x5 x4)) (lanes x2 256 inb_S512x1024_S512x256_0_256) (slab acc 1 inb_S4x256x256_S1x256x256_1_0_0))
    (k0_pay33 (k0_pay28 (k0_pay13 x0 x5 x4)) (k0_pay30 (lanes x2 512 inb_S512x1024_S512x256_0_512)) (slab acc 2 inb_S4x256x256_S1x256x256_2_0_0))
    (k0_pay39 (k0_pay37 (k0_pay13 x0 x5 x4) (lanes x2 768 inb_S512x1024_S512x256_0_768)) (slab acc 3 inb_S4x256x256_S1x256x256_3_0_0))

/-- The accumulated mixing gradients after the first point. -/
abbrev gFirst (x0 x2 : Vec Ideal S512x1024 .bf16) (x5 : Vec Ideal S1024x1024 .bf16) (x4 : Vec Ideal S1x1024 .f32) :
    List (View.Piece (Elt Ideal) S4x256x256 .f32) :=
  gPieces (k0_pay19 (k0_pay13 x0 x5 x4) (lanes x2 0 inb_S512x1024_S512x256_0_0))
    (k0_pay25 (k0_pay22 (k0_pay13 x0 x5 x4)) (lanes x2 256 inb_S512x1024_S512x256_0_256))
    (k0_pay32 (k0_pay28 (k0_pay13 x0 x5 x4)) (k0_pay30 (lanes x2 512 inb_S512x1024_S512x256_0_512)))
    (k0_pay38 (k0_pay13 x0 x5 x4) (lanes x2 768 inb_S512x1024_S512x256_0_768))

/-- The first point. -/
theorem step_first (t : Fin cfg0.N) (h : ¬1 ≤ t.val) :
    (outsAt0 m c t.val t.isLt).1
        = View.canon (dpPieces t.val (iblk m c 0 t) (iblk m c 5 t) (iblk m c 4 t) (iblk m c 3 t) (k0_pay14 (F := Ideal)))
    ∧ (outsAt0 m c t.val t.isLt).2.2.2.1 = k0_pay11 (iblk m c 0 t) (iblk m c 1 t) (iblk m c 5 t)
    ∧ (outsAt0 m c t.val t.isLt).2.2.2.2.1
        = View.canon (qPieces t.val (iblk m c 0 t) (iblk m c 5 t) (iblk m c 4 t) (iblk m c 3 t) (k0_pay14 (F := Ideal)))
    ∧ (outsAt0 m c t.val t.isLt).2.2.2.2.2.1 = k0_pay9 (iblk m c 0 t) (iblk m c 1 t) (iblk m c 4 t)
    ∧ (outsAt0 m c t.val t.isLt).2.2.2.2.2.2
        = View.canon (gFirst (iblk m c 0 t) (iblk m c 2 t) (iblk m c 5 t) (iblk m c 4 t)) := by
  have h0 : t.val % 8 = 0 := by omega
  rw [outsAt0_A m c t h0 h h0 h h0 h h0 h h0 h h0 h h0 h (by omega)]
  dsimp only
  refine ⟨?_, ?_, ?_, ?_, ?_⟩
  on_goal 1 => (unfold out0_A_6; rw [View.read_writes_eq_canon _ _ _ (by intro y; apply cover0_A_6)])
  on_goal 2 => (unfold out0_A_9; rw [View.read_writes_eq_canon _ _ _ (by intro y; apply cover0_A_9)])
  on_goal 3 => (unfold sout0_A_0; rw [View.read_writes_eq_canon _ _ _ (by intro y; apply scover0_A_0)])
  on_goal 4 => (unfold sout0_A_1; rw [View.read_writes_eq_canon _ _ _ (by intro y; apply scover0_A_1)])
  on_goal 5 => (unfold sout0_A_2; rw [View.read_writes_eq_canon _ _ _ (by intro y; apply scover0_A_2)])
  all_goals (unfold kernelRun0_A; dsimp only; sl_unfold_words)
  all_goals simp only [View.readAt_eq_ld, (hs0_0 t).read_unread, (hs0_1 t).read_unread, (hs0_2 t).read_unread,
    (hs0_3 t).read_unread, (hs0_4 t).read_unread, (hs0_5 t).read_unread, (hs0_9 t).read_unread,
    (Memref.isWhole_whole cc0_scratch0).read_unread, (Memref.isWhole_whole cc0_scratch1).read_unread,
    (Memref.isWhole_whole cc0_scratch2).read_unread, View.ld_unit_zero (S := S512x1024) zero2,
    View.ld_unit_zero (S := S1024x1024) zero2, View.ld_unit_zero (S := S1x1024) zero2, coord t]
  · rw [View.canon_unit_zero zero2]
  · rw [View.canon_unit_zero zero2]

/-- A point between. -/
theorem step_mid (t : Fin cfg0.N) (h : 1 ≤ t.val) (h7 : ¬t.val % 8 = 7) (prev) (hprev : prev = outsAt0 m c (t.val - 1) (by omega)) :
    (outsAt0 m c t.val t.isLt).1
        = View.canon (dpPieces t.val (iblk m c 0 t) (iblk m c 5 t) (iblk m c 4 t) (iblk m c 3 t) (carried prev.2.2.2.2.1))
    ∧ (outsAt0 m c t.val t.isLt).2.2.2.1 = k0_pay12 (iblk m c 0 t) (iblk m c 1 t) (iblk m c 5 t) prev.2.2.2.1
    ∧ (outsAt0 m c t.val t.isLt).2.2.2.2.1
        = View.canon (qPieces t.val (iblk m c 0 t) (iblk m c 5 t) (iblk m c 4 t) (iblk m c 3 t) (carried prev.2.2.2.2.1))
    ∧ (outsAt0 m c t.val t.isLt).2.2.2.2.2.1 = k0_pay10 (iblk m c 0 t) (iblk m c 1 t) (iblk m c 4 t) prev.2.2.2.2.2.1
    ∧ (outsAt0 m c t.val t.isLt).2.2.2.2.2.2
        = View.canon (gNext (iblk m c 0 t) (iblk m c 2 t) (iblk m c 5 t) (iblk m c 4 t) prev.2.2.2.2.2.2) := by
  have hN : t.val < 8 := lt_of_lt_of_eq t.isLt (show cfg0.N = 8 from N_0)
  have h0 : ¬t.val % 8 = 0 := by omega
  rw [outsAt0_B m c t h0 h h0 h h0 h h0 h h0 h h0 h h0 h h7, ← hprev]
  dsimp only
  refine ⟨?_, ?_, ?_, ?_, ?_⟩
  on_goal 1 => (unfold out0_B_6; rw [View.read_writes_eq_canon _ _ _ (by intro y; apply cover0_B_6)])
  on_goal 2 => (unfold out0_B_9; rw [View.read_writes_eq_canon _ _ _ (by intro y; apply cover0_B_9)])
  on_goal 3 => (unfold sout0_B_0; rw [View.read_writes_eq_canon _ _ _ (by intro y; apply scover0_B_0)])
  on_goal 4 => (unfold sout0_B_1; rw [View.read_writes_eq_canon _ _ _ (by intro y; apply scover0_B_1)])
  on_goal 5 => (unfold sout0_B_2; rw [View.read_writes_eq_canon _ _ _ (by intro y; apply scover0_B_2)])
  all_goals (unfold kernelRun0_B; dsimp only; sl_unfold_words)
  all_goals simp only [View.readAt_eq_ld, (hs0_0 t).read_unread, (hs0_1 t).read_unread, (hs0_2 t).read_unread,
    (hs0_3 t).read_unread, (hs0_4 t).read_unread, (hs0_5 t).read_unread, (hs0_9 t).read_unread,
    (Memref.isWhole_whole cc0_scratch0).read_unread, (Memref.isWhole_whole cc0_scratch1).read_unread,
    (Memref.isWhole_whole cc0_scratch2).read_unread, View.ld_unit_zero (S := S512x1024) zero2,
    View.ld_unit_zero (S := S1024x1024) zero2, View.ld_unit_zero (S := S1x1024) zero2, coord t]
  · rw [View.canon_unit_zero zero2]
  · rw [View.canon_unit_zero zero2]

/-- The last point, which also writes the two accumulated weight gradients out. -/
theorem step_last (t : Fin cfg0.N) (h : 1 ≤ t.val) (h7 : t.val % 8 = 7) (prev) (hprev : prev = outsAt0 m c (t.val - 1) (by omega)) :
    (outsAt0 m c t.val t.isLt).1
        = View.canon (dpPieces t.val (iblk m c 0 t) (iblk m c 5 t) (iblk m c 4 t) (iblk m c 3 t) (carried prev.2.2.2.2.1))
    ∧ (outsAt0 m c t.val t.isLt).2.2.2.1 = k0_pay12 (iblk m c 0 t) (iblk m c 1 t) (iblk m c 5 t) prev.2.2.2.1
    ∧ (outsAt0 m c t.val t.isLt).2.2.2.2.1
        = View.canon (qPieces t.val (iblk m c 0 t) (iblk m c 5 t) (iblk m c 4 t) (iblk m c 3 t) (carried prev.2.2.2.2.1))
    ∧ (outsAt0 m c t.val t.isLt).2.2.2.2.2.1 = k0_pay10 (iblk m c 0 t) (iblk m c 1 t) (iblk m c 4 t) prev.2.2.2.2.2.1
    ∧ (outsAt0 m c t.val t.isLt).2.2.2.2.2.2
        = View.canon (gNext (iblk m c 0 t) (iblk m c 2 t) (iblk m c 5 t) (iblk m c 4 t) prev.2.2.2.2.2.2)
    ∧ (outsAt0 m c t.val t.isLt).2.1 = k0_pay3 (k0_pay10 (iblk m c 0 t) (iblk m c 1 t) (iblk m c 4 t) prev.2.2.2.2.2.1)
    ∧ (outsAt0 m c t.val t.isLt).2.2.1
        = k0_pay4 (View.canon (gNext (iblk m c 0 t) (iblk m c 2 t) (iblk m c 5 t) (iblk m c 4 t) prev.2.2.2.2.2.2)) := by
  have hN : t.val < 8 := lt_of_lt_of_eq t.isLt (show cfg0.N = 8 from N_0)
  have h0 : ¬t.val % 8 = 0 := by omega
  rw [outsAt0_C m c t h0 h h0 h h0 h h0 h h0 h h0 h h0 h h7, ← hprev]
  dsimp only
  refine ⟨?_, ?_, ?_, ?_, ?_, ?_, ?_⟩
  on_goal 1 => (unfold out0_C_6; rw [View.read_writes_eq_canon _ _ _ (by intro y; apply cover0_C_6)])
  on_goal 2 => (unfold out0_C_9; rw [View.read_writes_eq_canon _ _ _ (by intro y; apply cover0_C_9)])
  on_goal 3 => (unfold sout0_C_0; rw [View.read_writes_eq_canon _ _ _ (by intro y; apply scover0_C_0)])
  on_goal 4 => (unfold sout0_C_1; rw [View.read_writes_eq_canon _ _ _ (by intro y; apply scover0_C_1)])
  on_goal 5 => (unfold sout0_C_2; rw [View.read_writes_eq_canon _ _ _ (by intro y; apply scover0_C_2)])
  on_goal 6 => (unfold out0_C_7; rw [View.read_writes_eq_canon _ _ _ (by intro y; apply cover0_C_7)])
  on_goal 7 => (unfold out0_C_8; rw [View.read_writes_eq_canon _ _ _ (by intro y; apply cover0_C_8)])
  all_goals (unfold kernelRun0_C; dsimp only; sl_unfold_words)
  all_goals simp only [View.readAt_eq_ld, (hs0_0 t).read_unread, (hs0_1 t).read_unread, (hs0_2 t).read_unread,
    (hs0_3 t).read_unread, (hs0_4 t).read_unread, (hs0_5 t).read_unread, (hs0_9 t).read_unread,
    (Memref.isWhole_whole cc0_scratch0).read_unread, (Memref.isWhole_whole cc0_scratch1).read_unread,
    (Memref.isWhole_whole cc0_scratch2).read_unread, View.ld_unit_zero (S := S512x1024) zero2,
    View.ld_unit_zero (S := S1024x1024) zero2, View.ld_unit_zero (S := S1x1024) zero2, coord t]
  · rw [View.canon_unit_zero zero2]
  · rw [View.canon_unit_zero zero2]
  · rw [View.canon_unit_zero zero2, View.readCov_unit_zero (S := S1024x1024) _ zero2]
  · rw [View.canon_unit_zero zero3, View.readCov_eq_canon_ld _ _ _ (gPieces_cover _ _ _ _), View.ld_unit_zero (S := S4x256x256) zero3]

end Cert.PoolVal
-- ==== Proof.Blocks.lean ====
module
public import proofs.«01_k».proof.Proof.Steps
@[expose] public section
set_option maxRecDepth 16384
noncomputable section
/-! The block of each operand at a point of the grid: point `t` works on tile `7 - t` of the rows, and on the whole of the
weights. -/
namespace Cert.PoolVal
open Idealize.ShloMosaic Idealize.ShloMosaic.TcCoe Idealize.SL.Sem
open Cert.KernelIdeal Cert.KernelIdeal.Gen

variable (m : (ℓ : Loc nD τ sig) → Buf (Elt Ideal) ℓ) (c : Dev nD)

/-- The row of the whole array that is row `r` of the tile of point `t`. -/
def row (t : Fin cfg0.N) (r : Fin 512) : Fin 4096 := ⟨512 * (7 - t.val) + r.val, by omega⟩

theorem index0 : ∀ t : Fin cfg0.N, (win0_0.index t 0 = 7 - t.val ∧ win0_0.index t 1 = 0)
    ∧ (win0_1.index t 0 = 7 - t.val ∧ win0_1.index t 1 = 0) ∧ (win0_2.index t 0 = 7 - t.val ∧ win0_2.index t 1 = 0)
    ∧ (win0_6.index t 0 = 7 - t.val ∧ win0_6.index t 1 = 0) := by decide +kernel

theorem index3 : ∀ t : Fin cfg0.N, (win0_3.index t 0 = 0 ∧ win0_3.index t 1 = 0 ∧ win0_3.index t 2 = 0)
    ∧ (win0_4.index t 0 = 0 ∧ win0_4.index t 1 = 0) ∧ (win0_5.index t 0 = 0 ∧ win0_5.index t 1 = 0) := by decide +kernel

theorem iblk0 (t : Fin cfg0.N) (r : Fin 512) (j : Fin 1024) :
    (iblk m c 0 t : Vec Ideal S512x1024 .bf16) (ix2 r j) = (V m c main_v62 : Vec Ideal S4096x1024 .bf16) (ix2 (row t r) j) :=
  congrArg (V m c main_v62) (funext fun i => Fin.ext (by
    have h := (index0 t).1
    match i with
    | ⟨0, _⟩ => show win0_0.index t 0 * 512 + 1 * r.val = 512 * (7 - t.val) + r.val; rw [h.1]; omega
    | ⟨1, _⟩ => show win0_0.index t 1 * 1024 + 1 * j.val = j.val; rw [h.2]; omega))

theorem iblk1 (t : Fin cfg0.N) (r : Fin 512) (j : Fin 1024) :
    (iblk m c 1 t : Vec Ideal S512x1024 .bf16) (ix2 r j) = (V m c main_v63 : Vec Ideal S4096x1024 .bf16) (ix2 (row t r) j) :=
  congrArg (V m c main_v63) (funext fun i => Fin.ext (by
    have h := (index0 t).2.1
    match i with
    | ⟨0, _⟩ => show win0_1.index t 0 * 512 + 1 * r.val = 512 * (7 - t.val) + r.val; rw [h.1]; omega
    | ⟨1, _⟩ => show win0_1.index t 1 * 1024 + 1 * j.val = j.val; rw [h.2]; omega))

theorem iblk2 (t : Fin cfg0.N) (r : Fin 512) (j : Fin 1024) :
    (iblk m c 2 t : Vec Ideal S512x1024 .bf16) (ix2 r j) = (V m c main_v65 : Vec Ideal S4096x1024 .bf16) (ix2 (row t r) j) :=
  congrArg (V m c main_v65) (funext fun i => Fin.ext (by
    have h := (index0 t).2.2.1
    match i with
    | ⟨0, _⟩ => show win0_2.index t 0 * 512 + 1 * r.val = 512 * (7 - t.val) + r.val; rw [h.1]; omega
    | ⟨1, _⟩ => show win0_2.index t 1 * 1024 + 1 * j.val = j.val; rw [h.2]; omega))

theorem iblk3 (t : Fin cfg0.N) : (iblk m c 3 t : Vec Ideal S4x256x256 .bf16) = V m c main_v66 :=
  funext fun x => congrArg (V m c main_v66) (funext fun i => Fin.ext (by
    have h := (index3 t).1
    match i with
    | ⟨0, _⟩ => show win0_3.index t 0 * 4 + 1 * (x 0).val = (x 0).val; rw [h.1]; omega
    | ⟨1, _⟩ => show win0_3.index t 1 * 256 + 1 * (x 1).val = (x 1).val; rw [h.2.1]; omega
    | ⟨2, _⟩ => show win0_3.index t 2 * 256 + 1 * (x 2).val = (x 2).val; rw [h.2.2]; omega))

theorem iblk4 (t : Fin cfg0.N) : (iblk m c 4 t : Vec Ideal S1x1024 .f32) = V m c main_v67 :=
  funext fun x => congrArg (V m c main_v67) (funext fun i => Fin.ext (by
    have h := (index3 t).2.1
    match i with
    | ⟨0, _⟩ => show win0_4.index t 0 * 1 + 1 * (x 0).val = (x 0).val; rw [h.1]; omega
    | ⟨1, _⟩ => show win0_4.index t 1 * 1024 + 1 * (x 1).val = (x 1).val; rw [h.2]; omega))

theorem iblk5 (t : Fin cfg0.N) : (iblk m c 5 t : Vec Ideal S1024x1024 .bf16) = V m c main_v68 :=
  funext fun x => congrArg (V m c main_v68) (funext fun i => Fin.ext (by
    have h := (index3 t).2.2
    match i with
    | ⟨0, _⟩ => show win0_5.index t 0 * 1024 + 1 * (x 0).val = (x 0).val; rw [h.1]; omega
    | ⟨1, _⟩ => show win0_5.index t 1 * 1024 + 1 * (x 1).val = (x 1).val; rw [h.2]; omega))

end Cert.PoolVal
-- ==== Proof.Sums.lean ====
module
public import Idealize.ShloMosaic.Lib.Pointwise
@[expose] public section
noncomputable section
namespace Cert.Sums
open Idealize.ShloMosaic

/-- A value that is an ordinary real number, neither of the two infinities. -/
def Real? (x : EReal) : Prop := ∃ r : ℝ, x = (r : EReal)

theorem Real?.zero : Real? 0 := ⟨0, rfl⟩

theorem Real?.add {x y : EReal} (hx : Real? x) (hy : Real? y) : Real? (x + y) := by
  obtain ⟨a, rfl⟩ := hx
  obtain ⟨b, rfl⟩ := hy
  exact ⟨a + b, by push_cast; rfl⟩

theorem Real?.mul {x y : EReal} (hx : Real? x) (hy : Real? y) : Real? (x * y) := by
  obtain ⟨a, rfl⟩ := hx
  obtain ⟨b, rfl⟩ := hy
  exact ⟨a * b, by push_cast; rfl⟩

theorem Real?.inv {x : EReal} (hx : Real? x) : Real? x⁻¹ := by
  obtain ⟨a, rfl⟩ := hx
  exact ⟨a⁻¹, by push_cast; rfl⟩

theorem Real?.neg {x : EReal} (hx : Real? x) : Real? (-x) := by
  obtain ⟨a, rfl⟩ := hx
  exact ⟨-a, by push_cast; rfl⟩

theorem Real?.natCast (n : ℕ) : Real? (n : EReal) := ⟨n, by push_cast; rfl⟩

/-- A finite sum of real numbers is a real number. -/
theorem Real?.sum {ι : Type} (s : Finset ι) {f : ι → EReal} (h : ∀ i ∈ s, Real? (f i)) : Real? (∑ i ∈ s, f i) :=
  Finset.sum_induction f Real? (fun _ _ => Real?.add) Real?.zero h

/-- A value whose magnitude is below the upper infinity is a real number. -/
theorem Real?.of_abs_lt_top {x : EReal} (h : max x (-x) < ⊤) : Real? x := by
  induction x using EReal.rec with
  | bot => simp at h
  | coe r => exact ⟨r, rfl⟩
  | top => simp at h

/-- The sum of real numbers, taken among the extended reals. -/
theorem coe_sum {ι : Type} (s : Finset ι) (f : ι → ℝ) : ((∑ i ∈ s, f i : ℝ) : EReal) = ∑ i ∈ s, (f i : EReal) :=
  map_sum (⟨⟨fun r : ℝ => (r : EReal), rfl⟩, EReal.coe_add⟩ : ℝ →+ EReal) f s

/-- The telescoping of a running sum over real numbers that vanish from `N` on: summing, from `s` on, each entry less the
    entry `w` later leaves the `w` entries from `s` on. -/
theorem telescope (N w s : ℕ) (f : ℕ → EReal) (hf : ∀ n, Real? (f n)) (h0 : ∀ n, N ≤ n → f n = 0) :
    ∑ k ∈ Finset.range N, (f (s + k) + -f (s + k + w)) = ∑ i ∈ Finset.range w, f (s + i) := by
  choose g hg using hf
  have hz : ∀ n, N ≤ n → g n = 0 := fun n hn => by
    have := h0 n hn
    rw [hg n] at this
    exact_mod_cast this
  have e1 : ∑ k ∈ Finset.range N, (f (s + k) + -f (s + k + w))
      = ((∑ k ∈ Finset.range N, (g (s + k) + -g (s + k + w)) : ℝ) : EReal) := by
    rw [coe_sum]
    refine Finset.sum_congr rfl fun k _ => ?_
    rw [hg, hg]
    push_cast
    rfl
  have e2 : ∑ i ∈ Finset.range w, f (s + i) = ((∑ i ∈ Finset.range w, g (s + i) : ℝ) : EReal) := by
    rw [coe_sum]
    exact Finset.sum_congr rfl fun k _ => hg _
  rw [e1, e2]
  refine congrArg _ ?_
  rw [Finset.sum_add_distrib, Finset.sum_neg_distrib]
  have a1 := Finset.sum_range_add (fun k => g (s + k)) N w
  have a2 := Finset.sum_range_add (fun k => g (s + k)) w N
  have a3 : ∑ k ∈ Finset.range w, g (s + (N + k)) = 0 := Finset.sum_eq_zero fun k _ => hz _ (by omega)
  have a4 : ∑ k ∈ Finset.range N, g (s + (w + k)) = ∑ k ∈ Finset.range N, g (s + k + w) :=
    Finset.sum_congr rfl fun k _ => by congr 1; omega
  rw [Nat.add_comm] at a2
  rw [a3] at a1
  rw [a4] at a2
  linarith

/-- A sum over the 4096 rows is the sum over the 8 tiles, in any order of the tiles, of the sums over a tile's 512 rows. -/
theorem rows_eq_tiles (f : Fin 4096 → EReal) :
    ∑ s, f s = ∑ t : Fin 8, ∑ r : Fin 512, f ⟨512 * (7 - t.val) + r.val, by omega⟩ := by
  rw [← Fintype.sum_prod_type']
  symm
  refine Fintype.sum_bijective (fun p : Fin 8 × Fin 512 => (⟨512 * (7 - p.1.val) + p.2.val, by omega⟩ : Fin 4096))
    ⟨?_, ?_⟩ _ _ fun _ => rfl
  · rintro ⟨a, b⟩ ⟨c, d⟩ h
    simp only [Fin.mk.injEq] at h
    ext <;> simp only <;> omega
  · intro s
    refine ⟨(⟨7 - s.val / 512, by omega⟩, ⟨s.val % 512, by omega⟩), Fin.ext ?_⟩
    simp only
    omega

end Cert.Sums
-- ==== Proof.Totals.lean ====
module
public import proofs.«01_k».proof.Proof.Blocks
public import proofs.«01_k».proof.Proof.Sums
@[expose] public section
set_option maxRecDepth 16384
noncomputable section
/-! What the buffers hold after every point of the grid, in terms of the whole arrays. -/
namespace Cert.PoolVal
open Idealize.ShloMosaic Idealize.ShloMosaic.TcCoe Idealize.SL.Sem
open Cert.KernelIdeal Cert.KernelIdeal.Gen

section Whole
variable (dy zl z : Vec Ideal S4096x1024 .bf16) (wpo : Vec Ideal S1024x1024 .bf16) (ps : Vec Ideal S1x1024 .f32)
  (pw : Vec Ideal S4x256x256 .bf16)

/-- The gradient of the scaled mixing at row `s`. -/
def gDzs (s : Fin 4096) (j : Fin 1024) : EReal := ∑ k : Fin 1024, dy (ix2 s k) * wpo (ix2 j k)
/-- The gradient before the scale. -/
def gDzl (s : Fin 4096) (j : Fin 1024) : EReal := gDzs dy wpo s j * ps (ix2 0 j)
/-- The gradient of the pooled row. -/
def gDz (s : Fin 4096) (g : Fin 4) (d : Fin 256) : EReal := ∑ k : Fin 256, gDzl dy wpo ps s (col g k) * pw (ix3 g d k)
/-- That gradient over the number of rows pooled at row `n`, nothing past the last row. -/
def gQ (n : Nat) (j : Fin 1024) : EReal :=
  if h : n < 4096 then gDz dy wpo ps pw ⟨n, h⟩ (grp j) (off j) * ((min (n + 1) (win j) : ℕ) : EReal)⁻¹ else 0
/-- The gradient of the branch's input. -/
def gDp (s : Fin 4096) (j : Fin 1024) : EReal :=
  (∑ k ∈ Finset.range (win j), gQ dy wpo ps pw (s.val + k) j) - gDz dy wpo ps pw s (grp j) (off j)
/-- One row's part of the gradient of the output weight. -/
def gWpo (a b : Fin 1024) (s : Fin 4096) : EReal := zl (ix2 s a) * ps (ix2 0 a) * dy (ix2 s b)
/-- One row's part of the gradient of the scale. -/
def gPs (j : Fin 1024) (s : Fin 4096) : EReal := gDzs dy wpo s j * zl (ix2 s j)
/-- One row's part of the gradient of the mixing weights. -/
def gPw (g : Fin 4) (a b : Fin 256) (s : Fin 4096) : EReal := z (ix2 s (col g a)) * gDzl dy wpo ps s (col g b)
end Whole

/-- The sum over the rows of the tile of point `k`. -/
def tile (f : Fin 4096 → EReal) (k : Nat) : EReal :=
  if h : k < 8 then ∑ r : Fin 512, f ⟨512 * (7 - k) + r.val, by omega⟩ else 0
/-- The sum over the rows of the tiles of the points up to `n`. -/
def upTo (f : Fin 4096 → EReal) (n : Nat) : EReal := ∑ k ∈ Finset.range (n + 1), tile f k

theorem upTo_zero (f : Fin 4096 → EReal) : upTo f 0 = tile f 0 := by simp [upTo]
theorem upTo_succ (f : Fin 4096 → EReal) (n : Nat) : upTo f (n + 1) = upTo f n + tile f (n + 1) :=
  Finset.sum_range_succ _ _
theorem upTo_last (f : Fin 4096 → EReal) : upTo f 7 = ∑ s, f s := by
  rw [Cert.Sums.rows_eq_tiles, upTo, Finset.sum_range]
  exact Finset.sum_congr rfl fun t _ => dif_pos t.isLt
theorem tile_at (f : Fin 4096 → EReal) (t : Fin cfg0.N) : tile f t.val = ∑ r : Fin 512, f (row t r) :=
  dif_pos (lt_of_lt_of_eq t.isLt (show cfg0.N = 8 from N_0))

variable (m : (ℓ : Loc nD τ sig) → Buf (Elt Ideal) ℓ) (c : Dev nD)

/-- The operands' arrays. -/
abbrev aDy : Vec Ideal S4096x1024 .bf16 := V m c main_v62
abbrev aZl : Vec Ideal S4096x1024 .bf16 := V m c main_v63
abbrev aZ : Vec Ideal S4096x1024 .bf16 := V m c main_v65
abbrev aPw : Vec Ideal S4x256x256 .bf16 := V m c main_v66
abbrev aPs : Vec Ideal S1x1024 .f32 := V m c main_v67
abbrev aWpo : Vec Ideal S1024x1024 .bf16 := V m c main_v68

theorem dzs_at (t : Fin cfg0.N) (r : Fin 512) (j : Fin 1024) :
    bDzs (iblk m c 0 t) (iblk m c 5 t) r j = gDzs (aDy m c) (aWpo m c) (row t r) j := by
  unfold bDzs gDzs
  exact Finset.sum_congr rfl fun k _ => by rw [iblk0, iblk5]

theorem dzl_at (t : Fin cfg0.N) (r : Fin 512) (j : Fin 1024) :
    bDzl (iblk m c 0 t) (iblk m c 5 t) (iblk m c 4 t) r j = gDzl (aDy m c) (aWpo m c) (aPs m c) (row t r) j := by
  unfold bDzl gDzl
  rw [dzs_at, iblk4]

theorem dz_at (t : Fin cfg0.N) (r : Fin 512) (g : Fin 4) (d : Fin 256) :
    bDz (iblk m c 0 t) (iblk m c 5 t) (iblk m c 4 t) (iblk m c 3 t) r g d
      = gDz (aDy m c) (aWpo m c) (aPs m c) (aPw m c) (row t r) g d := by
  unfold bDz gDz
  exact Finset.sum_congr rfl fun k _ => by rw [dzl_at, iblk3]

/-- The row buffer of point `t` holds the rows from its tile's first on, given that the rows carried over are those after
its last. -/
theorem q_at (t : Fin cfg0.N) (halo : Nat → Fin 1024 → EReal) (n : Nat) (hn : n < 544) (j : Fin 1024)
    (hh : ∀ h < 32, halo h j = gQ (aDy m c) (aWpo m c) (aPs m c) (aPw m c) (512 * (7 - t.val) + (512 + h)) j) :
    bQ t.val (iblk m c 0 t) (iblk m c 5 t) (iblk m c 4 t) (iblk m c 3 t) halo n j
      = gQ (aDy m c) (aWpo m c) (aPs m c) (aPw m c) (512 * (7 - t.val) + n) j := by
  unfold bQ
  by_cases h : n < 512
  · rw [dif_pos h, dz_at, gQ, dif_pos (by omega)]
    rfl
  · rw [dif_neg h, hh (n - 512) (by omega)]
    exact congrArg (fun k => gQ _ _ _ _ k j) (by omega)

/-- The tile of the result of point `t`, given the same. -/
theorem dp_at (t : Fin cfg0.N) (halo : Nat → Fin 1024 → EReal) (r : Fin 512) (j : Fin 1024)
    (hh : ∀ h < 32, halo h j = gQ (aDy m c) (aWpo m c) (aPs m c) (aPw m c) (512 * (7 - t.val) + (512 + h)) j) :
    bDp t.val (iblk m c 0 t) (iblk m c 5 t) (iblk m c 4 t) (iblk m c 3 t) halo r j
      = gDp (aDy m c) (aWpo m c) (aPs m c) (aPw m c) (row t r) j := by
  unfold bDp gDp
  rw [dz_at]
  refine congrArg (· - _) (Finset.sum_congr rfl fun k hk => ?_)
  have hw : win j ≤ 16 := by
    have : j.val / 256 + 1 ≤ 4 := by omega
    exact (Nat.pow_le_pow_right (by norm_num) this : 2 ^ (j.val / 256 + 1) ≤ 2 ^ 4)
  have hk' := Finset.mem_range.mp hk
  rw [q_at m c t halo (r.val + k) (by omega) j hh, ← Nat.add_assoc]
  rfl

/-- What the buffers hold after point `t`. -/
structure Holds (t : Fin cfg0.N) : Prop where
  dp : ∀ (r : Fin 512) (j : Fin 1024),
    (outsAt0 m c t.val t.isLt).1 (ix2 r j) = gDp (aDy m c) (aWpo m c) (aPs m c) (aPw m c) (row t r) j
  scale : ∀ j : Fin 1024, (outsAt0 m c t.val t.isLt).2.2.2.1 (ix2 0 j) = upTo (gPs (aDy m c) (aZl m c) (aWpo m c) j) t.val
  rows : ∀ (n : Nat) (hn : n < 544) (j : Fin 1024), (outsAt0 m c t.val t.isLt).2.2.2.2.1 (ix2 ⟨n, hn⟩ j)
    = gQ (aDy m c) (aWpo m c) (aPs m c) (aPw m c) (512 * (7 - t.val) + n) j
  out : ∀ a b : Fin 1024, (outsAt0 m c t.val t.isLt).2.2.2.2.2.1 (ix2 a b)
    = upTo (gWpo (aDy m c) (aZl m c) (aPs m c) a b) t.val
  mix : ∀ (g : Fin 4) (a b : Fin 256), (outsAt0 m c t.val t.isLt).2.2.2.2.2.2 (ix3 g a b)
    = upTo (gPw (aDy m c) (aZ m c) (aWpo m c) (aPs m c) g a b) t.val

theorem scale_at (t : Fin cfg0.N) (j : Fin 1024) :
    (k0_pay11 (iblk m c 0 t) (iblk m c 1 t) (iblk m c 5 t) : Vec Ideal S1x1024 .f32) (ix2 0 j)
      = tile (gPs (aDy m c) (aZl m c) (aWpo m c) j) t.val := by
  rw [tile_at]
  refine (pay11 (iblk m c 0 t) (iblk m c 1 t) (iblk m c 5 t) j).trans (Finset.sum_congr rfl fun r _ => ?_)
  rw [dzs_at, iblk1]
  rfl

theorem out_at (t : Fin cfg0.N) (a b : Fin 1024) :
    (k0_pay8 (iblk m c 0 t) (iblk m c 1 t) (iblk m c 4 t) : Vec Ideal S1024x1024 .f32) (ix2 a b)
      = tile (gWpo (aDy m c) (aZl m c) (aPs m c) a b) t.val := by
  rw [tile_at]
  refine (pay8 (iblk m c 0 t) (iblk m c 1 t) (iblk m c 4 t) a b).trans (Finset.sum_congr rfl fun r _ => ?_)
  rw [iblk0, iblk1, iblk4]
  rfl

theorem mix_at (t : Fin cfg0.N) (g : Fin 4) (a b : Fin 256) :
    bGpw (iblk m c 0 t) (iblk m c 2 t) (iblk m c 5 t) (iblk m c 4 t) g a b
      = tile (gPw (aDy m c) (aZ m c) (aWpo m c) (aPs m c) g a b) t.val := by
  rw [tile_at]
  refine Finset.sum_congr rfl fun r _ => ?_
  rw [dzl_at, iblk2]
  rfl

theorem pay9_apply (x0 x1 : Vec Ideal S512x1024 .bf16) (x4 : Vec Ideal S1x1024 .f32) (a b : Fin 1024) :
    k0_pay9 x0 x1 x4 (ix2 a b) = k0_pay8 x0 x1 x4 (ix2 a b) := by pointwise [k0_pay9]
theorem pay10_apply (x0 x1 : Vec Ideal S512x1024 .bf16) (x4 : Vec Ideal S1x1024 .f32) (p) (a b : Fin 1024) :
    k0_pay10 x0 x1 x4 p (ix2 a b) = p (ix2 a b) + k0_pay8 x0 x1 x4 (ix2 a b) := by pointwise [k0_pay10]
theorem pay12_apply (x0 x1 : Vec Ideal S512x1024 .bf16) (x5 : Vec Ideal S1024x1024 .bf16) (p) (j : Fin 1024) :
    k0_pay12 x0 x1 x5 p (ix2 0 j) = p (ix2 0 j) + k0_pay11 x0 x1 x5 (ix2 0 j) := by pointwise [k0_pay12]
theorem pay14_apply (h : Fin 32) (j : Fin 1024) : k0_pay14 (F := Ideal) (ix2 h j) = (0 : EReal) := by
  pointwise [k0_pay14]
theorem pay3_apply (p : Vec Ideal S1024x1024 .f32) (a b : Fin 1024) : k0_pay3 p (ix2 a b) = p (ix2 a b) := by
  pointwise [k0_pay3]
theorem pay4_apply (p : Vec Ideal S4x256x256 .f32) (g : Fin 4) (a b : Fin 256) : k0_pay4 p (ix3 g a b) = p (ix3 g a b) := by
  pointwise [k0_pay4]
theorem carried_apply (q : Vec Ideal S544x1024 .f32) (h : Fin 32) (j : Fin 1024) :
    carried q (ix2 h j) = q (ix2 ⟨h.val, by omega⟩ j) := by
  unfold carried
  pointwise [k0_pay15]

theorem holds_first (t : Fin cfg0.N) (h : ¬1 ≤ t.val) : Holds m c t := by
  obtain ⟨h1, h2, h3, h4, h5⟩ := step_first m c t h
  have e : t.val = 0 := by omega
  have hh : ∀ (j : Fin 1024), ∀ h < 32, (0 : EReal) = gQ (aDy m c) (aWpo m c) (aPs m c) (aPw m c) (512 * (7 - t.val) + (512 + h)) j :=
    fun j h _ => by unfold gQ; rw [dif_neg (by omega)]
  refine ⟨fun r j => ?_, fun j => ?_, fun n hn j => ?_, fun a b => ?_, fun g a b => ?_⟩
  · rw [h1, dpPieces_canon t.val _ _ _ _ _ (fun _ _ => 0) pay14_apply _ (by omega)]
    exact dp_at m c t _ r j (hh j)
  · rw [h2, scale_at, e, upTo_zero]
  · rw [h3, qPieces_canon t.val _ _ _ _ _ (fun _ _ => 0) pay14_apply _ (by omega)]
    exact q_at m c t _ n hn j (hh j)
  · rw [h4, pay9_apply, out_at, e, upTo_zero]
  · rw [h5, gPieces_canon _ _ _ _ _ (gfirst0 _ _ _ _ _) (gfirst1 _ _ _ _ _) (gfirst2 _ _ _ _ _) (gfirst3 _ _ _ _ _)]
    refine (mix_at m c t g a b).trans ?_
    rw [e, upTo_zero]

theorem mixNext_at (t : Fin cfg0.N) (acc : Vec Ideal S4x256x256 .f32) (g : Fin 4) (a b : Fin 256) :
    View.canon (gNext (iblk m c 0 t) (iblk m c 2 t) (iblk m c 5 t) (iblk m c 4 t) acc) (ix3 g a b)
      = acc (ix3 g a b) + tile (gPw (aDy m c) (aZ m c) (aWpo m c) (aPs m c) g a b) t.val :=
  (gPieces_canon _ _ _ _ (fun g a b => acc (ix3 g a b) + bGpw (iblk m c 0 t) (iblk m c 2 t) (iblk m c 5 t) (iblk m c 4 t) g a b)
    (gnext0 _ _ _ _ _ _ _) (gnext1 _ _ _ _ _ _ _) (gnext2 _ _ _ _ _ _ _) (gnext3 _ _ _ _ _ _ _) (ix3 g a b)).trans
    (congrArg (_ + ·) (mix_at m c t g a b))

theorem holds_next (t : Fin cfg0.N) (h : 1 ≤ t.val) (ih : Holds m c ⟨t.val - 1, by omega⟩) : Holds m c t := by
  have hN : t.val < 8 := lt_of_lt_of_eq t.isLt (show cfg0.N = 8 from N_0)
  obtain ⟨s, hs⟩ : ∃ s, t.val = s + 1 := ⟨t.val - 1, by omega⟩
  obtain ⟨p1, p2, p3, p4, p5⟩ := ih
  generalize hp : outsAt0 m c (t.val - 1) _ = prev at p1 p2 p3 p4 p5
  have hst := fun h7 => step_mid m c t h h7 prev hp.symm
  have hst' := fun h7 => step_last m c t h h7 prev hp.symm
  obtain ⟨h1, h2, h3, h4, h5⟩ :
      (outsAt0 m c t.val t.isLt).1
        = View.canon (dpPieces t.val (iblk m c 0 t) (iblk m c 5 t) (iblk m c 4 t) (iblk m c 3 t) (carried prev.2.2.2.2.1))
    ∧ (outsAt0 m c t.val t.isLt).2.2.2.1 = k0_pay12 (iblk m c 0 t) (iblk m c 1 t) (iblk m c 5 t) prev.2.2.2.1
    ∧ (outsAt0 m c t.val t.isLt).2.2.2.2.1
        = View.canon (qPieces t.val (iblk m c 0 t) (iblk m c 5 t) (iblk m c 4 t) (iblk m c 3 t) (carried prev.2.2.2.2.1))
    ∧ (outsAt0 m c t.val t.isLt).2.2.2.2.2.1 = k0_pay10 (iblk m c 0 t) (iblk m c 1 t) (iblk m c 4 t) prev.2.2.2.2.2.1
    ∧ (outsAt0 m c t.val t.isLt).2.2.2.2.2.2
        = View.canon (gNext (iblk m c 0 t) (iblk m c 2 t) (iblk m c 5 t) (iblk m c 4 t) prev.2.2.2.2.2.2) := by
    by_cases h7 : t.val % 8 = 7
    · obtain ⟨q1, q2, q3, q4, q5, -, -⟩ := hst' h7
      exact ⟨q1, q2, q3, q4, q5⟩
    · exact hst h7
  have hc : ∀ (h : Fin 32) j, carried prev.2.2.2.2.1 (ix2 h j)
      = gQ (aDy m c) (aWpo m c) (aPs m c) (aPw m c) (512 * (7 - t.val) + (512 + h.val)) j := fun h j => by
    rw [carried_apply, p3]
    exact congrArg (fun k => gQ _ _ _ _ k j) (by show 512 * (7 - (t.val - 1)) + h.val = _; omega)
  refine ⟨fun r j => ?_, fun j => ?_, fun n hn j => ?_, fun a b => ?_, fun g a b => ?_⟩
  · rw [h1, dpPieces_canon t.val _ _ _ _ _
      (fun h j => gQ (aDy m c) (aWpo m c) (aPs m c) (aPw m c) (512 * (7 - t.val) + (512 + h)) j) hc _ hN]
    exact dp_at m c t _ r j fun _ _ => rfl
  · rw [h2, pay12_apply, scale_at, p2]
    simp only [hs, upTo_succ, Nat.add_sub_cancel]
  · rw [h3, qPieces_canon t.val _ _ _ _ _
      (fun h j => gQ (aDy m c) (aWpo m c) (aPs m c) (aPw m c) (512 * (7 - t.val) + (512 + h)) j) hc _ hN]
    exact q_at m c t _ n hn j fun _ _ => rfl
  · rw [h4, pay10_apply, out_at, p4]
    simp only [hs, upTo_succ, Nat.add_sub_cancel]
  · rw [h5, mixNext_at, p5]
    simp only [hs, upTo_succ, Nat.add_sub_cancel]

theorem holds : ∀ (n : Nat) (hn : n < cfg0.N), Holds m c ⟨n, hn⟩
  | 0, hn => holds_first m c ⟨0, hn⟩ (by simp)
  | n + 1, hn => holds_next m c ⟨n + 1, hn⟩ (by simp) (holds n (by omega))

/-- What the last point writes out of the two accumulators. -/
theorem last (t : Fin cfg0.N) (h7 : t.val = 7) :
    (∀ a b : Fin 1024, (outsAt0 m c t.val t.isLt).2.1 (ix2 a b) = ∑ s, gWpo (aDy m c) (aZl m c) (aPs m c) a b s)
    ∧ ∀ (g : Fin 4) (a b : Fin 256), (outsAt0 m c t.val t.isLt).2.2.1 (ix3 g a b)
      = ∑ s, gPw (aDy m c) (aZ m c) (aWpo m c) (aPs m c) g a b s := by
  obtain ⟨-, -, -, h4, h5, h6, h7'⟩ := step_last m c t (by omega) (by omega) _ rfl
  have H := holds m c t.val t.isLt
  refine ⟨fun a b => ?_, fun g a b => ?_⟩
  · rw [← upTo_last, h6, ← h4, ← h7, pay3_apply]
    exact H.out a b
  · rw [← upTo_last, h7', ← h5, ← h7, pay4_apply]
    exact H.mix g a b

end Cert.PoolVal
-- ==== Proof.Finite.lean ====
module
public import proofs.«01_k».proof.Pre_finite
public import proofs.«01_k».proof.Proof.Totals
public import Idealize.ShloMosaic.PureOps.Ideal.Laws
public import Idealize.ShloMosaic.Lib.Pipeline.Value
@[expose] public section
set_option maxRecDepth 16384
noncomputable section
/-! What the precondition says: every entry of four of the arguments is a real number. -/
namespace Cert.PoolVal
open Idealize.ShloMosaic Cert.Sums

/-- The side conditions of the precondition. -/
theorem pre_facts : Cert.Pre_finite.Facts := ⟨by decide, by decide, by decide, by decide⟩

section
variable [Cert.Pre_finite.Facts]
variable (x0 x4 : Vec Ideal Cert.KernelIdeal.S4096x1024 .f32) (x1 : Vec Ideal Cert.KernelIdeal.S4x256x256 .f32)
  (x2 : Vec Ideal Cert.KernelIdeal.S1024 .f32) (x3 : Vec Ideal Cert.KernelIdeal.S1024x1024 .f32)

/-- The four arguments, laid one below the other. -/
def stacked : Vec Ideal Cert.Pre_finite.S5377x1024 .f32 :=
  concatenate Cert.Pre_finite.S5377x1024 0 [⟨Cert.Pre_finite.S4096x1024, x4⟩, ⟨Cert.Pre_finite.S1024x1024, x3⟩,
    ⟨Cert.Pre_finite.S256x1024, shapeCast Cert.Pre_finite.S256x1024 x1 Cert.Pre_finite.Facts.shapeCasts_S4x256x256_S256x1024⟩,
    ⟨Cert.Pre_finite.S1x1024, shapeCast Cert.Pre_finite.S1x1024 x2 Cert.Pre_finite.Facts.shapeCasts_S1024_S1x1024⟩]
    Cert.Pre_finite.Facts.concatenates_S4096x1024_S1024x1024_S256x1024_S1x1024_S5377x1024_d0

variable (h : Cert.Pre_finite.fn (F := Ideal) x0 x1 x2 x3 x4 = fun _ => 1#1)
include h

/-- Every entry of the stack is a real number. -/
theorem stacked_real (i : Cert.Pre_finite.S5377x1024.Idx) : Real? (stacked x4 x1 x2 x3 i) := by
  have e := congrFun h i
  have e' : Ideal.cmp .olt (max (stacked x4 x1 x2 x3 i) (-(stacked x4 x1 x2 x3 i))) (Ideal.ofBits .f32 0x7F800000#32) = 1#1 := e
  refine Real?.of_abs_lt_top ?_
  have top : Ideal.ofBits .f32 0x7F800000#32 = ⊤ := by simp [Ideal.ofBits, Ideal.ieee]
  rw [top] at e'
  by_contra hn
  have : Ideal.cmp .olt (max (stacked x4 x1 x2 x3 i) (-(stacked x4 x1 x2 x3 i))) ⊤ = BitVec.ofBool false :=
    congrArg BitVec.ofBool (decide_eq_false hn)
  rw [this] at e'
  exact absurd e' (by decide)

theorem real4 (s : Fin 4096) (j : Fin 1024) : Real? (x4 (ix2 s j)) := by
  have := stacked_real x0 x4 x1 x2 x3 h (ix2 (⟨s.val, by omega⟩ : Fin 5377) j)
  unfold stacked at this
  rwa [concatenate_apply_piece (t := Cert.Pre_finite.S5377x1024) 0 _ _ _ 0 (by simp) Cert.Pre_finite.S4096x1024 x4 rfl rfl 0 rfl (ix2 s j)
    (fun b hb => by
      match b with
      | ⟨0, _⟩ => exact absurd rfl hb
      | ⟨1, _⟩ => rfl) (Nat.zero_add _)] at this

theorem real3 (a b : Fin 1024) : Real? (x3 (ix2 a b)) := by
  have := stacked_real x0 x4 x1 x2 x3 h (ix2 (⟨4096 + a.val, by omega⟩ : Fin 5377) b)
  unfold stacked at this
  rwa [concatenate_apply_piece (t := Cert.Pre_finite.S5377x1024) 0 _ _ _ 1 (by simp) Cert.Pre_finite.S1024x1024 x3 rfl rfl 4096 rfl (ix2 a b)
    (fun b hb => by
      match b with
      | ⟨0, _⟩ => exact absurd rfl hb
      | ⟨1, _⟩ => rfl) rfl] at this

theorem real1 (g : Fin 4) (a b : Fin 256) : Real? (x1 (ix3 g a b)) := by
  have hr : (g.val * 256 + a.val) * 256 + b.val < 262144 := by omega
  have := stacked_real x0 x4 x1 x2 x3 h (ix2 (⟨5120 + ((g.val * 256 + a.val) * 256 + b.val) / 1024, by omega⟩ : Fin 5377)
    (⟨((g.val * 256 + a.val) * 256 + b.val) % 1024, by omega⟩ : Fin 1024))
  unfold stacked at this
  rwa [concatenate_apply_piece (t := Cert.Pre_finite.S5377x1024) 0 _ _ _ 2 (by simp) Cert.Pre_finite.S256x1024 _ rfl rfl 5120 rfl
    (ix2 (⟨((g.val * 256 + a.val) * 256 + b.val) / 1024, by omega⟩ : Fin 256)
      (⟨((g.val * 256 + a.val) * 256 + b.val) % 1024, by omega⟩ : Fin 1024))
    (fun b hb => by
      match b with
      | ⟨0, _⟩ => exact absurd rfl hb
      | ⟨1, _⟩ => rfl) rfl,
    shapeCast_apply _ _ _ (ix3 g a b) (by
      rw [Shape.rowMajor_val_three, Shape.rowMajor_val_two]
      show (g.val * 256 + a.val) * 256 + b.val = _ / 1024 * 1024 + _ % 1024
      omega)] at this

theorem real2 (j : Fin 1024) : Real? (x2 (ix1 j)) := by
  have := stacked_real x0 x4 x1 x2 x3 h (ix2 (5376 : Fin 5377) j)
  unfold stacked at this
  rwa [concatenate_apply_piece (t := Cert.Pre_finite.S5377x1024) 0 _ _ _ 3 (by simp) Cert.Pre_finite.S1x1024 _ rfl rfl 5376 rfl (ix2 (0 : Fin 1) j)
    (fun b hb => by
      match b with
      | ⟨0, _⟩ => exact absurd rfl hb
      | ⟨1, _⟩ => rfl) rfl,
    shapeCast_apply _ _ _ (ix1 j) (by
      rw [Shape.rowMajor_val_one, Shape.rowMajor_val_two]
      show j.val = 0 * 1024 + j.val
      omega)] at this
end
end Cert.PoolVal
-- ==== Proof.Arrays.lean ====
module
public import proofs.«01_k».proof.Proof.Totals
public import proofs.«01_k».proof.Proof.Gen.KernelIdeal.Value
public import Idealize.ShloMosaic.Lib.Pipeline.ValueKit.Geometry
@[expose] public section
set_option maxRecDepth 16384
noncomputable section
/-! The four arrays the call returns. -/
namespace Cert.PoolVal
open Idealize.ShloMosaic Idealize.ShloMosaic.TcCoe Idealize.SL.Sem
open Cert.KernelIdeal Cert.KernelIdeal.Gen

variable (m : (ℓ : Loc nD τ sig) → Buf (Elt Ideal) ℓ) (c : Dev nD)

/-- The gradient of the branch's input. -/
def outDp : Vec Ideal S4096x1024 .bf16 := fun i => gDp (aDy m c) (aWpo m c) (aPs m c) (aPw m c) (i 0) (i 1)
/-- The gradient of the output weight. -/
def outWpo : Vec Ideal S1024x1024 .bf16 := fun i => ∑ s, gWpo (aDy m c) (aZl m c) (aPs m c) (i 0) (i 1) s
/-- The gradient of the mixing weights. -/
def outPw : Vec Ideal S4x256x256 .bf16 := fun i => ∑ s, gPw (aDy m c) (aZ m c) (aWpo m c) (aPs m c) (i 0) (i 1) (i 2) s
/-- The gradient of the scale. -/
def outPs : Vec Ideal S1x1024 .f32 := fun i => ∑ s, gPs (aDy m c) (aZl m c) (aWpo m c) (i 1) s

theorem index6 : ∀ t : Fin cfg0.N, win0_6.index t 0 = 7 - t.val ∧ win0_6.index t 1 = 0 := fun t => (index0 t).2.2.2
theorem index7 : ∀ t : Fin cfg0.N, (win0_7.index t 0 = 0 ∧ win0_7.index t 1 = 0)
    ∧ (win0_8.index t 0 = 0 ∧ win0_8.index t 1 = 0 ∧ win0_8.index t 2 = 0)
    ∧ (win0_9.index t 0 = 0 ∧ win0_9.index t 1 = 0) := by decide +kernel
theorem flush7 : ∀ t : Fin cfg0.N, ((cfg0.win 7).flush t = true → t.val = 7) ∧ ((cfg0.win 8).flush t = true → t.val = 7)
    ∧ ((cfg0.win 9).flush t = true → t.val = 7) := by decide +kernel

theorem arr6 : (dats m 0 c).arrAt 6 cfg0.N = outDp m c := by
  refine (dats m 0 c).arrAt_eq_of_covers 6 (outDp m c) (by decide +kernel) fun t hf y => ?_
  have h := index6 t
  obtain ⟨r, j, rfl⟩ : ∃ (r : Fin 512) (j : Fin 1024), y = ix2 r j := ⟨y 0, y 1, eq_ix2 y⟩
  have e : ((cfg0.win 6).blk t).view.emb (ix2 r j) = ix2 (row t r) j := funext fun i => Fin.ext (by
    match i with
    | ⟨0, _⟩ => show win0_6.index t 0 * 512 + 1 * r.val = 512 * (7 - t.val) + r.val; rw [h.1]; omega
    | ⟨1, _⟩ => show win0_6.index t 1 * 1024 + 1 * j.val = j.val; rw [h.2]; omega)
  rw [e, after0_6]
  exact (holds m c t.val t.isLt).dp r j

theorem arr7 : (dats m 0 c).arrAt 7 cfg0.N = outWpo m c := by
  refine (dats m 0 c).arrAt_eq_of_covers 7 (outWpo m c) (by decide +kernel) fun t hf y => ?_
  have h := (index7 t).1
  obtain ⟨a, b, rfl⟩ : ∃ (a : Fin 1024) (b : Fin 1024), y = ix2 a b := ⟨y 0, y 1, eq_ix2 y⟩
  have e : ((cfg0.win 7).blk t).view.emb (ix2 a b) = ix2 a b := funext fun i => Fin.ext (by
    match i with
    | ⟨0, _⟩ => show win0_7.index t 0 * 1024 + 1 * a.val = a.val; rw [h.1]; omega
    | ⟨1, _⟩ => show win0_7.index t 1 * 1024 + 1 * b.val = b.val; rw [h.2]; omega)
  rw [e, after0_7]
  exact (last m c t ((flush7 t).1 hf)).1 a b

theorem arr8 : (dats m 0 c).arrAt 8 cfg0.N = outPw m c := by
  refine (dats m 0 c).arrAt_eq_of_covers 8 (outPw m c) (by decide +kernel) fun t hf y => ?_
  have h := (index7 t).2.1
  obtain ⟨g, a, b, rfl⟩ : ∃ (g : Fin 4) (a b : Fin 256), y = ix3 g a b := ⟨y 0, y 1, y 2, eq_ix3 y⟩
  have e : ((cfg0.win 8).blk t).view.emb (ix3 g a b) = ix3 g a b := funext fun i => Fin.ext (by
    match i with
    | ⟨0, _⟩ => show win0_8.index t 0 * 4 + 1 * g.val = g.val; rw [h.1]; omega
    | ⟨1, _⟩ => show win0_8.index t 1 * 256 + 1 * a.val = a.val; rw [h.2.1]; omega
    | ⟨2, _⟩ => show win0_8.index t 2 * 256 + 1 * b.val = b.val; rw [h.2.2]; omega)
  rw [e, after0_8]
  exact (last m c t ((flush7 t).2.1 hf)).2 g a b

theorem arr9 : (dats m 0 c).arrAt 9 cfg0.N = outPs m c := by
  refine (dats m 0 c).arrAt_eq_of_covers 9 (outPs m c) (by decide +kernel) fun t hf y => ?_
  have h := (index7 t).2.2
  have h7 := (flush7 t).2.2 hf
  obtain ⟨a, j, rfl⟩ : ∃ (a : Fin 1) (j : Fin 1024), y = ix2 a j := ⟨y 0, y 1, eq_ix2 y⟩
  obtain rfl : a = 0 := Subsingleton.elim _ _
  have e : ((cfg0.win 9).blk t).view.emb (ix2 (0 : Fin 1) j) = ix2 0 j := funext fun i => Fin.ext (by
    match i with
    | ⟨0, _⟩ => show win0_9.index t 0 * 1 + 1 * 0 = 0; rw [h.1]
    | ⟨1, _⟩ => show win0_9.index t 1 * 1024 + 1 * j.val = j.val; rw [h.2]; omega)
  rw [e, after0_9]
  refine ((holds m c t.val t.isLt).scale j).trans ?_
  rw [show (⟨t.val, t.isLt⟩ : Fin cfg0.N).val = 7 from h7, upTo_last]
  rfl

/-- The run with its four results named. -/
theorem run_values (ρ) : θ_run defs (onTc (τ := τ) (main (F := Ideal))) ⟨m, fun _ => 0, ρ⟩ fun r => ∀ c : Dev nD,
      r.2.mem ((c : Thread nD τ).loc main_v70_0) = outDp m c
      ∧ r.2.mem ((c : Thread nD τ).loc main_v70_1) = outWpo m c
      ∧ r.2.mem ((c : Thread nD τ).loc main_v70_2) = outPw m c
      ∧ r.2.mem ((c : Thread nD τ).loc main_v70_3) = outPs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Cert.KernelIdeal.Value.run_blocks m ρ)
  obtain ⟨h6, h7, h8, h9, hr⟩ := h c
  exact ⟨h6.trans (arr6 m c), h7.trans (arr7 m c), h8.trans (arr8 m c), h9.trans (arr9 m c), hr⟩

end Cert.PoolVal
-- ==== Proof.Host.lean ====
module
public import proofs.«01_k».proof.Proof.Gen.KernelIdeal.Frame
public import proofs.«01_k».proof.Proof.Gen.ReferenceIdeal.Read
public import Idealize.ShloMosaic.Lib.StableHlo.ReadAt
public import Idealize.ShloMosaic.Lib.Pointwise
@[expose] public section
set_option maxRecDepth 16384
noncomputable section
/-! The operands the host prepares for the call, as functions of the arguments. -/
namespace Cert.PoolVal
open Idealize.ShloMosaic Idealize.ShloMosaic.TcCoe Idealize.SL.Sem Idealize.ShloMosaic.StableHlo
open Cert.KernelIdeal Cert.KernelIdeal.Gen
open Cert.ReferenceIdeal.Read (val_main_v9 val_main_v15 val_main_v17 val_main_v22 val_main_v28 val_main_v30 val_main_v35 val_main_v41 val_main_v43
  val_main_v48 val_main_v54 val_main_v56 val_main_v57 val_main_v58 val_main_v59 val_main_v60 val_main_v61 val_main_v62 val_main_v63 val_main_v64 val_main_v65)

/-- Two parts laid side by side agree when the parts do. -/
theorem cat2 {α : Type} {t s₁ s₂ : Shape} {ax : Fin t.rank} {a a' : s₁.Idx → α} {b b' : s₂.Idx → α}
    (ha : a = a') (hb : b = b') (h : Shape.Concatenates [s₁, s₂] t ax) :
    concatenate t ax [⟨s₁, a⟩, ⟨s₂, b⟩] h = concatenate t ax [⟨s₁, a'⟩, ⟨s₂, b'⟩] h := by
  subst ha hb; rfl

/-- Four parts laid side by side agree when the parts do. -/
theorem cat4 {α : Type} {t s : Shape} {ax : Fin t.rank} {a a' b b' d d' e e' : s.Idx → α}
    (ha : a = a') (hb : b = b') (hd : d = d') (he : e = e') (h : Shape.Concatenates [s, s, s, s] t ax) :
    concatenate t ax [⟨s, a⟩, ⟨s, b⟩, ⟨s, d⟩, ⟨s, e⟩] h = concatenate t ax [⟨s, a'⟩, ⟨s, b'⟩, ⟨s, d'⟩, ⟨s, e'⟩] h := by
  subst ha hb hd he; rfl

/-- Two averages agree when the running sums, the sums before the window and the counts do. -/
theorem avg_congr {x x' y y' n n' : FVec Ideal S4096x256 .f32} (hx : x = x') (hy : y = y') (hn : n = n') :
    broadcastInDim S4096x1x256 ![0, 2] bcast_S4096x256_S4096x1x256_0_2 (Host.divf (subf x y) n)
      = broadcastInDim S4096x1x256 ![0, 2] bcast_S4096x256_S4096x1x256_0_2 (Host.divf (subf x' y') n') := by
  subst hx hy hn; rfl

variable (m : (ℓ : Loc nD τ sig) → Buf (Elt Ideal) ℓ) (c : Dev nD)

theorem host_dy : (V m c main_v62 : Vec Ideal S4096x1024 .bf16) = m ((c : Thread nD τ).loc main_arg4) := by
  unfold V
  after_reads_simp
  rfl

theorem host_pw : (V m c main_v66 : Vec Ideal S4x256x256 .bf16) = m ((c : Thread nD τ).loc main_arg1) := by
  unfold V
  after_reads_simp
  rfl

theorem host_wpo : (V m c main_v68 : Vec Ideal S1024x1024 .bf16) = m ((c : Thread nD τ).loc main_arg3) := by
  unfold V
  after_reads_simp
  rfl

theorem host_ps (j : Fin 1024) : (V m c main_v67 : Vec Ideal S1x1024 .f32) (ix2 0 j) = m ((c : Thread nD τ).loc main_arg2) (ix1 j) := by
  unfold V
  after_reads_at

/-- The host's averages over windows of 2 are the reference's. -/
theorem host_avg2 : upto [hostOps0, hostOps0_1, hostOps0_2].flatten (fun b => m (c, b)) 68 (Proc.devRef .tc main_v53)
    = val_main_v57 (F := Ideal) (m ((c : Thread nD τ).loc main_arg0)) := by
  after_reads_simp
  unfold val_main_v57 val_main_v17 val_main_v15 val_main_v9
  refine avg_congr ?_ (cat2 ?_ ?_ _) ?_
  · rfl
  · after_reads_simp
    rfl
  · after_reads_simp
    rfl
  · rfl

/-- The host's averages over windows of 4 are the reference's. -/
theorem host_avg4 : upto [hostOps0, hostOps0_1, hostOps0_2].flatten (fun b => m (c, b)) 68 (Proc.devRef .tc main_v54)
    = val_main_v58 (F := Ideal) (m ((c : Thread nD τ).loc main_arg0)) := by
  after_reads_simp
  unfold val_main_v58 val_main_v30 val_main_v28 val_main_v22
  refine avg_congr ?_ (cat2 ?_ ?_ _) ?_
  · rfl
  · after_reads_simp
    rfl
  · after_reads_simp
    rfl
  · rfl

/-- The host's averages over windows of 8 are the reference's. -/
theorem host_avg8 : upto [hostOps0, hostOps0_1, hostOps0_2].flatten (fun b => m (c, b)) 68 (Proc.devRef .tc main_v55)
    = val_main_v59 (F := Ideal) (m ((c : Thread nD τ).loc main_arg0)) := by
  after_reads_simp
  unfold val_main_v59 val_main_v43 val_main_v41 val_main_v35
  refine avg_congr ?_ (cat2 ?_ ?_ _) ?_
  · rfl
  · after_reads_simp
    rfl
  · after_reads_simp
    rfl
  · rfl

/-- The host's averages over windows of 16 are the reference's. -/
theorem host_avg16 : upto [hostOps0, hostOps0_1, hostOps0_2].flatten (fun b => m (c, b)) 68 (Proc.devRef .tc main_v56)
    = val_main_v60 (F := Ideal) (m ((c : Thread nD τ).loc main_arg0)) := by
  after_reads_simp
  unfold val_main_v60 val_main_v56 val_main_v54 val_main_v48
  refine avg_congr ?_ (cat2 ?_ ?_ _) ?_
  · rfl
  · after_reads_simp
    rfl
  · after_reads_simp
    rfl
  · rfl

/-- The host's averages less the inputs are the reference's. -/
theorem host_sub : subf (F := Ideal) (s := S4096x4x256) (φ := .f32) (concatenate S4096x4x256 1
      [⟨S4096x1x256, upto [hostOps0, hostOps0_1, hostOps0_2].flatten (fun b => m (c, b)) 68 (Proc.devRef .tc main_v53)⟩,
        ⟨S4096x1x256, upto [hostOps0, hostOps0_1, hostOps0_2].flatten (fun b => m (c, b)) 68 (Proc.devRef .tc main_v54)⟩,
        ⟨S4096x1x256, upto [hostOps0, hostOps0_1, hostOps0_2].flatten (fun b => m (c, b)) 68 (Proc.devRef .tc main_v55)⟩,
        ⟨S4096x1x256, upto [hostOps0, hostOps0_1, hostOps0_2].flatten (fun b => m (c, b)) 68 (Proc.devRef .tc main_v56)⟩]
        concatenates_S4096x1x256_S4096x1x256_S4096x1x256_S4096x1x256_S4096x4x256_d1)
      (fun i => shapeCast S4096x4x256 (m ((c : Thread nD τ).loc main_arg0)) shapeCasts_S4096x1024_S4096x4x256 i)
    = val_main_v62 (F := Ideal) (m ((c : Thread nD τ).loc main_arg0)) := by
  unfold val_main_v62 val_main_v61
  rw [← host_avg2, ← host_avg4, ← host_avg8, ← host_avg16]
  rfl

/-- The pooled differences handed to the call. -/
theorem host_z : (V m c main_v65 : Vec Ideal S4096x1024 .bf16)
    = shapeCast S4096x1024 (val_main_v62 (F := Ideal) (m ((c : Thread nD τ).loc main_arg0))) shapeCasts_S4096x4x256_S4096x1024 := by
  unfold V
  after_reads_simp
  exact congrArg (fun z => shapeCast S4096x1024 z shapeCasts_S4096x4x256_S4096x1024) (host_sub m c)

/-- The mixed differences handed to the call. -/
theorem host_zl : (V m c main_v63 : Vec Ideal S4096x1024 .bf16)
    = val_main_v65 (F := Ideal) (m ((c : Thread nD τ).loc main_arg0)) (m ((c : Thread nD τ).loc main_arg1)) := by
  unfold V
  after_reads_simp
  unfold val_main_v65 val_main_v64 val_main_v63
  rw [← host_sub]
  rfl

end Cert.PoolVal
-- ==== Proof.Reference.lean ====
module
public import proofs.«01_k».proof.Proof.Gen.ReferenceIdeal.Read
public import proofs.«01_k».proof.Proof.Totals
public import Idealize.ShloMosaic.Lib.Pointwise
public import Idealize.ShloMosaic.Lib.KernelVsHost
@[expose] public section
set_option maxRecDepth 16384
noncomputable section
/-! What the reference computes, at an index. -/
namespace Cert.PoolVal
open Idealize.ShloMosaic Idealize.ShloMosaic.TcCoe
open Cert.KernelIdeal (S4096x1024 S4x256x256 S1024x1024 S1x1024 S4096x4x256 S4096x256 S4096x1x256 S1024)
open Cert.ReferenceIdeal.Read

/-- Index `n` of a column of windows. -/
theorem window_index (n : Fin (⟨3, ![4096, 1, 1]⟩ : Shape).numel) :
    ((⟨3, ![4096, 1, 1]⟩ : Shape).rowMajor.symm n) = ix3 (⟨n.val, lt_of_lt_of_eq n.isLt (by decide)⟩ : Fin 4096) (0 : Fin 1) (0 : Fin 1) := by
  rw [Equiv.symm_apply_eq]
  apply Fin.ext
  rw [Shape.rowMajor_val_three]
  show n.val = (n.val * 1 + 0) * 1 + 0
  omega

/-- A running addition over the positions of a list of known length is a sum. -/
theorem foldl_sum {n N : ℕ} (hn : n = N) (f : Fin n → EReal) (g : ℕ → EReal) (hf : ∀ i, f i = g i.val) :
    (List.finRange n).foldl (fun r i => r + f i) 0 = ∑ k ∈ Finset.range N, g k := by
  subst hn
  rw [← Fin.sum_univ_eq_sum_range, Fin.sum_univ_def, List.sum_eq_foldl, List.foldl_map]
  simp only [hf]

/-- The running sum from the last row: row `s` of the result holds the sum of the rows from `s` on. -/
theorem running (x : S4096x4x256.Idx → EReal) (h) (s : Fin 4096) (g : Fin 4) (d : Fin 256) :
    Ideal.hostReduceWindowAdd ![4096, 1, 1] ![1, 1, 1] ![0, 0, 0] ![4095, 0, 0] (s := S4096x4x256) (t := S4096x4x256) h x 0 (ix3 s g d)
      = ∑ k ∈ Finset.range 4096, if h : s.val + k < 4096 then x (ix3 ⟨s.val + k, h⟩ g d) else 0 := by
  unfold Ideal.hostReduceWindowAdd Host.reduceWindow
  refine foldl_sum (by decide) _ (fun k => if h : s.val + k < 4096 then x (ix3 ⟨s.val + k, h⟩ g d) else 0) fun n => ?_
  have e := window_index n
  have w0 : ((⟨3, ![4096, 1, 1]⟩ : Shape).rowMajor.symm n 0).val = n.val := by rw [e]; rfl
  have w1 : ((⟨3, ![4096, 1, 1]⟩ : Shape).rowMajor.symm n 1).val = 0 := by rw [e]; rfl
  have w2 : ((⟨3, ![4096, 1, 1]⟩ : Shape).rowMajor.symm n 2).val = 0 := by rw [e]; rfl
  have p0 : s.val * 1 + ((⟨3, ![4096, 1, 1]⟩ : Shape).rowMajor.symm n 0).val - 0 = s.val + n.val := by rw [w0]; omega
  have p1 : g.val * 1 + ((⟨3, ![4096, 1, 1]⟩ : Shape).rowMajor.symm n 1).val - 0 = g.val := by rw [w1]; omega
  have p2 : d.val * 1 + ((⟨3, ![4096, 1, 1]⟩ : Shape).rowMajor.symm n 2).val - 0 = d.val := by rw [w2]; omega
  by_cases hs : s.val + n.val < 4096
  · rw [dif_pos hs, dif_pos fun a => by
      match a with
      | ⟨0, _⟩ => exact ⟨Nat.zero_le _, lt_of_eq_of_lt p0 hs⟩
      | ⟨1, _⟩ => exact ⟨Nat.zero_le _, lt_of_eq_of_lt p1 g.isLt⟩
      | ⟨2, _⟩ => exact ⟨Nat.zero_le _, lt_of_eq_of_lt p2 d.isLt⟩]
    refine congrArg x (funext fun a => Fin.ext ?_)
    match a with
    | ⟨0, _⟩ => exact p0
    | ⟨1, _⟩ => exact p1
    | ⟨2, _⟩ => exact p2
  · rw [dif_neg hs, dif_neg fun hin => hs (lt_of_eq_of_lt p0.symm (hin 0).2)]

variable (x0 : Vec Ideal S4096x1024 .f32) (x1 : Vec Ideal S4x256x256 .f32) (x2 : Vec Ideal S1024 .f32) (x3 : Vec Ideal S1024x1024 .f32)
  (x4 : Vec Ideal S4096x1024 .f32)

/-- The scale as a row. -/
def scale : Vec Ideal S1x1024 .f32 := fun i => x2 (ix1 (i 1))

theorem r72 (s : Fin 4096) (j : Fin 1024) : val_main_v72 (F := Ideal) x3 x4 (ix2 s j) = gDzs x4 x3 s j := by
  rw [val_main_v72_apply]
  refine Finset.sum_congr rfl fun k _ => ?_
  rw [show lidx_main_v72 (ix2 s j) k = ix2 s k from eq_ix2 _, show ridx_main_v72 (ix2 s j) k = ix2 j k from eq_ix2 _]

theorem scale_row (s : Fin 4096) (j : Fin 1024) : val_main_v76 (F := Ideal) x2 (ix2 s j) = scale x2 (ix2 0 j) := by
  rw [val_main_v76_apply, val_main_v66_apply]
  exact congrArg x2 (eq_ix1 _)

theorem r77 (s : Fin 4096) (j : Fin 1024) : val_main_v77 (F := Ideal) x2 x3 x4 (ix2 s j) = gDzl x4 x3 (scale x2) s j := by
  rw [val_main_v77_apply, r72, scale_row]
  rfl

theorem r80 (g : Fin 4) (k : Fin 256) (s : Fin 4096) :
    val_main_v80 (F := Ideal) x2 x3 x4 (ix3 g k s) = gDzl x4 x3 (scale x2) s (col g k) := by
  rw [val_main_v80_apply, val_main_v79_apply, ← r77]
  refine congrArg _ ((eq_ix2 _).trans (congrArg₂ ix2 (Fin.ext ?_) (Fin.ext ?_)))
  · show ((s.val * 4 + g.val) * 256 + k.val) / 1024 = s.val
    omega
  · show ((s.val * 4 + g.val) * 256 + k.val) % 1024 = 256 * g.val + k.val
    omega

/-- The gradient of the pooled rows. -/
theorem r82 (s : Fin 4096) (g : Fin 4) (d : Fin 256) :
    val_main_v82 (F := Ideal) x1 x2 x3 x4 (ix3 s g d) = gDz x4 x3 (scale x2) x1 s g d := by
  rw [val_main_v82_apply, show idx_main_v82 (ix3 s g d) = ix3 g s d from eq_ix3 _, val_main_v81_apply]
  refine Finset.sum_congr rfl fun k _ => ?_
  rw [show lidx_main_v81 (ix3 g s d) k = ix3 g k s from eq_ix3 _, show ridx_main_v81 (ix3 g s d) k = ix3 g d k from eq_ix3 _, r80]

/-- The gradient of the mixing weights. -/
theorem r138 (g : Fin 4) (a b : Fin 256) :
    val_main_v138 (F := Ideal) x0 x2 x3 x4 (ix3 g a b)
      = ∑ s, val_main_v62 (F := Ideal) x0 (ix3 s g a) * gDzl x4 x3 (scale x2) s (col g b) := by
  rw [val_main_v138_apply, val_main_v84_apply, show idx_main_v84 (ix3 g a b) = ix3 g b a from eq_ix3 _, val_main_v83_apply]
  refine Finset.sum_congr rfl fun k _ => ?_
  rw [show lidx_main_v83 (ix3 g b a) k = ix3 g b k from eq_ix3 _, show ridx_main_v83 (ix3 g b a) k = ix3 k g a from eq_ix3 _, r80]
  exact mul_comm _ _

/-- The gradient of the output weight. -/
theorem r137 (a b : Fin 1024) :
    val_main_v137 (F := Ideal) x0 x1 x2 x4 (ix2 a b) = ∑ s, gWpo x4 (val_main_v65 (F := Ideal) x0 x1) (scale x2) a b s := by
  rw [val_main_v137_apply, val_main_v71_apply, show idx_main_v71 (ix2 a b) = ix2 b a from eq_ix2 _, val_main_v70_apply]
  refine Finset.sum_congr rfl fun k _ => ?_
  rw [show lidx_main_v70 (ix2 b a) k = ix2 k b from eq_ix2 _, show ridx_main_v70 (ix2 b a) k = ix2 k a from eq_ix2 _,
    val_main_v68_apply, val_main_v67_apply, val_main_v66_apply]
  refine (mul_comm _ _).trans (congrArg (· * _) (congrArg (_ * ·) ?_))
  exact congrArg x2 (eq_ix1 _)

theorem zero_word : FloatOps.ofBits (F := Ideal) .f32 0x00000000#32 = 0 := by
  simp [Ideal.ofBits, Ideal.ieee]

/-- The gradient of the scale. -/
theorem r139 (j : Fin 1024) :
    val_main_v139 (F := Ideal) x0 x1 x3 x4 (ix2 0 j) = ∑ s, gPs x4 (val_main_v65 (F := Ideal) x0 x1) x3 j s := by
  rw [val_main_v139_apply, val_main_v78_apply, Fin.sum_univ_one, val_main_v75_apply, val_main_v74_apply, val_main_cst_11_apply,
    val_main_cst_12_apply, zero_word, zero_add, zero_add]
  refine Finset.sum_congr rfl fun k _ => ?_
  have e : idx_main_v74 (idx_main_v75 (idx_main_v78 (idx_main_v139 (ix2 0 j)) 0)) k = ix2 k j :=
    (eq_ix2 _).trans (congrArg (ix2 k) (Fin.ext (by
      show 0 * 1024 + (0 * 1024 + j.val) = j.val
      omega)))
  rw [e, val_main_v73_apply, r72]
  exact mul_comm _ _

/-! The gradient of the branch's input. -/

/-- A whole number held in a word. -/
theorem word_value (n : Nat) (h : n < 2 ^ 31) : FloatOps.sitofp (F := Ideal) .f32 (BitVec.ofNat 32 n) = ((n : ℕ) : EReal) := by
  show (((BitVec.ofNat 32 n).toInt : ℝ) : EReal) = _
  rw [toInt_ofNat n h]
  push_cast
  rfl

/-- A value over the number of rows pooled, from the words the reference computes that number of. -/
theorem over_count (n w : Nat) (hn : n < 4096) (hw : 1 ≤ w) (hw' : w ≤ 16) (x : EReal) :
    Ideal.div x (FloatOps.sitofp (F := Ideal) .f32 (IntOp.minsi (IntOp.addi 1#32 (BitVec.ofNat 32 n)) (BitVec.ofNat 32 w)))
      = x * ((min (n + 1) w : ℕ) : EReal)⁻¹ := by
  have e : IntOp.addi 1#32 (BitVec.ofNat 32 n) = BitVec.ofNat 32 (n + 1) := by
    apply BitVec.eq_of_toNat_eq
    simp only [IntOp.addi, BitVec.toNat_add, BitVec.toNat_ofNat]
    omega
  have e2 : IntOp.minsi (BitVec.ofNat 32 (n + 1)) (BitVec.ofNat 32 w) = BitVec.ofNat 32 (min (n + 1) w) := by
    unfold IntOp.minsi
    rw [BitVec.slt_eq_decide, toInt_ofNat _ (by omega), toInt_ofNat _ (by omega)]
    by_cases h : n + 1 < w
    · rw [if_pos (by simpa using by exact_mod_cast h), min_eq_left (by omega)]
    · rw [if_neg (by simpa using by exact_mod_cast not_lt.mp h), min_eq_right (by omega)]
  rw [e, e2, word_value _ (by omega), Ideal.div, if_neg (count_ne _ (by omega))]

/-- Rows followed by rows of a constant, at an index. -/
theorem pad_rows {N w : Nat} (z : (⟨2, ![N, 256]⟩ : Shape).Idx → EReal) (v : Cert.ReferenceIdeal.S_.Idx → EReal) (h) (hu)
    (s : Fin 4096) (d : Fin 256) :
    pad (s := ⟨2, ![N, 256]⟩) S4096x256 ![0, 0] ![w, 0] ![0, 0] z v h hu (ix2 s d)
      = if hs : s.val < N then z (ix2 ⟨s.val, hs⟩ d) else v (Shape.Idx.first hu) := by
  by_cases hs : s.val < N
  · rw [dif_pos hs]
    refine pad_apply_of_inside _ _ _ z v h hu _ _ fun a => ?_
    match a with
    | ⟨0, _⟩ => show s.val = 0 + s.val * (0 + 1); omega
    | ⟨1, _⟩ => show d.val = 0 + d.val * (0 + 1); omega
  · rw [dif_neg hs]
    refine pad_apply_of_not_inside _ _ _ z v h hu _ 0 fun hin => hs ?_
    have := hin.2.2
    change (s.val - 0) / (0 + 1) < N at this
    simpa using this

/-- One group among constants, at an index. -/
theorem pad_group {k l : Nat} (z : S4096x1x256.Idx → EReal) (v : Cert.ReferenceIdeal.S_.Idx → EReal) (h) (hu)
    (s : Fin 4096) (g : Fin 4) (d : Fin 256) :
    pad (s := S4096x1x256) S4096x4x256 ![0, k, 0] ![0, l, 0] ![0, 0, 0] z v h hu (ix3 s g d)
      = if g.val = k then z (ix3 s 0 d) else v (Shape.Idx.first hu) := by
  by_cases hs : g.val = k
  · rw [if_pos hs]
    refine pad_apply_of_inside _ _ _ z v h hu _ _ fun a => ?_
    match a with
    | ⟨0, _⟩ => show s.val = 0 + s.val * (0 + 1); omega
    | ⟨1, _⟩ => show g.val = k + 0 * (0 + 1); omega
    | ⟨2, _⟩ => show d.val = 0 + d.val * (0 + 1); omega
  · rw [if_neg hs]
    refine pad_apply_of_not_inside _ _ _ z v h hu _ 1 fun hin => hs ?_
    have h1 := hin.1
    have h2 := hin.2.2
    change k ≤ g.val at h1
    change (g.val - k) / (0 + 1) < 1 at h2
    simp at h2
    omega

/-- The gradient of the pooled row over the number of rows pooled, at row `n` of group `g`. -/
theorem gQ_col (n : Nat) (hn : n < 4096) (g : Fin 4) (d : Fin 256) :
    gQ x4 x3 (scale x2) x1 n (col g d)
      = gDz x4 x3 (scale x2) x1 ⟨n, hn⟩ g d * ((min (n + 1) (2 ^ (g.val + 1)) : ℕ) : EReal)⁻¹ := by
  rw [gQ, dif_pos hn, grp_col, off_col, win_col]

theorem gQ_end (n : Nat) (hn : 4096 ≤ n) (j : Fin 1024) : gQ x4 x3 (scale x2) x1 n j = 0 := by
  rw [gQ, dif_neg (by omega)]

theorem ix3_of {i : (⟨3, ![4096, 4, 256]⟩ : Shape).Idx} {s : Fin 4096} {g : Fin 4} {d : Fin 256} (h0 : (i 0).val = s.val)
    (h1 : (i 1).val = g.val) (h2 : (i 2).val = d.val) : i = ix3 s g d := by
  rw [eq_ix3 i]
  obtain rfl : s = i 0 := Fin.ext h0.symm
  obtain rfl : g = i 1 := Fin.ext h1.symm
  obtain rfl : d = i 2 := Fin.ext h2.symm
  rfl

theorem r95 (s : Fin 4096) (d : Fin 256) :
    val_main_v95 (F := Ideal) x1 x2 x3 x4 (ix2 s d) = gQ x4 x3 (scale x2) x1 s.val (col 3 d) := by
  rw [gQ_col _ _ _ _ _ s.isLt, ← r82, val_main_v95_apply, val_main_v93_apply, val_main_v92_apply, val_main_v94_apply, val_main_v53_apply,
    val_main_v52_apply, val_main_v51_apply, val_main_v4_apply, val_main_v3_apply, val_main_v2_apply, val_main_v50_apply,
    ix3_of (i := idx_main_v92 (idx_main_v93 (ix2 s d))) (s := s) (g := 3) (d := d)
      (by show (s.val * 256 + d.val) / 256 = s.val; omega) rfl (by show (s.val * 256 + d.val) % 256 = d.val; omega)]
  exact over_count s.val 16 s.isLt (by omega) (by omega) _

/-- The last group's part of the sum: each entry less the entry of 16 rows on. -/
theorem r100 (s : Fin 4096) (d : Fin 256) :
    val_main_v100 (F := Ideal) x1 x2 x3 x4 (ix2 s d)
      = gQ x4 x3 (scale x2) x1 s.val (col 3 d) + -gQ x4 x3 (scale x2) x1 (s.val + 16) (col 3 d) := by
  rw [val_main_v100_apply, r95]
  refine congrArg (_ + ·) ?_
  unfold val_main_v99
  rw [pad_rows]
  by_cases h : s.val < 4080
  · rw [dif_pos h, val_main_v98_apply, val_main_v96_apply,
      show idx_main_v98 (ix2 ⟨s.val, h⟩ d) = ix2 (⟨s.val + 16, by omega⟩ : Fin 4096) d from
        (eq_ix2 _).trans (congrArg (ix2 · d) (Fin.ext (Nat.add_comm 16 s.val))), r95]
    rfl
  · rw [dif_neg h, gQ_end _ _ _ _ _ (by omega), neg_zero, val_main_cst_13_apply, zero_word]

theorem r104 (s : Fin 4096) (d : Fin 256) :
    val_main_v104 (F := Ideal) x1 x2 x3 x4 (ix2 s d) = gQ x4 x3 (scale x2) x1 s.val (col 2 d) := by
  rw [gQ_col _ _ _ _ _ s.isLt, ← r82, val_main_v104_apply, val_main_v91_apply, val_main_v90_apply, val_main_v103_apply, val_main_v40_apply,
    val_main_v39_apply, val_main_v38_apply, val_main_v4_apply, val_main_v3_apply, val_main_v2_apply, val_main_v37_apply,
    ix3_of (i := idx_main_v90 (idx_main_v91 (ix2 s d))) (s := s) (g := 2) (d := d)
      (by show (s.val * 256 + d.val) / 256 = s.val; omega) rfl (by show (s.val * 256 + d.val) % 256 = d.val; omega)]
  exact over_count s.val 8 s.isLt (by omega) (by omega) _

/-- The part of the group of windows of 8. -/
theorem r109 (s : Fin 4096) (d : Fin 256) :
    val_main_v109 (F := Ideal) x1 x2 x3 x4 (ix2 s d)
      = gQ x4 x3 (scale x2) x1 s.val (col 2 d) + -gQ x4 x3 (scale x2) x1 (s.val + 8) (col 2 d) := by
  rw [val_main_v109_apply, r104]
  refine congrArg (_ + ·) ?_
  unfold val_main_v108
  rw [pad_rows]
  by_cases h : s.val < 4088
  · rw [dif_pos h, val_main_v107_apply, val_main_v105_apply,
      show idx_main_v107 (ix2 ⟨s.val, h⟩ d) = ix2 (⟨s.val + 8, by omega⟩ : Fin 4096) d from
        (eq_ix2 _).trans (congrArg (ix2 · d) (Fin.ext (Nat.add_comm 8 s.val))), r104]
    rfl
  · rw [dif_neg h, gQ_end _ _ _ _ _ (by omega), neg_zero, val_main_cst_15_apply, zero_word]

theorem r114 (s : Fin 4096) (d : Fin 256) :
    val_main_v114 (F := Ideal) x1 x2 x3 x4 (ix2 s d) = gQ x4 x3 (scale x2) x1 s.val (col 1 d) := by
  rw [gQ_col _ _ _ _ _ s.isLt, ← r82, val_main_v114_apply, val_main_v89_apply, val_main_v88_apply, val_main_v113_apply, val_main_v27_apply,
    val_main_v26_apply, val_main_v25_apply, val_main_v4_apply, val_main_v3_apply, val_main_v2_apply, val_main_v24_apply,
    ix3_of (i := idx_main_v88 (idx_main_v89 (ix2 s d))) (s := s) (g := 1) (d := d)
      (by show (s.val * 256 + d.val) / 256 = s.val; omega) rfl (by show (s.val * 256 + d.val) % 256 = d.val; omega)]
  exact over_count s.val 4 s.isLt (by omega) (by omega) _

/-- The part of the group of windows of 4. -/
theorem r119 (s : Fin 4096) (d : Fin 256) :
    val_main_v119 (F := Ideal) x1 x2 x3 x4 (ix2 s d)
      = gQ x4 x3 (scale x2) x1 s.val (col 1 d) + -gQ x4 x3 (scale x2) x1 (s.val + 4) (col 1 d) := by
  rw [val_main_v119_apply, r114]
  refine congrArg (_ + ·) ?_
  unfold val_main_v118
  rw [pad_rows]
  by_cases h : s.val < 4092
  · rw [dif_pos h, val_main_v117_apply, val_main_v115_apply,
      show idx_main_v117 (ix2 ⟨s.val, h⟩ d) = ix2 (⟨s.val + 4, by omega⟩ : Fin 4096) d from
        (eq_ix2 _).trans (congrArg (ix2 · d) (Fin.ext (Nat.add_comm 4 s.val))), r114]
    rfl
  · rw [dif_neg h, gQ_end _ _ _ _ _ (by omega), neg_zero, val_main_cst_17_apply, zero_word]

theorem r124 (s : Fin 4096) (d : Fin 256) :
    val_main_v124 (F := Ideal) x1 x2 x3 x4 (ix2 s d) = gQ x4 x3 (scale x2) x1 s.val (col 0 d) := by
  rw [gQ_col _ _ _ _ _ s.isLt, ← r82, val_main_v124_apply, val_main_v87_apply, val_main_v86_apply, val_main_v123_apply, val_main_v14_apply,
    val_main_v13_apply, val_main_v12_apply, val_main_v4_apply, val_main_v3_apply, val_main_v2_apply, val_main_v11_apply,
    ix3_of (i := idx_main_v86 (idx_main_v87 (ix2 s d))) (s := s) (g := 0) (d := d)
      (by show (s.val * 256 + d.val) / 256 = s.val; omega) rfl (by show (s.val * 256 + d.val) % 256 = d.val; omega)]
  exact over_count s.val 2 s.isLt (by omega) (by omega) _

/-- The part of the group of windows of 2. -/
theorem r129 (s : Fin 4096) (d : Fin 256) :
    val_main_v129 (F := Ideal) x1 x2 x3 x4 (ix2 s d)
      = gQ x4 x3 (scale x2) x1 s.val (col 0 d) + -gQ x4 x3 (scale x2) x1 (s.val + 2) (col 0 d) := by
  rw [val_main_v129_apply, r124]
  refine congrArg (_ + ·) ?_
  unfold val_main_v128
  rw [pad_rows]
  by_cases h : s.val < 4094
  · rw [dif_pos h, val_main_v127_apply, val_main_v125_apply,
      show idx_main_v127 (ix2 ⟨s.val, h⟩ d) = ix2 (⟨s.val + 2, by omega⟩ : Fin 4096) d from
        (eq_ix2 _).trans (congrArg (ix2 · d) (Fin.ext (Nat.add_comm 2 s.val))), r124]
    rfl
  · rw [dif_neg h, gQ_end _ _ _ _ _ (by omega), neg_zero, val_main_cst_19_apply, zero_word]

/-- Each entry less the entry of its group's window on. -/
theorem r132 (s : Fin 4096) (g : Fin 4) (d : Fin 256) :
    val_main_v132 (F := Ideal) x1 x2 x3 x4 (ix3 s g d)
      = gQ x4 x3 (scale x2) x1 s.val (col g d) + -gQ x4 x3 (scale x2) x1 (s.val + 2 ^ (g.val + 1)) (col g d) := by
  rw [val_main_v132_apply, val_main_v122_apply, val_main_v112_apply]
  unfold val_main_v102 val_main_v111 val_main_v121 val_main_v131
  rw [pad_group, pad_group, pad_group, pad_group, val_main_cst_14_apply, val_main_cst_16_apply, val_main_cst_18_apply, val_main_cst_20_apply,
    zero_word, val_main_v101_apply, val_main_v110_apply, val_main_v120_apply, val_main_v130_apply,
    show idx_main_v101 (ix3 s 0 d) = ix2 s d from eq_ix2 _, show idx_main_v110 (ix3 s 0 d) = ix2 s d from eq_ix2 _,
    show idx_main_v120 (ix3 s 0 d) = ix2 s d from eq_ix2 _, show idx_main_v130 (ix3 s 0 d) = ix2 s d from eq_ix2 _,
    r100, r109, r119, r129]
  match g with
  | ⟨0, _⟩ => exact (congrArg (· + _) ((congrArg (· + (0 : EReal)) (zero_add (0 : EReal))).trans (zero_add _))).trans (zero_add _)
  | ⟨1, _⟩ => exact (add_zero _).trans ((congrArg (· + _) (zero_add (0 : EReal))).trans (zero_add _))
  | ⟨2, _⟩ => exact (add_zero _).trans ((add_zero _).trans (zero_add _))
  | ⟨3, _⟩ => exact (add_zero _).trans ((add_zero _).trans (add_zero _))

theorem col_grp_off (j : Fin 1024) : col (grp j) (off j) = j := Fin.ext (by simp only [col, grp, off]; omega)

/-- The gradient of the branch's input, where the entries are real numbers. -/
theorem r136 (hq : ∀ n j, Cert.Sums.Real? (gQ x4 x3 (scale x2) x1 n j)) (s : Fin 4096) (j : Fin 1024) :
    val_main_v136 (F := Ideal) x1 x2 x3 x4 (ix2 s j) = gDp x4 x3 (scale x2) x1 s j := by
  rw [val_main_v136_apply, val_main_v135_apply,
    ix3_of (i := idx_main_v135 (ix2 s j)) (s := s) (g := grp j) (d := off j)
      (by show (s.val * 1024 + j.val) / 1024 = s.val; omega) (by show (s.val * 1024 + j.val) / 256 % 4 = j.val / 256; omega)
      (by show (s.val * 1024 + j.val) % 256 = j.val % 256; omega),
    val_main_v134_apply, val_main_v85_apply, r82]
  have e : val_main_v133 (F := Ideal) x1 x2 x3 x4 (ix3 s (grp j) (off j))
      = ∑ k ∈ Finset.range (win j), gQ x4 x3 (scale x2) x1 (s.val + k) j := by
    rw [← Cert.Sums.telescope 4096 (win j) s.val (fun n => gQ x4 x3 (scale x2) x1 n j) (fun n => hq n j)
      (fun n hn => gQ_end _ _ _ _ n hn j)]
    unfold val_main_v133 Host.reduceWindowAdd
    rw [val_main_call1_call0_v0_apply, val_main_call1_call0_cst_apply, zero_word, Ideal.hostReduceWindowAdd_def, running]
    refine Finset.sum_congr rfl fun k _ => ?_
    by_cases h : s.val + k < 4096
    · rw [dif_pos h, r132, col_grp_off]
      rfl
    · rw [dif_neg h, gQ_end _ _ _ _ _ (by omega), gQ_end _ _ _ _ _ (by omega), neg_zero, add_zero]
  rw [e, gDp, sub_eq_add_neg]
  exact add_comm _ _

end Cert.PoolVal
-- ==== Proof.Equation.lean ====
module
public import proofs.«01_k».proof.Proof.Finite
public import proofs.«01_k».proof.Proof.Arrays
public import proofs.«01_k».proof.Proof.Host
public import proofs.«01_k».proof.Proof.Reference
@[expose] public section
set_option maxRecDepth 16384
noncomputable section
/-! The arrays the call returns are those the reference computes. -/
namespace Cert.PoolVal
open Idealize.ShloMosaic Idealize.ShloMosaic.TcCoe Cert.Sums
open Cert.KernelIdeal Cert.KernelIdeal.Gen Cert.ReferenceIdeal.Read

section
variable (dy : Vec Ideal S4096x1024 .f32) (wpo : Vec Ideal S1024x1024 .f32) (ps : Vec Ideal S1x1024 .f32) (pw : Vec Ideal S4x256x256 .f32)
/-- On real arguments the divided gradient is real. -/
theorem gQ_real (h4 : ∀ s j, Real? (dy (ix2 s j))) (h3 : ∀ a b, Real? (wpo (ix2 a b))) (h2 : ∀ j, Real? (ps (ix2 0 j)))
    (h1 : ∀ g a b, Real? (pw (ix3 g a b))) (n : ℕ) (j : Fin 1024) : Real? (gQ dy wpo ps pw n j) := by
  unfold gQ
  split
  · refine Real?.mul (Real?.sum _ fun k _ => Real?.mul (Real?.mul (Real?.sum _ fun i _ => Real?.mul (h4 _ _) (h3 _ _)) (h2 _)) (h1 _ _ _)) ?_
    exact Real?.inv (Real?.natCast _)
  · exact Real?.zero
end

variable (m : (ℓ : Loc nD τ sig) → Buf (Elt Ideal) ℓ) (c : Dev nD)

/-- The scale the call reads is the argument's row. -/
theorem scale_eq : aPs m c = scale (m ((c : Thread nD τ).loc main_arg2)) := by
  funext i
  obtain ⟨a, j, rfl⟩ : ∃ (a : Fin 1) (j : Fin 1024), i = ix2 a j := ⟨i 0, i 1, eq_ix2 i⟩
  obtain rfl : a = 0 := Subsingleton.elim _ _
  exact host_ps m c j

/-- The centred rows the call reads, at a column of a group. -/
theorem z_eq (s : Fin 4096) (g : Fin 4) (a : Fin 256) :
    aZ m c (ix2 s (col g a)) = val_main_v62 (F := Ideal) (m ((c : Thread nD τ).loc main_arg0)) (ix3 s g a) := by
  have e := congrFun (host_z m c) (ix2 s (col g a))
  refine e.trans (shapeCast_apply _ _ _ (ix3 s g a) ?_)
  rw [Shape.rowMajor_val_three, Shape.rowMajor_val_two]
  show (s.val * 4 + g.val) * 256 + a.val = s.val * 1024 + (256 * g.val + a.val)
  omega

theorem dp_eq [Cert.Pre_finite.Facts] (h : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    outDp m c = val_main_v136 (F := Ideal) (m ((c : Thread nD τ).loc main_arg1)) (m ((c : Thread nD τ).loc main_arg2))
      (m ((c : Thread nD τ).loc main_arg3)) (m ((c : Thread nD τ).loc main_arg4)) := by
  funext i
  obtain ⟨s, j, rfl⟩ : ∃ (s : Fin 4096) (j : Fin 1024), i = ix2 s j := ⟨i 0, i 1, eq_ix2 i⟩
  have e := r136 _ _ _ _ (gQ_real _ _ _ _ (real4 _ _ _ _ _ h) (real3 _ _ _ _ _ h) (fun j => real2 _ _ _ _ _ h j) (real1 _ _ _ _ _ h)) s j
  refine Eq.trans ?_ e.symm
  show gDp (aDy m c) (aWpo m c) (aPs m c) (aPw m c) s j = _
  rw [show aDy m c = _ from host_dy m c, show aWpo m c = _ from host_wpo m c, scale_eq, show aPw m c = _ from host_pw m c]

theorem wpo_eq : outWpo m c = val_main_v137 (F := Ideal) (m ((c : Thread nD τ).loc main_arg0)) (m ((c : Thread nD τ).loc main_arg1))
      (m ((c : Thread nD τ).loc main_arg2)) (m ((c : Thread nD τ).loc main_arg4)) := by
  funext i
  obtain ⟨a, b, rfl⟩ : ∃ (a b : Fin 1024), i = ix2 a b := ⟨i 0, i 1, eq_ix2 i⟩
  refine Eq.trans ?_ (r137 _ _ _ _ a b).symm
  show ∑ s, gWpo (aDy m c) (aZl m c) (aPs m c) a b s = _
  rw [show aDy m c = _ from host_dy m c, scale_eq, show aZl m c = _ from host_zl m c]

theorem pw_eq : outPw m c = val_main_v138 (F := Ideal) (m ((c : Thread nD τ).loc main_arg0)) (m ((c : Thread nD τ).loc main_arg2))
      (m ((c : Thread nD τ).loc main_arg3)) (m ((c : Thread nD τ).loc main_arg4)) := by
  funext i
  obtain ⟨g, a, b, rfl⟩ : ∃ (g : Fin 4) (a b : Fin 256), i = ix3 g a b := ⟨i 0, i 1, i 2, eq_ix3 i⟩
  refine Eq.trans ?_ (r138 _ _ _ _ g a b).symm
  refine Finset.sum_congr rfl fun s _ => ?_
  show aZ m c (ix2 s (col g a)) * gDzl (aDy m c) (aWpo m c) (aPs m c) s (col g b) = _
  rw [z_eq, show aDy m c = _ from host_dy m c, show aWpo m c = _ from host_wpo m c, scale_eq]

theorem ps_eq : outPs m c = val_main_v139 (F := Ideal) (m ((c : Thread nD τ).loc main_arg0)) (m ((c : Thread nD τ).loc main_arg1))
      (m ((c : Thread nD τ).loc main_arg3)) (m ((c : Thread nD τ).loc main_arg4)) := by
  funext i
  obtain ⟨a, j, rfl⟩ : ∃ (a : Fin 1) (j : Fin 1024), i = ix2 a j := ⟨i 0, i 1, eq_ix2 i⟩
  obtain rfl : a = 0 := Subsingleton.elim _ _
  refine Eq.trans ?_ (r139 _ _ _ _ j).symm
  show ∑ s, gPs (aDy m c) (aZl m c) (aWpo m c) j s = _
  rw [show aDy m c = _ from host_dy m c, show aWpo m c = _ from host_wpo m c, show aZl m c = _ from host_zl m c]
end Cert.PoolVal
-- ==== Proof.PoolClaims.lean ====
module
public import proofs.«01_k».proof.Defs
public import proofs.«01_k».proof.Proof.Equation
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import Idealize.ShloMosaic.Adequacy
public import Idealize.ShloMosaic.Init
@[expose] public section
noncomputable section
/-! The claims about the pooling gradient. -/
namespace Cert.PoolVal
open Idealize.ShloMosaic Idealize.SL.Sem

/-- The kernel runs, keeps its arguments and leaves every counter at zero. -/
theorem frame_kernel : Cert.quiescent_Kernel := fun m ρ _ => Cert.Kernel.Gen.frame m ρ
/-- So does its idealization. -/
theorem frame_ideal : Cert.quiescent_KernelIdeal := fun m ρ _ => Cert.KernelIdeal.Gen.frame m ρ
/-- So does the reference: its run keeps its arguments, and it has no counter. -/
theorem frame_reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- On finite arguments both programs return the same four arrays. -/
theorem values [Cert.Pre_finite.Facts] : Cert.algebraic_KernelIdeal_ReferenceIdeal_pre_finite := fun m ρ m' ρ' hp hm =>
  ⟨outDp m, outWpo m, outPw m, outPs m, run_values m ρ,
    (θ_run Cert.ReferenceIdeal.defs _ _).mono (fun r h c => by
      obtain ⟨e6, e7, e8, e9, hk⟩ := h c
      obtain ⟨a0, a1, a2, a3, a4⟩ := hm c
      rw [Cert.ReferenceIdeal.Read.val_main_v136_eq, a1, a2, a3, a4] at e6
      rw [Cert.ReferenceIdeal.Read.val_main_v137_eq, a0, a1, a2, a4] at e7
      rw [Cert.ReferenceIdeal.Read.val_main_v138_eq, a0, a2, a3, a4] at e8
      rw [Cert.ReferenceIdeal.Read.val_main_v139_eq, a0, a1, a3, a4] at e9
      exact ⟨e6.trans (dp_eq m c (hp c)).symm, e7.trans (wpo_eq m c).symm, e8.trans (pw_eq m c).symm, e9.trans (ps_eq m c).symm, hk⟩)
      (Cert.ReferenceIdeal.Value.run (F := Ideal) m' ρ')⟩
end Cert.PoolVal
-- ==== Proof.MlpSteps.lean ====
module

public import proofs.«01_k».proof.Proof.Gen.MlpIdeal.Skeleton
public import proofs.«01_k».proof.Proof.Gen.MlpIdeal.Frame
public import Idealize.ShloMosaic.Lib.Transfers
public import Idealize.ShloMosaic.Lib.VecWindow
public import Idealize.ShloMosaic.Lib.Pipeline.FrameValue

/-! What each stretch of the MLP gradient's body does to the buffers it holds. -/

@[expose] public section

set_option maxRecDepth 16384

noncomputable section

namespace Cert.MlpVal

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources: the pipeline's and the transfers' counters. -/
abbrev Res (F : FTy → Type) := MT nD τ sig Unit (Elt F) ℕ (Pipeline.UD sig nD τ) ℕ

/-- Running `p` on core `c` to `Q`. -/
abbrev Run (c : Dev nD) {α : Type} (p : Prog (TpuEff nD τ sig (Elt F) Λ₀ .tc) α) (Q : α → sProp (Res F)) : sProp (Res F) :=
  wp frame (wpE (defs₀ (F := F)) Variants.none (c : Thread nD τ) none) Set.univ p Q

variable (c : Dev nD) {sp sp' : Space} {cs : CoreSpace} {s : Shape} {e : EltTy} {α : Type}

theorem zero2 : (![0, 0] : Fin 2 → ℕ) = fun _ => 0 := funext fun a => by fin_cases a <;> rfl

/-- A whole slice is the memref. -/
theorem owns_full (m : Memref sig .tc sp s e) {off : Fin s.rank → ℕ} (inb : ∀ a, off a + s.size a ≤ s.size a)
    (X : s.Idx → Elt F e) :
    (owns (c : Thread nD τ) (m.slice (Rect.unit off s.size inb) (fun _ => rfl)) fullShare X : sProp (Res F))
      = owns (c : Thread nD τ) m fullShare X := by
  have hset : (m.view.slice (Rect.unit off s.size inb)).set = m.view.set := by
    rw [View.set_slice, View.set]
    congr 1
    rw [← Rect.map_emb_univ]
    ext x
    rw [Finset.mem_map]
    exact ⟨fun _ => Finset.mem_univ _, fun _ => ⟨x, Finset.mem_univ _, Rect.emb_unit_full inb x⟩⟩
  have hread : ∀ f, (m.view.slice (Rect.unit off s.size inb)).read (Elt F) f = m.view.read (Elt F) f := fun f =>
    funext fun x => by
      show m.view.read (Elt F) f ((Rect.unit off s.size inb).emb x) = _
      rw [Rect.emb_unit_full inb x]
  unfold owns
  show iprop(∃ f, ⌜(m.view.slice (Rect.unit off s.size inb)).read (Elt F) f = X⌝
    ∗ (m.view.loc (c : Thread nD τ) ↦[(m.view.slice (Rect.unit off s.size inb)).set]{fullShare} f)) = _
  simp only [hset, hread]

/-- A load of a slice held. -/
theorem load_slice (m : Memref sig .tc cs s e) (r : Rect s) (h : ∀ a, r.stride a = 1) {hl : m.view.LoadsAt r.toLoadRect}
    {k : (r.shape.Idx → Elt F e) → Prog (TpuEff nD τ sig (Elt F) Λ₀ .tc) α} {Q : α → sProp (Res F)} {X : r.shape.Idx → Elt F e} :
    (owns (c : Thread nD τ) (m.slice r h) fullShare X : sProp (Res F))
      ⊢ iprop((owns (c : Thread nD τ) (m.slice r h) fullShare X -∗ Run c (k X) Q)
          -∗ Run c (.op (.load m r.toLoadRect hl) k) Q) := by
  unfold owns
  iintro ⟨%f, %hf, H⟩ Hk
  iapply (wp_load_rect Variants.none (c : Thread nD τ) none Set.univ (m := m) (r := r) (f := f) (q := fullShare) (subset_refl _)) $$ H
  iintro H
  rw [show (m.access r).read (Elt F) f = X from hf]
  iapply Hk
  iexists f
  isplitr; · ipureintro; exact hf
  iexact H

/-- A store through a slice held. -/
theorem store_slice (m : Memref sig .tc cs s e) (r : Rect s) (h : ∀ a, r.stride a = 1) {w : r.shape.Idx → Elt F e}
    {hx : (m.access r).Stores Finset.univ} {hm : Finset.univ = Finset.univ ∨ ∀ a, r.stride a = 1}
    {k : PUnit → Prog (TpuEff nD τ sig (Elt F) Λ₀ .tc) α} {Q : α → sProp (Res F)} {X : r.shape.Idx → Elt F e} :
    (owns (c : Thread nD τ) (m.slice r h) fullShare X : sProp (Res F))
      ⊢ iprop((owns (c : Thread nD τ) (m.slice r h) fullShare w -∗ Run c (k ⟨⟩) Q)
          -∗ Run c (.op (.store m r w Finset.univ hx hm) k) Q) := by
  unfold owns
  iintro ⟨%f, %hf, H⟩ Hk
  iapply (wp_store Variants.none (c : Thread nD τ) none Set.univ (m := m) (r := r) (f := f) (w := w) (Mk := Finset.univ) (S := (m.access r).set) (subset_refl _)) $$ H
  iintro H
  iapply Hk
  iexists _
  isplitr; swap
  · iexact H
  ipureintro; exact View.read_write_univ _ _

/-- A load of a whole memref held. -/
theorem load_full (m : Memref sig .tc cs s e) {off : Fin s.rank → ℕ} {inb : ∀ a, off a + s.size a ≤ s.size a}
    {hl : m.view.LoadsAt (Rect.unit off s.size inb).toLoadRect}
    {k : (s.Idx → Elt F e) → Prog (TpuEff nD τ sig (Elt F) Λ₀ .tc) α} {Q : α → sProp (Res F)} {X : s.Idx → Elt F e} :
    (owns (c : Thread nD τ) m fullShare X : sProp (Res F))
      ⊢ iprop((owns (c : Thread nD τ) m fullShare X -∗ Run c (k X) Q)
          -∗ Run c (.op (.load m (Rect.unit off s.size inb).toLoadRect hl) k) Q) := by
  rw [← owns_full c m inb X]
  exact load_slice c m (Rect.unit off s.size inb) (fun _ => rfl)

/-- A store over a whole memref held. -/
theorem store_full (m : Memref sig .tc cs s e) {off : Fin s.rank → ℕ} {inb : ∀ a, off a + s.size a ≤ s.size a}
    {w : s.Idx → Elt F e} {hx : (m.access (Rect.unit off s.size inb)).Stores Finset.univ}
    {hm : Finset.univ = Finset.univ ∨ ∀ a, (Rect.unit off s.size inb).stride a = 1}
    {k : PUnit → Prog (TpuEff nD τ sig (Elt F) Λ₀ .tc) α} {Q : α → sProp (Res F)} {X : s.Idx → Elt F e} :
    (owns (c : Thread nD τ) m fullShare X : sProp (Res F))
      ⊢ iprop((owns (c : Thread nD τ) m fullShare w -∗ Run c (k ⟨⟩) Q)
          -∗ Run c (.op (.store m (Rect.unit off s.size inb) w Finset.univ hx hm) k) Q) := by
  rw [← owns_full c m inb X, ← owns_full c m inb w]
  exact store_slice c m (Rect.unit off s.size inb) (fun _ => rfl)

/-- A copy in flight: `src`, read as `X`, on its way to `dst`, signalled on `sm`. -/
def Flying (src : Memref sig .tc sp s e) (dst : Memref sig .tc sp' s e) (sm : DmaSem sig) (X : s.Idx → Elt F e) : sProp (Res F) :=
  Transfers.Flight countersEmb (c : Thread nD τ) (.dma sm) () dst.view.dmaCredit
    iprop(owns (c : Thread nD τ) dst fullShare X ∗ owns (c : Thread nD τ) src fullShare X)

/-- Starting a copy. -/
theorem copy_start {src : Memref sig .tc sp s e} {dst : Memref sig .tc sp' s e} {sm : DmaSem sig}
    {hsrc : src.view.WordExact} {hdst : dst.view.WordExact} {hsem : DmaTarget.Typed (nD := nD) sp (.dma sm) (DmaTarget.here dst : DmaTarget nD τ sig .tc sp' s e)}
    {k : PUnit → Prog (TpuEff nD τ sig (Elt F) Λ₀ .tc) α} {Q : α → sProp (Res F)} {X Y : s.Idx → Elt F e} (hs : 0 < s.numel) :
    iprop(owns (c : Thread nD τ) src fullShare X ∗ owns (c : Thread nD τ) dst fullShare Y ∗ semVal ((c : Thread nD τ), .dma sm) 0)
      ⊢ (iprop((Flying c src dst sm X -∗ Run c (k ⟨⟩) Q)
          -∗ Run c (.op (.enqueueDma src (.here dst) (.dma sm) hsrc hdst hsem) k) Q) : sProp (Res F)) := by
  iintro ⟨Hs, Hd, Hv⟩ Hk
  unfold owns
  icases Hs with ⟨%fs, %hfs, Hs⟩
  icases Hd with ⟨%fd, %hfd, Hd⟩
  iapply (Transfers.wp_dmaLocal countersEmb Variants.none (c : Thread nD τ) none () dst.view.dmaCredit rfl
    (View.dmaCredit_pos _ hs) (subset_refl _)) $$ [Hs Hd Hv]
  · isplitl [Hs]; · iexact Hs
    isplitl [Hd]; · iexact Hd
    iexact Hv
  iintro Hf
  iapply Hk
  unfold Flying
  iapply (Transfers.Flight_mono countersEmb (c : Thread nD τ) ?_) $$ Hf
  iintro ⟨Hd, Hs⟩
  unfold owns
  isplitl [Hd]
  · iexists _
    isplitr; swap
    · iexact Hd
    ipureintro
    rw [View.read_write_univ]
    exact hfs
  iexists fs
  isplitr; · ipureintro; exact hfs
  iexact Hs

/-- Waiting for a copy in flight. -/
theorem copy_wait {src : Memref sig .tc sp s e} {dst : Memref sig .tc sp' s e} {sm : DmaSem sig}
    {hsrc : src.view.WordExact} {hdst : dst.view.WordExact}
    {k : PUnit → Prog (TpuEff nD τ sig (Elt F) Λ₀ .tc) α} {Q : α → sProp (Res F)} {X : s.Idx → Elt F e} :
    iprop(Flying c src dst sm X ∗ ∃ W, owes (c : Thread nD τ) 0 W)
      ⊢ (iprop((iprop(owns (c : Thread nD τ) dst fullShare X ∗ owns (c : Thread nD τ) src fullShare X
              ∗ semVal ((c : Thread nD τ), .dma sm) 0 ∗ ∃ W, owes (c : Thread nD τ) 0 W) -∗ Run c (k ⟨⟩) Q)
          -∗ Run c (.op (.waitDma2 sm src dst hsrc hdst) k) Q) : sProp (Res F)) := by
  unfold Flying
  iintro ⟨Hf, %W, HW⟩ Hk
  iapply (Transfers.wp_waitLocal countersEmb Variants.none (c : Thread nD τ) none () rfl) $$ [Hf HW]
  · isplitl [Hf]; · iexact Hf
    iexact HW
  iintro ⟨⟨Hd, Hs⟩, Hv, HW⟩
  iapply Hk
  isplitl [Hd]; · iexact Hd
  isplitl [Hs]; · iexact Hs
  isplitl [Hv]; · iexact Hv
  iexists _
  iexact HW

end Cert.MlpVal

end
-- ==== Proof.MlpBody.lean ====
module

public import proofs.«01_k».proof.Proof.MlpSteps

/-! The MLP gradient's body, stretch by stretch. -/

@[expose] public section

set_option maxRecDepth 16384

noncomputable section

namespace Cert.MlpVal

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Programs of the body. -/
abbrev Code (F : FTy → Type) [FloatOps F] (α : Type) := Prog (TpuEff nD τ sig (Elt F) Λ₀ .tc) α

variable (arg2 arg3 : Memref sig .tc .vmem S1024x1024 .bf16) (arg4 : Memref sig .tc .vmem S1024x512 .bf16)
  (arg5 : Memref sig .tc .vmem S512x1024 .bf16) (arg6 : Memref sig .tc .hbm S4096x1024 .f32)
  (arg7 : Memref sig .tc .vmem S1024x512 .bf16) (harg7 : arg7.IsWhole) (arg8 : Memref sig .tc .vmem S512x1024 .bf16) (harg8 : arg8.IsWhole)
  (arg9 : Memref sig .tc .vmem S4096x1024 .f32) (arg10 : Memref sig .tc .vmem S1024x512 .f32)
  (arg11 : Memref sig .tc .vmem S512x1024 .f32) (arg12 : DmaSems sig S4)

/-- The first tile of a pass starts the weight accumulators. -/
def openPass (b : BitVec 1) (v27 : FVec F S1024x512 .f32) (v30 : FVec F S512x1024 .f32) : Code F PUnit :=
  if h : b = 1#1 then do
    let v47 : Vec F S1024x512 .f32 ← Prog.lift (.load arg10 (Rect.unit (s := S1024x512) ![0, 0] S1024x512.size inb_S1024x512_S1024x512_0_0).toLoadRect (View.loadsAt_vmem h_S1024x512))
    Prog.lift (.store arg10 (Rect.unit (s := S1024x512) ![0, 0] S1024x512.size inb_S1024x512_S1024x512_0_0) (k0_pay1 v27) Finset.univ (View.stores_vmem_bits_univ h_S1024x512 rfl) (.inl rfl))
    let v50 : Vec F S512x1024 .f32 ← Prog.lift (.load arg11 (Rect.unit (s := S512x1024) ![0, 0] S512x1024.size inb_S512x1024_S512x1024_0_0).toLoadRect (View.loadsAt_vmem h_S512x1024))
    Prog.lift (.store arg11 (Rect.unit (s := S512x1024) ![0, 0] S512x1024.size inb_S512x1024_S512x1024_0_0) (k0_pay2 v30) Finset.univ (View.stores_vmem_bits_univ h_S512x1024 rfl) (.inl rfl))
    pure ⟨⟩
  else do
    pure ⟨⟩

/-- Every later tile adds to them. -/
def addTile (b : BitVec 1) (v27 : FVec F S1024x512 .f32) (v30 : FVec F S512x1024 .f32) : Code F PUnit :=
  if h : b = 1#1 then do
    let v47 : Vec F S1024x512 .f32 ← Prog.lift (.load arg10 (Rect.unit (s := S1024x512) ![0, 0] S1024x512.size inb_S1024x512_S1024x512_0_0).toLoadRect (View.loadsAt_vmem h_S1024x512))
    let v49 : Vec F S1024x512 .f32 ← Prog.lift (.load arg10 (Rect.unit (s := S1024x512) ![0, 0] S1024x512.size inb_S1024x512_S1024x512_0_0).toLoadRect (View.loadsAt_vmem h_S1024x512))
    Prog.lift (.store arg10 (Rect.unit (s := S1024x512) ![0, 0] S1024x512.size inb_S1024x512_S1024x512_0_0) (k0_pay3 v27 v47) Finset.univ (View.stores_vmem_bits_univ h_S1024x512 rfl) (.inl rfl))
    let v52 : Vec F S512x1024 .f32 ← Prog.lift (.load arg11 (Rect.unit (s := S512x1024) ![0, 0] S512x1024.size inb_S512x1024_S512x1024_0_0).toLoadRect (View.loadsAt_vmem h_S512x1024))
    let v54 : Vec F S512x1024 .f32 ← Prog.lift (.load arg11 (Rect.unit (s := S512x1024) ![0, 0] S512x1024.size inb_S512x1024_S512x1024_0_0).toLoadRect (View.loadsAt_vmem h_S512x1024))
    Prog.lift (.store arg11 (Rect.unit (s := S512x1024) ![0, 0] S512x1024.size inb_S512x1024_S512x1024_0_0) (k0_pay4 v30 v52) Finset.univ (View.stores_vmem_bits_univ h_S512x1024 rfl) (.inl rfl))
    pure ⟨⟩
  else do
    pure ⟨⟩

/-- The last tile of a pass writes the weight blocks out. -/
def closePass (i : grid0.Coords) : Code F PUnit :=
  if h : k0_cond5 i = 1#1 then do
    let v47 : Vec F S1024x512 .f32 ← Prog.lift (.load arg10 (Rect.unit (s := S1024x512) ![0, 0] S1024x512.size inb_S1024x512_S1024x512_0_0).toLoadRect (View.loadsAt_vmem h_S1024x512))
    let v49 : Vec F S1024x512 .bf16 ← Prog.lift (.load arg7 (Rect.unit (s := S1024x512) ![0, 0] S1024x512.size inb_S1024x512_S1024x512_0_0).toLoadRect (View.loadsAt_vmem h_S1024x512))
    Prog.lift (.store arg7 (Rect.unit (s := S1024x512) ![0, 0] S1024x512.size inb_S1024x512_S1024x512_0_0) (k0_pay5 v47) Finset.univ (View.stores_vmem h_S1024x512 (harg7.storeExact_slice rfl _ packedbf16_S1024x512_S1024x512_0_0) (fun _ => rfl)) (.inl rfl))
    let v52 : Vec F S512x1024 .f32 ← Prog.lift (.load arg11 (Rect.unit (s := S512x1024) ![0, 0] S512x1024.size inb_S512x1024_S512x1024_0_0).toLoadRect (View.loadsAt_vmem h_S512x1024))
    let v54 : Vec F S512x1024 .bf16 ← Prog.lift (.load arg8 (Rect.unit (s := S512x1024) ![0, 0] S512x1024.size inb_S512x1024_S512x1024_0_0).toLoadRect (View.loadsAt_vmem h_S512x1024))
    Prog.lift (.store arg8 (Rect.unit (s := S512x1024) ![0, 0] S512x1024.size inb_S512x1024_S512x1024_0_0) (k0_pay6 v52) Finset.univ (View.stores_vmem h_S512x1024 (harg8.storeExact_slice rfl _ packedbf16_S512x1024_S512x1024_0_0) (fun _ => rfl)) (.inl rfl))
    pure ⟨⟩
  else do
    pure ⟨⟩

/-- In the last pass a tile's rows are sent out as soon as they are complete. -/
def sendRows (i : grid0.Coords) : Code F PUnit :=
  if h : k0_cond6 i = 1#1 then do
    Prog.lift (.enqueueDma (arg9.slice (Rect.unit (s := S4096x1024) (k0_off4 i) S1024x1024.size (k0_off4_inb i h)) (fun _ => rfl))
      (.here (arg6.slice (Rect.unit (s := S4096x1024) (k0_off4 i) S1024x1024.size (k0_off4_inb i h)) (fun _ => rfl)))
      (.dma ((arg12.slice (Rect.unit (s := S4) (k0_off3 i) S1.size (k0_off3_inb i h))).squeeze S_ squeezes_S1_S_).sem)
      (View.wordExact_bits rfl) (View.wordExact_bits rfl) ⟨Or.inl rfl, trivial⟩)
    pure ⟨⟩
  else do
    pure ⟨⟩

/-- The semaphore of a copy. -/
abbrev semOf (o : ℕ) (inb : ∀ a : Fin 1, (![o] : Fin 1 → ℕ) a + S1.size a ≤ S4.size a) : DmaSem sig :=
  ((arg12.slice (Rect.unit (s := S4) ![o] S1.size inb)).squeeze S_ squeezes_S1_S_).sem

/-- The rows of a copy. -/
abbrev rowsOf {sp : Space} (m : Memref sig .tc sp S4096x1024 .f32) (o : ℕ)
    (inb : ∀ a : Fin 2, (![o, 0] : Fin 2 → ℕ) a + S1024x1024.size a ≤ S4096x1024.size a) : Memref sig .tc sp S1024x1024 .f32 :=
  m.slice (Rect.unit (s := S4096x1024) ![o, 0] S1024x1024.size inb) (fun _ => rfl)

/-- At the last point the four copies are waited for. -/
def collect (b : BitVec 1) : Code F PUnit :=
  if h : b = 1#1 then do
    Prog.lift (.waitDma2 (semOf arg12 0 inb_S4_S1_0) (rowsOf arg9 0 inb_S4096x1024_S1024x1024_0_0) (rowsOf arg6 0 inb_S4096x1024_S1024x1024_0_0) (View.wordExact_bits rfl) (View.wordExact_bits rfl))
    Prog.lift (.waitDma2 (semOf arg12 1 inb_S4_S1_1) (rowsOf arg9 1024 inb_S4096x1024_S1024x1024_1024_0) (rowsOf arg6 1024 inb_S4096x1024_S1024x1024_1024_0) (View.wordExact_bits rfl) (View.wordExact_bits rfl))
    Prog.lift (.waitDma2 (semOf arg12 2 inb_S4_S1_2) (rowsOf arg9 2048 inb_S4096x1024_S1024x1024_2048_0) (rowsOf arg6 2048 inb_S4096x1024_S1024x1024_2048_0) (View.wordExact_bits rfl) (View.wordExact_bits rfl))
    Prog.lift (.waitDma2 (semOf arg12 3 inb_S4_S1_3) (rowsOf arg9 3072 inb_S4096x1024_S1024x1024_3072_0) (rowsOf arg6 3072 inb_S4096x1024_S1024x1024_3072_0) (View.wordExact_bits rfl) (View.wordExact_bits rfl))
    pure ⟨⟩
  else do
    pure ⟨⟩

variable (i : grid0.Coords) (harg2 : arg2.IsWhole) (harg3 : arg3.IsWhole) (harg4 : arg4.IsWhole) (harg5 : arg5.IsWhole)
  (harg6 : arg6.IsWhole) (harg9 : arg9.IsWhole) (harg10 : arg10.IsWhole) (harg11 : arg11.IsWhole)

/-- Continuing after a branch is continuing in each case. -/
theorem dite_bind {α β : Type} (P : Prop) [Decidable P] (A : P → Code F α) (B : ¬ P → Code F α) (k : α → Code F β) :
    ((if h : P then A h else B h) >>= k) = if h : P then A h >>= k else B h >>= k := by
  split <;> rfl

/-- The body is its stretches in order. -/
theorem body_eq : cc0_mlp_bwd (F := F) i arg2 harg2 arg3 harg3 arg4 harg4 arg5 harg5 arg6 harg6 arg7 harg7 arg8 harg8 arg9 harg9
      arg10 harg10 arg11 harg11 arg12
    = (k0_part1 (F := F) i arg2 harg2 arg3 harg3 arg4 harg4 arg5 harg5 arg6 harg6 arg7 harg7 arg8 harg8 arg9 harg9
        arg10 harg10 arg11 harg11 arg12 >>= fun r =>
      openPass arg10 arg11 (Scalar.cmpi .ne r.2.2.2.2 0#32) r.2.2.1 r.2.2.2.1 >>= fun _ =>
      addTile arg10 arg11 (Scalar.cmpi .ne (Scalar.extui (Scalar.cmpi .sgt r.2.1 0#32) : BitVec 32) 0#32) r.2.2.1 r.2.2.2.1 >>= fun _ =>
      closePass arg7 harg7 arg8 harg8 arg10 arg11 i >>= fun _ =>
      sendRows arg6 arg9 arg12 i >>= fun _ =>
      collect arg6 arg9 arg12 (Scalar.cmpi .ne (Scalar.extui (Scalar.andi (Scalar.cmpi .eq r.1 7#32) (Scalar.cmpi .eq r.2.1 3#32)) : BitVec 32) 0#32) >>= fun _ =>
      pure ⟨⟩) := by
  rw [cc0_mlp_bwd_eq_skeleton]
  unfold openPass addTile closePass sendRows collect
  simp only [dite_bind, Prog.lift, Prog.bind_op, Prog.bind_ret, Prog.pure_eq_ret]
  rfl

variable (c : Dev nD)

/-- The loads, and the first pass storing the tile's rows of the input gradient. -/
theorem part1_first (h1 : k0_cond1 i = 1#1) (h2 : ¬ k0_cond2 i = 1#1) {V M : Vec F S1024x1024 .bf16} {A : Vec F S1024x512 .bf16}
    {B : Vec F S512x1024 .bf16} {X : Vec F S1024x1024 .f32}
    {Q : (Σ' (_ : BitVec 32) (_ : BitVec 32) (_ : FVec F S1024x512 .f32) (_ : FVec F S512x1024 .f32), BitVec 32) → sProp (Res F)} :
    iprop(owns (c : Thread nD τ) arg2 fullShare V ∗ owns (c : Thread nD τ) arg3 fullShare M ∗ owns (c : Thread nD τ) arg4 fullShare A
        ∗ owns (c : Thread nD τ) arg5 fullShare B
        ∗ owns (c : Thread nD τ) (arg9.slice (Rect.unit (s := S4096x1024) (k0_off1 i) S1024x1024.size (k0_off1_inb i h1)) (fun _ => rfl)) fullShare X)
      ⊢ (iprop((iprop(owns (c : Thread nD τ) arg2 fullShare V ∗ owns (c : Thread nD τ) arg3 fullShare M ∗ owns (c : Thread nD τ) arg4 fullShare A
            ∗ owns (c : Thread nD τ) arg5 fullShare B
            ∗ owns (c : Thread nD τ) (arg9.slice (Rect.unit (s := S4096x1024) (k0_off1 i) S1024x1024.size (k0_off1_inb i h1)) (fun _ => rfl)) fullShare
                (k0_pay12 V M A B A))
          -∗ Q ⟨BitVec.ofNat 32 (i 0).val, BitVec.ofNat 32 (i 1).val, k0_pay14 V M A B, k0_pay15 V M A,
              Scalar.extui (Scalar.cmpi .eq (BitVec.ofNat 32 (i 1).val) 0#32)⟩)
        -∗ Run c (k0_part1 (F := F) i arg2 harg2 arg3 harg3 arg4 harg4 arg5 harg5 arg6 harg6 arg7 harg7 arg8 harg8 arg9 harg9
            arg10 harg10 arg11 harg11 arg12) Q) : sProp (Res F)) := by
  rw [k0_part1_eq_skeleton]
  unfold k0_part1_skel
  simp only [Prog.lift, Prog.bind_op, Prog.bind_ret, dif_pos h1, dif_neg h2]
  iintro ⟨H2, H3, H4, H5, H9⟩ Hk
  iapply (load_full c arg2) $$ H2; iintro H2
  iapply (load_full c arg3) $$ H3; iintro H3
  iapply (load_full c arg4) $$ H4; iintro H4
  iapply (load_full c arg5) $$ H5; iintro H5
  iapply (load_full c arg4) $$ H4; iintro H4
  iapply (load_slice c arg9) $$ H9; iintro H9
  iapply (store_slice c arg9) $$ H9; iintro H9
  iapply le_wp_ret
  iapply Hk
  isplitl [H2]; · iexact H2
  isplitl [H3]; · iexact H3
  isplitl [H4]; · iexact H4
  isplitl [H5]; · iexact H5
  iexact H9

/-- Later passes add to the rows. -/
theorem part1_later (h1 : ¬ k0_cond1 i = 1#1) (h2 : k0_cond2 i = 1#1) {V M : Vec F S1024x1024 .bf16} {A : Vec F S1024x512 .bf16}
    {B : Vec F S512x1024 .bf16} {X : Vec F S1024x1024 .f32}
    {Q : (Σ' (_ : BitVec 32) (_ : BitVec 32) (_ : FVec F S1024x512 .f32) (_ : FVec F S512x1024 .f32), BitVec 32) → sProp (Res F)} :
    iprop(owns (c : Thread nD τ) arg2 fullShare V ∗ owns (c : Thread nD τ) arg3 fullShare M ∗ owns (c : Thread nD τ) arg4 fullShare A
        ∗ owns (c : Thread nD τ) arg5 fullShare B
        ∗ owns (c : Thread nD τ) (arg9.slice (Rect.unit (s := S4096x1024) (k0_off2 i) S1024x1024.size (k0_off2_inb i h2)) (fun _ => rfl)) fullShare X)
      ⊢ (iprop((iprop(owns (c : Thread nD τ) arg2 fullShare V ∗ owns (c : Thread nD τ) arg3 fullShare M ∗ owns (c : Thread nD τ) arg4 fullShare A
            ∗ owns (c : Thread nD τ) arg5 fullShare B
            ∗ owns (c : Thread nD τ) (arg9.slice (Rect.unit (s := S4096x1024) (k0_off2 i) S1024x1024.size (k0_off2_inb i h2)) (fun _ => rfl)) fullShare
                (k0_pay13 V M A B A X))
          -∗ Q ⟨BitVec.ofNat 32 (i 0).val, BitVec.ofNat 32 (i 1).val, k0_pay14 V M A B, k0_pay15 V M A,
              Scalar.extui (Scalar.cmpi .eq (BitVec.ofNat 32 (i 1).val) 0#32)⟩)
        -∗ Run c (k0_part1 (F := F) i arg2 harg2 arg3 harg3 arg4 harg4 arg5 harg5 arg6 harg6 arg7 harg7 arg8 harg8 arg9 harg9
            arg10 harg10 arg11 harg11 arg12) Q) : sProp (Res F)) := by
  rw [k0_part1_eq_skeleton]
  unfold k0_part1_skel
  simp only [Prog.lift, Prog.bind_op, Prog.bind_ret, dif_neg h1, dif_pos h2]
  iintro ⟨H2, H3, H4, H5, H9⟩ Hk
  iapply (load_full c arg2) $$ H2; iintro H2
  iapply (load_full c arg3) $$ H3; iintro H3
  iapply (load_full c arg4) $$ H4; iintro H4
  iapply (load_full c arg5) $$ H5; iintro H5
  iapply (load_full c arg4) $$ H4; iintro H4
  iapply (load_slice c arg9) $$ H9; iintro H9
  iapply (load_slice c arg9) $$ H9; iintro H9
  iapply (store_slice c arg9) $$ H9; iintro H9
  iapply le_wp_ret
  iapply Hk
  isplitl [H2]; · iexact H2
  isplitl [H3]; · iexact H3
  isplitl [H4]; · iexact H4
  isplitl [H5]; · iexact H5
  iexact H9

/-- The first tile of a pass sets both accumulators. -/
theorem openPass_run (b : BitVec 1) {v : FVec F S1024x512 .f32} {w : FVec F S512x1024 .f32} {X : Vec F S1024x512 .f32}
    {Y : Vec F S512x1024 .f32} {Q : PUnit → sProp (Res F)} :
    iprop(owns (c : Thread nD τ) arg10 fullShare X ∗ owns (c : Thread nD τ) arg11 fullShare Y)
      ⊢ (iprop((iprop(owns (c : Thread nD τ) arg10 fullShare (if b = 1#1 then k0_pay1 v else X)
            ∗ owns (c : Thread nD τ) arg11 fullShare (if b = 1#1 then k0_pay2 w else Y)) -∗ Q ⟨⟩)
        -∗ Run c (openPass arg10 arg11 b v w) Q) : sProp (Res F)) := by
  unfold openPass
  by_cases h : b = 1#1
  · rw [dif_pos h, if_pos h, if_pos h]
    simp only [Prog.lift, Prog.bind_op, Prog.bind_ret, Prog.pure_eq_ret]
    iintro ⟨H, H'⟩ Hk
    iapply (load_full c arg10) $$ H; iintro H
    iapply (store_full c arg10) $$ H; iintro H
    iapply (load_full c arg11) $$ H'; iintro H'
    iapply (store_full c arg11) $$ H'; iintro H'
    iapply le_wp_ret
    iapply Hk
    isplitl [H]; · iexact H
    iexact H'
  · rw [dif_neg h, if_neg h, if_neg h]
    iintro H Hk
    iapply le_wp_ret
    iapply Hk
    iexact H

/-- A later tile adds to both. -/
theorem addTile_run (b : BitVec 1) {v : FVec F S1024x512 .f32} {w : FVec F S512x1024 .f32} {X : Vec F S1024x512 .f32}
    {Y : Vec F S512x1024 .f32} {Q : PUnit → sProp (Res F)} :
    iprop(owns (c : Thread nD τ) arg10 fullShare X ∗ owns (c : Thread nD τ) arg11 fullShare Y)
      ⊢ (iprop((iprop(owns (c : Thread nD τ) arg10 fullShare (if b = 1#1 then k0_pay3 v X else X)
            ∗ owns (c : Thread nD τ) arg11 fullShare (if b = 1#1 then k0_pay4 w Y else Y)) -∗ Q ⟨⟩)
        -∗ Run c (addTile arg10 arg11 b v w) Q) : sProp (Res F)) := by
  unfold addTile
  by_cases h : b = 1#1
  · rw [dif_pos h, if_pos h, if_pos h]
    simp only [Prog.lift, Prog.bind_op, Prog.bind_ret, Prog.pure_eq_ret]
    iintro ⟨H, H'⟩ Hk
    iapply (load_full c arg10) $$ H; iintro H
    iapply (load_full c arg10) $$ H; iintro H
    iapply (store_full c arg10) $$ H; iintro H
    iapply (load_full c arg11) $$ H'; iintro H'
    iapply (load_full c arg11) $$ H'; iintro H'
    iapply (store_full c arg11) $$ H'; iintro H'
    iapply le_wp_ret
    iapply Hk
    isplitl [H]; · iexact H
    iexact H'
  · rw [dif_neg h, if_neg h, if_neg h]
    iintro H Hk
    iapply le_wp_ret
    iapply Hk
    iexact H

/-- The last tile of a pass rounds both into the outgoing blocks. -/
theorem closePass_run {U : Vec F S1024x512 .bf16} {W : Vec F S512x1024 .bf16} {X : Vec F S1024x512 .f32}
    {Y : Vec F S512x1024 .f32} {Q : PUnit → sProp (Res F)} :
    iprop(owns (c : Thread nD τ) arg7 fullShare U ∗ owns (c : Thread nD τ) arg8 fullShare W
        ∗ owns (c : Thread nD τ) arg10 fullShare X ∗ owns (c : Thread nD τ) arg11 fullShare Y)
      ⊢ (iprop((iprop(owns (c : Thread nD τ) arg7 fullShare (if k0_cond5 i = 1#1 then k0_pay5 X else U)
            ∗ owns (c : Thread nD τ) arg8 fullShare (if k0_cond5 i = 1#1 then k0_pay6 Y else W)
            ∗ owns (c : Thread nD τ) arg10 fullShare X ∗ owns (c : Thread nD τ) arg11 fullShare Y) -∗ Q ⟨⟩)
        -∗ Run c (closePass arg7 harg7 arg8 harg8 arg10 arg11 i) Q) : sProp (Res F)) := by
  unfold closePass
  by_cases h : k0_cond5 i = 1#1
  · rw [dif_pos h, if_pos h, if_pos h]
    simp only [Prog.lift, Prog.bind_op, Prog.bind_ret, Prog.pure_eq_ret]
    iintro ⟨H7, H8, H, H'⟩ Hk
    iapply (load_full c arg10) $$ H; iintro H
    iapply (load_full c arg7) $$ H7; iintro H7
    iapply (store_full c arg7) $$ H7; iintro H7
    iapply (load_full c arg11) $$ H'; iintro H'
    iapply (load_full c arg8) $$ H8; iintro H8
    iapply (store_full c arg8) $$ H8; iintro H8
    iapply le_wp_ret
    iapply Hk
    isplitl [H7]; · iexact H7
    isplitl [H8]; · iexact H8
    isplitl [H]; · iexact H
    iexact H'
  · rw [dif_neg h, if_neg h, if_neg h]
    iintro H Hk
    iapply le_wp_ret
    iapply Hk
    iexact H

theorem rows_inb (k : Fin 4) : ∀ a : Fin 2, (![1024 * k.val, 0] : Fin 2 → ℕ) a + S1024x1024.size a ≤ S4096x1024.size a := by
  revert k; decide +kernel

theorem sem_inb (k : Fin 4) : ∀ a : Fin 1, (![k.val] : Fin 1 → ℕ) a + S1.size a ≤ S4.size a := by
  revert k; decide +kernel

/-- Tile `k`'s rows. -/
abbrev rowRect (k : Fin 4) : Rect S4096x1024 := Rect.unit (s := S4096x1024) ![1024 * k.val, 0] S1024x1024.size (rows_inb k)

/-- Tile `k`'s rows of a buffer. -/
abbrev rowsK {sp : Space} (m : Memref sig .tc sp S4096x1024 .f32) (k : Fin 4) : Memref sig .tc sp S1024x1024 .f32 :=
  m.slice (rowRect k) (fun _ => rfl)

/-- Tile `k`'s semaphore. -/
abbrev semK (k : Fin 4) : DmaSem sig :=
  ((arg12.slice (Rect.unit (s := S4) ![k.val] S1.size (sem_inb k))).squeeze S_ squeezes_S1_S_).sem

theorem rows_at {sp : Space} (m : Memref sig .tc sp S4096x1024 .f32) (k : Fin 4) {off : Fin 2 → ℕ}
    (inb : ∀ a : Fin 2, off a + S1024x1024.size a ≤ S4096x1024.size a) (h : off = ![1024 * k.val, 0]) :
    m.slice (Rect.unit (s := S4096x1024) off S1024x1024.size inb) (fun _ => rfl) = rowsK m k := by
  subst h; rfl

theorem sem_at (k : Fin 4) {off : Fin 1 → ℕ} (inb : ∀ a : Fin 1, off a + S1.size a ≤ S4.size a) (h : off = ![k.val]) :
    ((arg12.slice (Rect.unit (s := S4) off S1.size inb)).squeeze S_ squeezes_S1_S_).sem = semK arg12 k := by
  subst h; rfl

/-- Tile `k`'s rows, their destination and their semaphore at rest. -/
def Idle (k : Fin 4) (X Y : Vec F S1024x1024 .f32) : sProp (Res F) :=
  iprop(owns (c : Thread nD τ) (rowsK arg9 k) fullShare X ∗ owns (c : Thread nD τ) (rowsK arg6 k) fullShare Y
    ∗ semVal ((c : Thread nD τ), .dma (semK arg12 k)) 0)

/-- A copy is started of the rows held, in the last pass only. -/
theorem sendRows_run (k : Fin 4) (h3 : k0_off3 i = ![k.val]) (h4 : k0_off4 i = ![1024 * k.val, 0]) {X Y : Vec F S1024x1024 .f32}
    {Q : PUnit → sProp (Res F)} :
    Idle arg6 arg9 arg12 c k X Y
      ⊢ (iprop((iprop(if k0_cond6 i = 1#1 then Flying c (rowsK arg9 k) (rowsK arg6 k) (semK arg12 k) X
          else Idle arg6 arg9 arg12 c k X Y) -∗ Q ⟨⟩) -∗ Run c (sendRows arg6 arg9 arg12 i) Q) : sProp (Res F)) := by
  unfold sendRows
  by_cases h : k0_cond6 i = 1#1
  · rw [dif_pos h, if_pos h]
    simp only [Prog.lift, Prog.bind_op, Prog.bind_ret, Prog.pure_eq_ret]
    unfold Idle
    rw [← rows_at arg9 k (k0_off4_inb i h) h4, ← rows_at arg6 k (k0_off4_inb i h) h4, ← sem_at arg12 k (k0_off3_inb i h) h3]
    iintro H Hk
    iapply (copy_start c (by decide +kernel)) $$ H; iintro H
    iapply le_wp_ret
    iapply Hk
    iexact H
  · rw [dif_neg h, if_neg h]
    iintro H Hk
    iapply le_wp_ret
    iapply Hk
    iexact H

/-- The four copies come to rest. -/
theorem collect_run (b : BitVec 1) (h : b = 1#1) {X0 X1 X2 X3 : Vec F S1024x1024 .f32} {Q : PUnit → sProp (Res F)} :
    iprop(Flying c (rowsK arg9 0) (rowsK arg6 0) (semK arg12 0) X0 ∗ Flying c (rowsK arg9 1) (rowsK arg6 1) (semK arg12 1) X1
        ∗ Flying c (rowsK arg9 2) (rowsK arg6 2) (semK arg12 2) X2 ∗ Flying c (rowsK arg9 3) (rowsK arg6 3) (semK arg12 3) X3
        ∗ ∃ W, owes (c : Thread nD τ) 0 W)
      ⊢ (iprop((iprop(Idle arg6 arg9 arg12 c 0 X0 X0 ∗ Idle arg6 arg9 arg12 c 1 X1 X1 ∗ Idle arg6 arg9 arg12 c 2 X2 X2
          ∗ Idle arg6 arg9 arg12 c 3 X3 X3 ∗ ∃ W, owes (c : Thread nD τ) 0 W) -∗ Q ⟨⟩)
        -∗ Run c (collect arg6 arg9 arg12 b) Q) : sProp (Res F)) := by
  unfold collect Idle
  rw [dif_pos h]
  simp only [Prog.lift, Prog.bind_op, Prog.bind_ret, Prog.pure_eq_ret]
  rw [← rows_at arg9 0 inb_S4096x1024_S1024x1024_0_0 rfl, ← rows_at arg6 0 inb_S4096x1024_S1024x1024_0_0 rfl,
    ← sem_at arg12 0 inb_S4_S1_0 rfl,
    ← rows_at arg9 1 inb_S4096x1024_S1024x1024_1024_0 rfl, ← rows_at arg6 1 inb_S4096x1024_S1024x1024_1024_0 rfl,
    ← sem_at arg12 1 inb_S4_S1_1 rfl,
    ← rows_at arg9 2 inb_S4096x1024_S1024x1024_2048_0 rfl, ← rows_at arg6 2 inb_S4096x1024_S1024x1024_2048_0 rfl,
    ← sem_at arg12 2 inb_S4_S1_2 rfl,
    ← rows_at arg9 3 inb_S4096x1024_S1024x1024_3072_0 rfl, ← rows_at arg6 3 inb_S4096x1024_S1024x1024_3072_0 rfl,
    ← sem_at arg12 3 inb_S4_S1_3 rfl]
  iintro ⟨H0, H1, H2, H3, HW⟩ Hk
  iapply (copy_wait c) $$ [H0 HW]; · isplitl [H0]; · iexact H0
                                     iexact HW
  iintro ⟨D0, S0, V0, HW⟩
  iapply (copy_wait c) $$ [H1 HW]; · isplitl [H1]; · iexact H1
                                     iexact HW
  iintro ⟨D1, S1, V1, HW⟩
  iapply (copy_wait c) $$ [H2 HW]; · isplitl [H2]; · iexact H2
                                     iexact HW
  iintro ⟨D2, S2, V2, HW⟩
  iapply (copy_wait c) $$ [H3 HW]; · isplitl [H3]; · iexact H3
                                     iexact HW
  iintro ⟨D3, S3, V3, HW⟩
  iapply le_wp_ret
  iapply Hk
  isplitl [D0 S0 V0]
  · isplitl [S0]; · iexact S0
    isplitl [D0]; · iexact D0
    iexact V0
  isplitl [D1 S1 V1]
  · isplitl [S1]; · iexact S1
    isplitl [D1]; · iexact D1
    iexact V1
  isplitl [D2 S2 V2]
  · isplitl [S2]; · iexact S2
    isplitl [D2]; · iexact D2
    iexact V2
  isplitl [D3 S3 V3]
  · isplitl [S3]; · iexact S3
    isplitl [D3]; · iexact D3
    iexact V3
  iexact HW

/-- Before the last point nothing is waited for. -/
theorem collect_skip (b : BitVec 1) (h : ¬ b = 1#1) {Q : PUnit → sProp (Res F)} :
    (Q ⟨⟩ : sProp (Res F)) ⊢ (Run c (collect arg6 arg9 arg12 b) Q : sProp (Res F)) := by
  unfold collect
  rw [dif_neg h]
  iintro H
  iapply le_wp_ret
  iexact H

end Cert.MlpVal

end
-- ==== Proof.MlpRun.lean ====
module

public import proofs.«01_k».proof.Proof.MlpBody
public import Idealize.ShloMosaic.Lib.Pointwise
public import Idealize.ShloMosaic.Lib.Pipeline.ValueKit.Geometry

/-! The MLP gradient's run: what each grid point leaves, and the launch. -/

@[expose] public section

set_option maxRecDepth 16384

noncomputable section

namespace Cert.MlpVal

open Cert.MlpIdeal Cert.MlpIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F] (m : (ℓ : Loc nD τ sig) → Buf (Elt F) ℓ) (ρ : Dev nD → PrngReg) (c : Dev nD)

/-! ## The grid's points -/

theorem cond1_iff : ∀ t : Fin cfg0.N, k0_cond1 (grid0.coords t) = 1#1 ↔ t.val < 4 := by decide +kernel
theorem cond2_iff : ∀ t : Fin cfg0.N, k0_cond2 (grid0.coords t) = 1#1 ↔ ¬ t.val < 4 := by decide +kernel
theorem cond5_iff : ∀ t : Fin cfg0.N, k0_cond5 (grid0.coords t) = 1#1 ↔ t.val % 4 = 3 := by decide +kernel
theorem cond6_iff : ∀ t : Fin cfg0.N, k0_cond6 (grid0.coords t) = 1#1 ↔ 28 ≤ t.val := by decide +kernel
theorem open_iff : ∀ t : Fin cfg0.N, Scalar.cmpi .ne (Scalar.extui (Scalar.cmpi .eq (BitVec.ofNat 32 (grid0.coords t 1).val) 0#32) : BitVec 32) 0#32 = 1#1
    ↔ t.val % 4 = 0 := by decide +kernel
theorem add_iff : ∀ t : Fin cfg0.N, Scalar.cmpi .ne (Scalar.extui (Scalar.cmpi .sgt (BitVec.ofNat 32 (grid0.coords t 1).val) 0#32) : BitVec 32) 0#32 = 1#1
    ↔ ¬ t.val % 4 = 0 := by decide +kernel
theorem last_iff : ∀ t : Fin cfg0.N, Scalar.cmpi .ne (Scalar.extui (Scalar.andi (Scalar.cmpi .eq (BitVec.ofNat 32 (grid0.coords t 0).val) 7#32)
      (Scalar.cmpi .eq (BitVec.ofNat 32 (grid0.coords t 1).val) 3#32)) : BitVec 32) 0#32 = 1#1
    ↔ t.val = 31 := by decide +kernel
theorem off1_at : ∀ t : Fin cfg0.N, k0_off1 (grid0.coords t) = ![1024 * (t.val % 4), 0] := by decide +kernel
theorem off2_at : ∀ t : Fin cfg0.N, k0_off2 (grid0.coords t) = ![1024 * (t.val % 4), 0] := by decide +kernel
theorem off3_at : ∀ t : Fin cfg0.N, k0_off3 (grid0.coords t) = ![t.val % 4] := by decide +kernel
theorem off4_at : ∀ t : Fin cfg0.N, k0_off4 (grid0.coords t) = ![1024 * (t.val % 4), 0] := by decide +kernel
theorem flush4 : ∀ t : Fin cfg0.N, (cfg0.win 4).flush t = decide (t.val % 4 = 3) := by decide +kernel
theorem flush5 : ∀ t : Fin cfg0.N, (cfg0.win 5).flush t = decide (t.val % 4 = 3) := by decide +kernel
theorem idle4 : ∀ t : Fin cfg0.N, cfg0.idle 4 (cfg0.grid.coords t) = !decide (t.val % 4 = 3) := by decide +kernel
theorem idle5 : ∀ t : Fin cfg0.N, cfg0.idle 5 (cfg0.grid.coords t) = !decide (t.val % 4 = 3) := by decide +kernel

/-- The `n`-th point. -/
def pt (n : ℕ) : Fin cfg0.N := ⟨n % 32, (Nat.mod_lt _ (by decide)).trans_eq N_0.symm⟩

theorem lt32 (t : Fin cfg0.N) : t.val < 32 := t.isLt.trans_eq N_0

theorem pt_val (t : Fin cfg0.N) : pt t.val = t := Fin.ext (Nat.mod_eq_of_lt (lt32 t))

/-- The tile a point works on. -/
def tile (t : Fin cfg0.N) : Fin 4 := ⟨t.val % 4, Nat.mod_lt _ (by decide)⟩

/-! ## What the buffers hold -/

abbrev vB (t : Fin cfg0.N) : Vec F S1024x1024 .bf16 := iblk m c 0 t
abbrev mB (t : Fin cfg0.N) : Vec F S1024x1024 .bf16 := iblk m c 1 t
abbrev aB (t : Fin cfg0.N) : Vec F S1024x512 .bf16 := iblk m c 2 t
abbrev bB (t : Fin cfg0.N) : Vec F S512x1024 .bf16 := iblk m c 3 t

/-- One tile's part of the first weights' gradient. -/
def p10 (t : Fin cfg0.N) : FVec F S1024x512 .f32 := k0_pay14 (vB m c t) (mB m c t) (aB m c t) (bB m c t)
/-- One tile's part of the second weights' gradient. -/
def p11 (t : Fin cfg0.N) : FVec F S512x1024 .f32 := k0_pay15 (vB m c t) (mB m c t) (aB m c t)

/-- The first weights' accumulator after point `n`. -/
def a10 : ℕ → Vec F S1024x512 .f32
  | 0 => k0_pay1 (p10 m c (pt 0))
  | n + 1 => if (n + 1) % 4 = 0 then k0_pay1 (p10 m c (pt (n + 1))) else k0_pay3 (p10 m c (pt (n + 1))) (a10 n)

/-- The second weights' accumulator after point `n`. -/
def a11 : ℕ → Vec F S512x1024 .f32
  | 0 => k0_pay2 (p11 m c (pt 0))
  | n + 1 => if (n + 1) % 4 = 0 then k0_pay2 (p11 m c (pt (n + 1))) else k0_pay4 (p11 m c (pt (n + 1))) (a11 n)

/-- Tile `k`'s rows of the input gradient after pass `j`. -/
def d9 (k : ℕ) : ℕ → Vec F S1024x1024 .f32
  | 0 => k0_pay12 (vB m c (pt k)) (mB m c (pt k)) (aB m c (pt k)) (bB m c (pt k)) (aB m c (pt k))
  | j + 1 => k0_pay13 (vB m c (pt (4 * (j + 1) + k))) (mB m c (pt (4 * (j + 1) + k))) (aB m c (pt (4 * (j + 1) + k)))
      (bB m c (pt (4 * (j + 1) + k))) (aB m c (pt (4 * (j + 1) + k))) (d9 k j)

theorem a10_at (t : Fin cfg0.N) {X : Vec F S1024x512 .f32} (h : t.val % 4 ≠ 0 → X = a10 m c (t.val - 1)) :
    (if ¬ t.val % 4 = 0 then k0_pay3 (p10 m c t) (if t.val % 4 = 0 then k0_pay1 (p10 m c t) else X)
      else (if t.val % 4 = 0 then k0_pay1 (p10 m c t) else X)) = a10 m c t.val := by
  obtain ⟨n, hn⟩ := t
  rcases n with _ | n
  · have e := pt_val ⟨0, hn⟩
    simp only [] at e
    unfold a10; rw [e]; rfl
  · have e := pt_val ⟨n + 1, hn⟩
    simp only [] at e h ⊢
    unfold a10; rw [e]
    by_cases h0 : (n + 1) % 4 = 0
    · rw [if_neg (not_not.mpr h0), if_pos h0, if_pos h0]
    · rw [if_pos h0, if_neg h0, if_neg h0, h h0]; rfl

theorem a11_at (t : Fin cfg0.N) {X : Vec F S512x1024 .f32} (h : t.val % 4 ≠ 0 → X = a11 m c (t.val - 1)) :
    (if ¬ t.val % 4 = 0 then k0_pay4 (p11 m c t) (if t.val % 4 = 0 then k0_pay2 (p11 m c t) else X)
      else (if t.val % 4 = 0 then k0_pay2 (p11 m c t) else X)) = a11 m c t.val := by
  obtain ⟨n, hn⟩ := t
  rcases n with _ | n
  · have e := pt_val ⟨0, hn⟩
    simp only [] at e
    unfold a11; rw [e]; rfl
  · have e := pt_val ⟨n + 1, hn⟩
    simp only [] at e h ⊢
    unfold a11; rw [e]
    by_cases h0 : (n + 1) % 4 = 0
    · rw [if_neg (not_not.mpr h0), if_pos h0, if_pos h0]
    · rw [if_pos h0, if_neg h0, if_neg h0, h h0]; rfl

theorem d9_first (t : Fin cfg0.N) (h : t.val < 4) :
    k0_pay12 (vB m c t) (mB m c t) (aB m c t) (bB m c t) (aB m c t) = d9 m c (tile t).val (t.val / 4) := by
  have e : pt (t.val % 4) = t := by rw [Nat.mod_eq_of_lt h]; exact pt_val t
  rw [Nat.div_eq_of_lt h]
  show _ = d9 m c (t.val % 4) 0
  unfold d9; rw [e]

theorem d9_later (t : Fin cfg0.N) (h : ¬ t.val < 4) {X : Vec F S1024x1024 .f32} (hX : X = d9 m c (tile t).val ((t.val - 1 - (tile t).val) / 4)) :
    k0_pay13 (vB m c t) (mB m c t) (aB m c t) (bB m c t) (aB m c t) X = d9 m c (tile t).val (t.val / 4) := by
  have e1 : (t.val - 1 - t.val % 4) / 4 = t.val / 4 - 1 := by omega
  obtain ⟨j, hj⟩ : ∃ j, t.val / 4 = j + 1 := ⟨t.val / 4 - 1, by omega⟩
  have e : pt (4 * (j + 1) + t.val % 4) = t := by
    rw [show 4 * (j + 1) + t.val % 4 = t.val from by omega]; exact pt_val t
  rw [hX, hj]
  show k0_pay13 _ _ _ _ _ (d9 m c (t.val % 4) ((t.val - 1 - t.val % 4) / 4)) = d9 m c (t.val % 4) (j + 1)
  rw [e1, hj, show j + 1 - 1 = j from rfl]
  conv_rhs => unfold d9
  rw [e]

/-! ## What is held between points -/

abbrev dvM : Memref sig .tc .hbm S4096x1024 .f32 := Memref.whole main_v4_0
abbrev accM : Memref sig .tc .vmem S4096x1024 .f32 := Memref.whole cc0_scratch0
abbrev w1M : Memref sig .tc .vmem S1024x512 .f32 := Memref.whole cc0_scratch1
abbrev w2M : Memref sig .tc .vmem S512x1024 .f32 := Memref.whole cc0_scratch2

/-- Tile `k` at rest. -/
abbrev rest (k : Fin 4) (X Y : Vec F S1024x1024 .f32) : sProp (Res F) := Idle dvM accM cc0_scratch3 c k X Y
/-- Tile `k` on its way out. -/
abbrev sent (k : Fin 4) (X : Vec F S1024x1024 .f32) : sProp (Res F) := Flying c (rowsK accM k) (rowsK dvM k) (semK cc0_scratch3 k) X

/-- Tile `k` before point `n`. -/
def blk (n : ℕ) (k : Fin 4) : sProp (Res F) :=
  if 28 + k.val < n then sent c k (d9 m c k.val 7)
  else iprop(∃ X Y, ⌜k.val < n → X = d9 m c k.val ((n - 1 - k.val) / 4)⌝ ∗ rest c k X Y)

/-- Tile `k` when all is done. -/
def done (k : Fin 4) : sProp (Res F) := iprop(∃ X, rest c k X (d9 m c k.val 7))

/-- The tiles before point `n`. -/
def tiles (n : ℕ) : sProp (Res F) := if n < 32 then bigSep Finset.univ (blk m c n) else bigSep Finset.univ (done m c)

/-- What is held before point `n`. -/
def Inv (n : ℕ) : sProp (Res F) :=
  iprop((∃ X, ⌜n % 4 ≠ 0 → X = a10 m c (n - 1)⌝ ∗ owns (c : Thread nD τ) w1M fullShare X)
    ∗ (∃ X, ⌜n % 4 ≠ 0 → X = a11 m c (n - 1)⌝ ∗ owns (c : Thread nD τ) w2M fullShare X)
    ∗ tiles m c n ∗ ∃ r, prngReg c r)

/-- Before point `t` its tile is at rest, and the others need nothing of it. -/
theorem tiles_split (t : Fin cfg0.N) :
    tiles m c t.val ⊢ iprop((∃ X Y, ⌜¬ t.val < 4 → X = d9 m c (tile t).val ((t.val - 1 - (tile t).val) / 4)⌝ ∗ rest c (tile t) X Y)
      ∗ bigSep (Finset.univ.erase (tile t)) (blk m c (t.val + 1))) := by
  have ht := lt32 t
  unfold tiles
  rw [if_pos ht, bigSep_univ_split (tile t)]
  have hk : (tile t).val = t.val % 4 := rfl
  refine BIClass.sep_mono ?_ (bigSep_mono fun k' hk' => ?_)
  · unfold blk
    rw [if_neg (by omega)]
    iintro ⟨%X, %Y, %h, H⟩
    iexists X; iexists Y
    isplitr; · ipureintro; exact fun h4 => h (by omega)
    iexact H
  · have hne : k'.val ≠ t.val % 4 := fun h => Finset.ne_of_mem_erase hk' (Fin.ext (h.trans hk.symm))
    have hlt := k'.isLt
    change (blk m c t.val k' : sProp (Res F)) ⊢ blk m c (t.val + 1) k'
    unfold blk
    by_cases h : 28 + k'.val < t.val
    · rw [if_pos h, if_pos (by omega)]
    · rw [if_neg h, if_neg (by omega)]
      iintro ⟨%X, %Y, %h, H⟩
      iexists X; iexists Y
      isplitr
      · ipureintro
        intro h4
        rw [h (by omega), show (t.val - 1 - k'.val) / 4 = (t.val + 1 - 1 - k'.val) / 4 from by omega]
      iexact H

/-- After point `t` its tile is one pass further, and sent in the last pass. -/
theorem tiles_join (t : Fin cfg0.N) :
    iprop((if 28 ≤ t.val then sent c (tile t) (d9 m c (tile t).val (t.val / 4))
        else iprop(∃ Y, rest c (tile t) (d9 m c (tile t).val (t.val / 4)) Y))
      ∗ bigSep (Finset.univ.erase (tile t)) (blk m c (t.val + 1))) ⊢ bigSep Finset.univ (blk m c (t.val + 1)) := by
  have ht := lt32 t
  have hk : (tile t).val = t.val % 4 := rfl
  rw [bigSep_univ_split (Φ := blk m c (t.val + 1)) (tile t)]
  refine BIClass.sep_mono ?_ .rfl
  unfold blk
  by_cases h : 28 ≤ t.val
  · rw [if_pos h, if_pos (by omega), show t.val / 4 = 7 from by omega]
  · rw [if_neg h, if_neg (by omega)]
    iintro ⟨%Y, H⟩
    iexists _; iexists Y
    isplitr; swap
    · iexact H
    ipureintro
    intro _
    rw [show (t.val + 1 - 1 - (tile t).val) / 4 = t.val / 4 from by omega]

/-! ## One point -/

/-- The tile's rows after part one: the first pass stores, later passes add. -/
theorem part1_at (t : Fin cfg0.N) {harg2 harg3 harg4 harg5 harg6 harg7 harg8 harg9 harg10 harg11} {X Y : Vec F S1024x1024 .f32}
    (hX : ¬ t.val < 4 → X = d9 m c (tile t).val ((t.val - 1 - (tile t).val) / 4))
    {Q : (Σ' (_ : BitVec 32) (_ : BitVec 32) (_ : FVec F S1024x512 .f32) (_ : FVec F S512x1024 .f32), BitVec 32) → sProp (Res F)} :
    iprop(owns (c : Thread nD τ) (st0_0 t) fullShare (vB m c t) ∗ owns (c : Thread nD τ) (st0_1 t) fullShare (mB m c t)
        ∗ owns (c : Thread nD τ) (st0_2 t) fullShare (aB m c t) ∗ owns (c : Thread nD τ) (st0_3 t) fullShare (bB m c t)
        ∗ rest c (tile t) X Y)
      ⊢ (iprop((iprop(owns (c : Thread nD τ) (st0_0 t) fullShare (vB m c t) ∗ owns (c : Thread nD τ) (st0_1 t) fullShare (mB m c t)
            ∗ owns (c : Thread nD τ) (st0_2 t) fullShare (aB m c t) ∗ owns (c : Thread nD τ) (st0_3 t) fullShare (bB m c t)
            ∗ rest c (tile t) (d9 m c (tile t).val (t.val / 4)) Y)
          -∗ Q ⟨BitVec.ofNat 32 (grid0.coords t 0).val, BitVec.ofNat 32 (grid0.coords t 1).val, p10 m c t, p11 m c t,
              Scalar.extui (Scalar.cmpi .eq (BitVec.ofNat 32 (grid0.coords t 1).val) 0#32)⟩)
        -∗ Run c (k0_part1 (F := F) (grid0.coords t) (st0_0 t) harg2 (st0_1 t) harg3 (st0_2 t) harg4 (st0_3 t) harg5 dvM harg6
            (st0_4 t) harg7 (st0_5 t) harg8 accM harg9 w1M harg10 w2M harg11 cc0_scratch3) Q) : sProp (Res F)) := by
  unfold rest Idle p10 p11
  by_cases h : t.val < 4
  · have h1 := (cond1_iff t).mpr h
    have h2 : ¬ k0_cond2 (grid0.coords t) = 1#1 := fun e => (cond2_iff t).mp e h
    rw [← rows_at accM (tile t) (k0_off1_inb (grid0.coords t) h1) (off1_at t), ← d9_first m c t h]
    iintro ⟨H0, H1, H2, H3, ⟨H, D, S⟩⟩ Hk
    iapply (part1_first (st0_0 t) (st0_1 t) (st0_2 t) (st0_3 t) dvM (st0_4 t) harg7 (st0_5 t) harg8 accM w1M w2M cc0_scratch3
      (grid0.coords t) harg2 harg3 harg4 harg5 harg6 harg9 harg10 harg11 c h1 h2) $$ [H0 H1 H2 H3 H]
    · isplitl [H0]; · iexact H0
      isplitl [H1]; · iexact H1
      isplitl [H2]; · iexact H2
      isplitl [H3]; · iexact H3
      iexact H
    iintro ⟨H0, H1, H2, H3, H⟩
    iapply Hk
    isplitl [H0]; · iexact H0
    isplitl [H1]; · iexact H1
    isplitl [H2]; · iexact H2
    isplitl [H3]; · iexact H3
    isplitl [H]; · iexact H
    isplitl [D]; · iexact D
    iexact S
  · have h1 : ¬ k0_cond1 (grid0.coords t) = 1#1 := fun e => h ((cond1_iff t).mp e)
    have h2 := (cond2_iff t).mpr h
    rw [← rows_at accM (tile t) (k0_off2_inb (grid0.coords t) h2) (off2_at t), ← d9_later m c t h (hX h)]
    iintro ⟨H0, H1, H2, H3, ⟨H, D, S⟩⟩ Hk
    iapply (part1_later (st0_0 t) (st0_1 t) (st0_2 t) (st0_3 t) dvM (st0_4 t) harg7 (st0_5 t) harg8 accM w1M w2M cc0_scratch3
      (grid0.coords t) harg2 harg3 harg4 harg5 harg6 harg9 harg10 harg11 c h1 h2) $$ [H0 H1 H2 H3 H]
    · isplitl [H0]; · iexact H0
      isplitl [H1]; · iexact H1
      isplitl [H2]; · iexact H2
      isplitl [H3]; · iexact H3
      iexact H
    iintro ⟨H0, H1, H2, H3, H⟩
    iapply Hk
    isplitl [H0]; · iexact H0
    isplitl [H1]; · iexact H1
    isplitl [H2]; · iexact H2
    isplitl [H3]; · iexact H3
    isplitl [H]; · iexact H
    isplitl [D]; · iexact D
    iexact S

/-- The rows after the sending step. -/
theorem send_at (t : Fin cfg0.N) {Y : Vec F S1024x1024 .f32} {Q : PUnit → sProp (Res F)} :
    rest c (tile t) (d9 m c (tile t).val (t.val / 4)) Y
      ⊢ (iprop((iprop(if 28 ≤ t.val then sent c (tile t) (d9 m c (tile t).val (t.val / 4))
            else iprop(∃ Y, rest c (tile t) (d9 m c (tile t).val (t.val / 4)) Y)) -∗ Q ⟨⟩)
        -∗ Run c (sendRows dvM accM cc0_scratch3 (grid0.coords t)) Q) : sProp (Res F)) := by
  iintro H Hk
  iapply (sendRows_run dvM accM cc0_scratch3 (grid0.coords t) c (tile t) (off3_at t) (off4_at t)) $$ H
  by_cases h : 28 ≤ t.val
  · rw [if_pos ((cond6_iff t).mpr h), if_pos h]
    iexact Hk
  · rw [if_neg fun e => h ((cond6_iff t).mp e), if_neg h]
    iintro H
    iapply Hk
    iexists Y
    iexact H

theorem bigSep_four {M : Type} [URA M] (Φ : Fin 4 → sProp M) :
    bigSep Finset.univ Φ = iprop(Φ 0 ∗ Φ 1 ∗ Φ 2 ∗ Φ 3) :=
  bigSep_univ_eq_bigSepL [(0 : Fin 4), 1, 2, 3] (by decide) (by decide) Φ

/-- The collecting step leaves the tiles as the next point finds them. -/
theorem collect_at (t : Fin cfg0.N) {Q : PUnit → sProp (Res F)} :
    iprop(bigSep Finset.univ (blk m c (t.val + 1)) ∗ ∃ W, owes (c : Thread nD τ) 0 W)
      ⊢ (iprop((iprop(tiles m c (t.val + 1) ∗ ∃ W, owes (c : Thread nD τ) 0 W) -∗ Q ⟨⟩)
        -∗ Run c (collect dvM accM cc0_scratch3 (Scalar.cmpi .ne (Scalar.extui (Scalar.andi (Scalar.cmpi .eq (BitVec.ofNat 32 (grid0.coords t 0).val) 7#32)
      (Scalar.cmpi .eq (BitVec.ofNat 32 (grid0.coords t 1).val) 3#32)) : BitVec 32) 0#32)) Q) : sProp (Res F)) := by
  have ht := lt32 t
  unfold tiles
  by_cases h : t.val = 31
  · have e : ∀ k : Fin 4, blk m c (t.val + 1) k = sent c k (d9 m c k.val 7) := fun k => if_pos (by omega)
    rw [if_neg (by omega), bigSep_four, bigSep_four, e, e, e, e]
    unfold done
    iintro ⟨⟨H0, H1, H2, H3⟩, HW⟩ Hk
    iapply (collect_run dvM accM cc0_scratch3 c _ ((last_iff t).mpr h)) $$ [H0 H1 H2 H3 HW]
    · isplitl [H0]; · iexact H0
      isplitl [H1]; · iexact H1
      isplitl [H2]; · iexact H2
      isplitl [H3]; · iexact H3
      iexact HW
    iintro ⟨H0, H1, H2, H3, HW⟩
    iapply Hk
    isplitl [H0 H1 H2 H3]; swap; · iexact HW
    isplitl [H0]; · iexists _; iexact H0
    isplitl [H1]; · iexists _; iexact H1
    isplitl [H2]; · iexists _; iexact H2
    iexists _; iexact H3
  · rw [if_pos (by omega)]
    iintro H Hk
    iapply (collect_skip dvM accM cc0_scratch3 c _ fun e => h ((last_iff t).mp e))
    iapply Hk
    iexact H

/-- The proof data: the arrays as the region finds them and what each point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay5 (a10 m c t.val)
    | ⟨5, _⟩ => k0_pay6 (a11 m c t.val)
  Φ n := Inv m c n.val
  q _ := fullShare
  owed _ := 0

theorem A_eq (w : Fin cfg0.W) : (dats m 0 c).A w = V m c (Pipeline.arrRef spec0 w) := by dsimp only [dats]

theorem before_0 (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; rfl) t d).trans
    (by unfold Dat.fetched Dat.blockOf iblk; rfl)
theorem before_1 (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; rfl) t d).trans
    (by unfold Dat.fetched Dat.blockOf iblk; rfl)
theorem before_2 (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; rfl) t d).trans
    (by unfold Dat.fetched Dat.blockOf iblk; rfl)
theorem before_3 (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; rfl) t d).trans
    (by unfold Dat.fetched Dat.blockOf iblk; rfl)

/-- The first weights' block is written at a pass's last tile and left alone before. -/
theorem leaves_4 (t : Fin cfg0.N) (d) :
    owns (c : Thread nD τ) (st0_4 t) fullShare (if k0_cond5 (grid0.coords t) = 1#1 then k0_pay5 (a10 m c t.val) else (dats m 0 c).before 4 t d)
      ⊢ ((dats m 0 c).leavesExact 4 t : sProp (Res F)) := by
  by_cases h : t.val % 4 = 3
  · rw [if_pos ((cond5_iff t).mpr h)]
    unfold Dat.leavesExact
    rw [idle4 t, decide_eq_true h]
    exact .rfl
  · rw [if_neg fun e => h ((cond5_iff t).mp e),
      Dat.leavesExact_idle (dats m 0 c) 4 t ((idle4 t).trans (by rw [decide_eq_false h]; rfl)) ((flush4 t).trans (decide_eq_false h))]
    iintro H
    iexists d
    iexact H

/-- The second weights' block likewise. -/
theorem leaves_5 (t : Fin cfg0.N) (d) :
    owns (c : Thread nD τ) (st0_5 t) fullShare (if k0_cond5 (grid0.coords t) = 1#1 then k0_pay6 (a11 m c t.val) else (dats m 0 c).before 5 t d)
      ⊢ ((dats m 0 c).leavesExact 5 t : sProp (Res F)) := by
  by_cases h : t.val % 4 = 3
  · rw [if_pos ((cond5_iff t).mpr h)]
    unfold Dat.leavesExact
    rw [idle5 t, decide_eq_true h]
    exact .rfl
  · rw [if_neg fun e => h ((cond5_iff t).mp e),
      Dat.leavesExact_idle (dats m 0 c) 5 t ((idle5 t).trans (by rw [decide_eq_false h]; rfl)) ((flush5 t).trans (decide_eq_false h))]
    iintro H
    iexists d
    iexact H

/-- What a point is handed. -/
def bodyPre (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it hands back. -/
def bodyPost (t : Fin cfg0.N) : sProp (Res F) :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- The body at any point. -/
theorem sound_body (t : Fin cfg0.N) :
    bodyPre m c t ⊢ (Run c (bodyAt0 t) (fun _ => bodyPost m c t) : sProp (Res F)) := by
  unfold bodyPre bodyPost bodyAt0
  simp only [before_0, before_1, before_2, before_3]
  rw [show (dats m 0 c).Φ t.castSucc = Inv m c t.val from rfl, show (dats m 0 c).Φ t.succ = Inv m c (t.val + 1) from rfl]
  unfold Dat.owesAt Pipeline.owesWithin
  rw [show (dats m 0 c).owed t.castSucc = 0 from rfl, show (dats m 0 c).owed t.succ = 0 from rfl]
  unfold Inv
  rw [body_eq]
  unfold Run
  simp only [wp_bind]
  iintro ⟨⟨⟨%X1, %hX1, A1⟩, ⟨%X2, %hX2, A2⟩, HT, HR⟩, ⟨%W, -, HW⟩, ⟨%d0, H0⟩, ⟨%d1, H1⟩, ⟨%d2, H2⟩, ⟨%d3, H3⟩, ⟨%d4, H4⟩, ⟨%d5, H5⟩⟩
  ihave HT' := (tiles_split m c t) $$ HT
  icases HT' with ⟨⟨%X, %Y, %hX, HK⟩, HT⟩
  iapply (part1_at m c t hX) $$ [H0 H1 H2 H3 HK]
  · isplitl [H0]; · iexact H0
    isplitl [H1]; · iexact H1
    isplitl [H2]; · iexact H2
    isplitl [H3]; · iexact H3
    iexact HK
  iintro ⟨H0, H1, H2, H3, HK⟩
  iapply (openPass_run w1M w2M c _) $$ [A1 A2]
  · isplitl [A1]; · iexact A1
    iexact A2
  iintro ⟨A1, A2⟩
  iapply (addTile_run w1M w2M c _) $$ [A1 A2]
  · isplitl [A1]; · iexact A1
    iexact A2
  simp only [open_iff t, add_iff t, a10_at m c t hX1, a11_at m c t hX2]
  iintro ⟨A1, A2⟩
  iapply (closePass_run (st0_4 t) _ (st0_5 t) _ w1M w2M (grid0.coords t) c) $$ [H4 H5 A1 A2]
  · isplitl [H4]; · iexact H4
    isplitl [H5]; · iexact H5
    isplitl [A1]; · iexact A1
    iexact A2
  iintro ⟨H4, H5, A1, A2⟩
  iapply (send_at m c t) $$ HK
  iintro HK
  iapply (collect_at m c t) $$ [HK HT HW]
  · isplitl [HK HT]
    · iapply (tiles_join m c t)
      isplitl [HK]; · iexact HK
      iexact HT
    iexists W
    iexact HW
  iintro ⟨HT, ⟨%W', HW⟩⟩
  iapply le_wp_ret
  isplitl [A1 A2 HT HR]
  · isplitl [A1]
    · iexists _
      isplitr; swap; · iexact A1
      ipureintro; exact fun _ => rfl
    isplitl [A2]
    · iexists _
      isplitr; swap; · iexact A2
      ipureintro; exact fun _ => rfl
    isplitl [HT]; · iexact HT
    iexact HR
  isplitl [HW]
  · iexists W'
    isplitr; · ipureintro; exact fun _ _ => Or.inl trivial
    iexact HW
  isplitl [H0]; · iexact H0
  isplitl [H1]; · iexact H1
  isplitl [H2]; · iexact H2
  isplitl [H3]; · iexact H3
  isplitl [H4]
  · iapply (leaves_4 m c t d4)
    iexact H4
  iapply (leaves_5 m c t d5)
  iexact H5

theorem defs₀_row (t : Fin cfg0.N) :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The ends of the run -/

/-- A full array from its four tiles. -/
def glue (f : Fin 4 → Vec F S1024x1024 .f32) : Vec F S4096x1024 .f32 := fun i =>
  f ⟨(i 0).val / 1024, Nat.div_lt_of_lt_mul (i 0).isLt⟩ (ix2 ⟨(i 0).val % 1024, Nat.mod_lt _ (by decide)⟩ ⟨(i 1).val, (i 1).isLt⟩)

theorem glue_at (f : Fin 4 → Vec F S1024x1024 .f32) (k : Fin 4) (j : S1024x1024.Idx) : glue f ((rowRect k).emb j) = f k j := by
  have e0 : (((rowRect k).emb j) 0).val = 1024 * k.val + (j 0).val := by
    rw [Rect.emb_apply]; exact congrArg _ (Nat.one_mul _)
  have e1 : (((rowRect k).emb j) 1).val = (j 1).val := by
    rw [Rect.emb_apply]; exact (congrArg _ (Nat.one_mul _)).trans (Nat.zero_add _)
  have h0 : (j 0).val < 1024 := (j 0).isLt
  unfold glue
  rw [show (⟨(((rowRect k).emb j) 0).val / 1024, Nat.div_lt_of_lt_mul (((rowRect k).emb j) 0).isLt⟩ : Fin 4) = k from
    Fin.ext (by rw [Fin.val_mk, e0]; omega)]
  refine congrArg (f k) ((eq_ix2 j).trans ?_).symm
  have a0 : j 0 = (⟨(((rowRect k).emb j) 0).val % 1024, Nat.mod_lt _ (by decide)⟩ : Fin 1024) :=
    Fin.ext (by show _ = (((rowRect k).emb j) 0).val % 1024; rw [e0]; omega)
  have a1 : j 1 = (⟨(((rowRect k).emb j) 1).val, (((rowRect k).emb j) 1).isLt⟩ : Fin 1024) := Fin.ext e1.symm
  exact congrArg₂ ix2 a0 a1

theorem rows_disj (k k' : Fin 4) (h : k ≠ k') : Disjoint (rowRect k).set (rowRect k').set := by
  refine Rect.disjoint_of_axis _ _ 0 fun j hj j' hj' e => h (Fin.ext ?_)
  have e' : 1024 * k.val + 1 * j = 1024 * k'.val + 1 * j' := e
  have hj : j < 1024 := hj
  have hj' : j' < 1024 := hj'
  omega

theorem rows_cov : (Finset.univ : Finset (Fin 4)).biUnion (fun k => (rowRect k).set) = Finset.univ := by
  refine Finset.eq_univ_of_forall fun i => Finset.mem_biUnion.mpr ?_
  have h0 : (i 0).val < 4096 := (i 0).isLt
  have h1 : (i 1).val < 1024 := (i 1).isLt
  refine ⟨⟨(i 0).val / 1024, by omega⟩, Finset.mem_univ _, Rect.mem_set_unit.mpr fun a => ?_⟩
  refine Fin.cases ?_ (fun a => Fin.cases ?_ (fun a => a.elim0) a) a
  · show 1024 * ((i 0).val / 1024) ≤ (i 0).val ∧ (i 0).val < 1024 * ((i 0).val / 1024) + 1024
    omega
  · show 0 ≤ (i 1).val ∧ (i 1).val < 0 + 1024
    omega

/-- A whole buffer is its four tiles' rows. -/
theorem split_rows {sp : Space} (b : Memref sig .tc sp S4096x1024 .f32) (X : Vec F S4096x1024 .f32) :
    (owns (c : Thread nD τ) b fullShare X : sProp (Res F))
      ⊢ bigSep Finset.univ fun k : Fin 4 => owns (c : Thread nD τ) (rowsK b k) fullShare fun j => X ((rowRect k).emb j) :=
  owns_rects (c : Thread nD τ) b fullShare rowRect (fun _ _ => rfl) rows_disj rows_cov X

/-- Four tiles' rows are the whole buffer. -/
theorem join_rows {sp : Space} (b : Memref sig .tc sp S4096x1024 .f32) (f : Fin 4 → Vec F S1024x1024 .f32) :
    (bigSep Finset.univ fun k : Fin 4 => owns (c : Thread nD τ) (rowsK b k) fullShare (f k))
      ⊢ (owns (c : Thread nD τ) b fullShare (glue f) : sProp (Res F)) := by
  refine BIClass.entails_trans ?_ (owns_of_rects (c : Thread nD τ) b fullShare rowRect (fun _ _ => rfl) rows_disj rows_cov (glue f))
  rw [show (fun k : Fin 4 => owns (c : Thread nD τ) (b.slice (rowRect k) (fun _ => rfl)) fullShare fun j => glue f ((rowRect k).emb j))
    = fun k : Fin 4 => (owns (c : Thread nD τ) (rowsK b k) fullShare (f k) : sProp (Res F)) from
    funext fun k => by rw [show (fun j => glue f ((rowRect k).emb j)) = f k from funext fun j => glue_at f k j]]

/-- The input gradient the run leaves. -/
def dvOut : Vec F S4096x1024 .f32 := glue fun k => d9 m c k.val 7

/-- The unstaged buffers at the run's end. -/
def G (c : Dev nD) (b : Ref sig .tc) : Buf (Elt F) ((c.tc : Thread nD τ).loc b) :=
  Function.update (V m c) main_v4_0 (dvOut m c) b

abbrev osem (k : Fin 4) : SemLoc sig := .dma (semK cc0_scratch3 k)

theorem osem_facts : Pipeline.OwnSemFacts spec0 osem := by decide +kernel

theorem R_sub : ({main_v4_0} : Finset (Ref sig .tc)) ⊆ Pipeline.restRefs sig spec0 \ ∅ := by
  rw [Finset.sdiff_empty, Finset.singleton_subset_iff]
  exact Pipeline.mem_restRefs_of main_v4_0 (by decide) (by decide)

theorem whole_in (b : Ref sig .tc) (f : Buf (Elt F) ((c : Thread nD τ).loc b)) :
    (((c : Thread nD τ).loc b) ↦{fullShare} f : sProp (Res F)) ⊢ owns (c : Thread nD τ) (Memref.whole b) fullShare f := by
  rw [owns_whole (c : Thread nD τ) b]

theorem whole_out (b : Ref sig .tc) (f : Buf (Elt F) ((c : Thread nD τ).loc b)) :
    (owns (c : Thread nD τ) (Memref.whole b) fullShare f : sProp (Res F)) ⊢ ((c : Thread nD τ).loc b) ↦{fullShare} f := by
  rw [owns_whole (c : Thread nD τ) b]

/-- All tiles at rest are the two buffers' rows and the semaphores. -/
theorem rest_all (X Y : Fin 4 → Vec F S1024x1024 .f32) :
    (bigSep Finset.univ fun k : Fin 4 => rest c k (X k) (Y k))
      = (iprop((bigSep Finset.univ fun k : Fin 4 => owns (c : Thread nD τ) (rowsK accM k) fullShare (X k))
        ∗ (bigSep Finset.univ fun k : Fin 4 => owns (c : Thread nD τ) (rowsK dvM k) fullShare (Y k))
        ∗ bigSep Finset.univ fun k : Fin 4 => semVal ((c : Thread nD τ), osem k) 0) : sProp (Res F)) := by
  exact (bigSep_sep Finset.univ _ _).trans (congrArg _ (bigSep_sep Finset.univ _ _))

/-- The run starts with every tile at rest. -/
theorem enter : Pipeline.ΦDRG osem spec0 ∅ {main_v4_0} (V m) (V m) c ⊢ (Inv m c 0 : sProp (Res F)) := by
  rw [Pipeline.ΦDRG_eq, scopedRest0_eq]
  unfold Pipeline.ownSems0 Pipeline.routed Inv tiles
  rw [if_pos (by decide), bigSep_singleton]
  iintro ⟨⟨⟨%f, Ha⟩, ⟨%g, H1⟩, ⟨%h, H2⟩⟩, HR, HS, -, HD⟩
  ihave Ha := (whole_in c cc0_scratch0 f) $$ Ha
  ihave Ha := (split_rows c accM f) $$ Ha
  ihave HD := (whole_in c main_v4_0 (V m c main_v4_0)) $$ HD
  ihave HD := (split_rows c dvM (V m c main_v4_0)) $$ HD
  isplitl [H1]
  · iexists g
    isplitr; · ipureintro; exact fun h => absurd rfl h
    iapply (whole_in c cc0_scratch1 g)
    iexact H1
  isplitl [H2]
  · iexists h
    isplitr; · ipureintro; exact fun h => absurd rfl h
    iapply (whole_in c cc0_scratch2 h)
    iexact H2
  isplitl [Ha HD HS]; swap; · iexact HR
  iapply (show (bigSep Finset.univ fun k : Fin 4 => rest c k (fun j => f ((rowRect k).emb j)) (fun j => V m c main_v4_0 ((rowRect k).emb j)))
      ⊢ (bigSep Finset.univ (blk m c 0) : sProp (Res F)) from bigSep_mono fun k _ => by
    change rest c k (fun j => f ((rowRect k).emb j)) (fun j => V m c main_v4_0 ((rowRect k).emb j)) ⊢ (blk m c 0 k : sProp (Res F))
    unfold blk
    rw [if_neg (by omega)]
    iintro H
    iexists _; iexists _
    isplitr; swap; · iexact H
    ipureintro; exact fun h => absurd h (Nat.not_lt_zero _))
  rw [rest_all]
  isplitl [Ha]; · iexact Ha
  isplitl [HD]; · iexact HD
  iexact HS

/-- All tiles done are all tiles at rest with the input gradient's rows. -/
theorem done_all : bigSep Finset.univ (done m c) ⊢ (iprop(∃ X : Fin 4 → Vec F S1024x1024 .f32,
      bigSep Finset.univ fun k : Fin 4 => rest c k (X k) (d9 m c k.val 7)) : sProp (Res F)) := by
  rw [bigSep_four]
  unfold done
  iintro ⟨⟨%X0, H0⟩, ⟨%X1, H1⟩, ⟨%X2, H2⟩, ⟨%X3, H3⟩⟩
  iexists ![X0, X1, X2, X3]
  rw [bigSep_four]
  isplitl [H0]; · iexact H0
  isplitl [H1]; · iexact H1
  isplitl [H2]; · iexact H2
  iexact H3

/-- It ends with the input gradient written. -/
theorem leave : (Inv m c 32 : sProp (Res F)) ⊢ Pipeline.ΦDRG osem spec0 ∅ {main_v4_0} (V m) (G m) c := by
  rw [Pipeline.ΦDRG_eq, scopedRest0_eq]
  unfold Pipeline.ownSems0 Pipeline.routed Inv tiles
  rw [if_neg (by decide), bigSep_singleton, bigSep_empty, show G m c main_v4_0 = dvOut m c from Function.update_self _ _ _]
  unfold dvOut
  iintro ⟨⟨%g, -, H1⟩, ⟨%h, -, H2⟩, HT, HR⟩
  ihave HT := (done_all m c) $$ HT
  icases HT with ⟨%X, HT⟩
  ihave HT := (show (bigSep Finset.univ fun k : Fin 4 => rest c k (X k) (d9 m c k.val 7))
      ⊢ (iprop((bigSep Finset.univ fun k : Fin 4 => owns (c : Thread nD τ) (rowsK accM k) fullShare (X k))
        ∗ (bigSep Finset.univ fun k : Fin 4 => owns (c : Thread nD τ) (rowsK dvM k) fullShare (d9 m c k.val 7))
        ∗ bigSep Finset.univ fun k : Fin 4 => semVal ((c : Thread nD τ), osem k) 0) : sProp (Res F)) from by
      rw [rest_all c X fun k => d9 m c k.val 7]) $$ HT
  icases HT with ⟨Ha, HD, HS⟩
  ihave Ha := (join_rows c accM X) $$ Ha
  ihave Ha := (whole_out c cc0_scratch0 (glue X)) $$ Ha
  ihave HD := (join_rows c dvM fun k => d9 m c k.val 7) $$ HD
  ihave HD := (whole_out c main_v4_0 (glue fun k => d9 m c k.val 7)) $$ HD
  ihave H1 := (whole_out c cc0_scratch1 g) $$ H1
  ihave H2 := (whole_out c cc0_scratch2 h) $$ H2
  isplitl [Ha H1 H2]
  · isplitl [Ha]; · iexists _; iexact Ha
    isplitl [H1]; · iexists _; iexact H1
    iexists _; iexact H2
  isplitl [HR]; · iexact HR
  isplitl [HS]; · iexact HS
  isplitr; · iempintro
  iexact HD

set_option backward.isDefEq.respectTransparency.types false in
/-- The run. -/
theorem run_main : θ_run defs (onTc (τ := τ) (main (F := F))) (s₀ m ρ)
    (fun r => Pipeline.FramePostRG cfgs (dats m) 0 {main_v4_0} (V m) (G m) r ∧ r.2.sem = fun _ => 0) :=
  Pipeline.θ_run_frame_dmaRG (Q' := _) cfgs (dats m) (0 : Fin 1) launch0 osem defs₀ Variants.none osem_facts ∅ {main_v4_0}
    (Finset.empty_subset _) R_sub m ρ main
    (hbody := fun c => (body_obligation m c).loose) (hshare := fun c => (dats m 0 c).share_full fun _ => rfl)
    (howed := fun _ _ => rfl) (V := V m)
    (hmain := Pipeline.hmain_prefix cfgs 0 defs₀ Variants.none m main hostOps0 hostOps0_sub hostOps0_fresh main_chain)
    (hA := A_eq m) (G := G m) (hin := fun c => enter m c) (hout := fun c => leave m c)

end Cert.MlpVal

end
-- ==== Proof.MlpVal.lean ====
module
public import proofs.«01_k».proof.Proof.MlpRun
public import proofs.«01_k».proof.Proof.Gen.MlpReferenceIdeal.Read
public import Idealize.ShloMosaic.Lib.KernelVsHost
public import Idealize.ShloMosaic.Lib.StableHlo.ReadAt
@[expose] public section
set_option maxRecDepth 16384
set_option maxHeartbeats 400000
noncomputable section
/-! The MLP gradient: what the call returns and what the reference computes. -/
namespace Cert.MlpVal
open Idealize.ShloMosaic Idealize.ShloMosaic.TcCoe Idealize.SL.Sem
open Cert.MlpIdeal Cert.MlpIdeal.Gen

variable (m : (ℓ : Loc nD τ sig) → Buf (Elt Ideal) ℓ) (c : Dev nD)

/-! ## One tile's arithmetic -/

theorem zero_word : Ideal.ofBits .f32 0x00000000#32 = 0 := by
  simp [Ideal.ofBits, Ideal.ieee]

theorem two_word : Ideal.ofBits .f32 0x40000000#32 = 2 := by
  simp [Ideal.ofBits, Ideal.ieee]
  rw [← EReal.coe_mul]; norm_num; rfl

theorem hidden (v : Vec Ideal S1024x1024 .bf16) (w : Vec Ideal S1024x512 .bf16) (r : Fin 1024) (q : Fin 512) :
    k0_pay9 v w (ix2 r q) = max (∑ k : Fin 1024, v (ix2 r k) * w (ix2 k q)) 0 := by
  pointwise [k0_pay9, k0_pay7]

theorem hidden_grad (v u : Vec Ideal S1024x1024 .bf16) (w : Vec Ideal S1024x512 .bf16) (z : Vec Ideal S512x1024 .bf16) (r : Fin 1024) (q : Fin 512) :
    k0_pay10 v u w z (ix2 r q) = (∑ k : Fin 1024, u (ix2 r k) * z (ix2 q k)) * (2 * k0_pay9 v w (ix2 r q)) := by
  pointwise [k0_pay10, k0_pay8]
  rw [two_word]

theorem part_w1 (v u : Vec Ideal S1024x1024 .bf16) (w : Vec Ideal S1024x512 .bf16) (z : Vec Ideal S512x1024 .bf16) (a : Fin 1024) (q : Fin 512) :
    k0_pay14 v u w z (ix2 a q) = ∑ r : Fin 1024, v (ix2 r a) * k0_pay10 v u w z (ix2 r q) := by
  pointwise [k0_pay14, k0_pay7]

theorem part_w2 (v u : Vec Ideal S1024x1024 .bf16) (w : Vec Ideal S1024x512 .bf16) (q : Fin 512) (a : Fin 1024) :
    k0_pay15 v u w (ix2 q a) = ∑ r : Fin 1024, k0_pay9 v w (ix2 r q) * k0_pay9 v w (ix2 r q) * u (ix2 r a) := by
  pointwise [k0_pay15, k0_pay8]

theorem rows_first (v u : Vec Ideal S1024x1024 .bf16) (w : Vec Ideal S1024x512 .bf16) (z : Vec Ideal S512x1024 .bf16) (r a : Fin 1024) :
    k0_pay12 v u w z w (ix2 r a) = ∑ q : Fin 512, k0_pay10 v u w z (ix2 r q) * w (ix2 a q) := by
  pointwise [k0_pay12, k0_pay11]

theorem rows_later (v u : Vec Ideal S1024x1024 .bf16) (w : Vec Ideal S1024x512 .bf16) (z : Vec Ideal S512x1024 .bf16) (x : Vec Ideal S1024x1024 .f32) (r a : Fin 1024) :
    k0_pay13 v u w z w x (ix2 r a) = x (ix2 r a) + ∑ q : Fin 512, k0_pay10 v u w z (ix2 r q) * w (ix2 a q) := by
  pointwise [k0_pay13, k0_pay11]

/-! ## The whole arrays -/

abbrev aV : Vec Ideal S4096x1024 .f32 := m ((c : Thread nD τ).loc main_arg0)
abbrev aM : Vec Ideal S4096x1024 .f32 := m ((c : Thread nD τ).loc main_arg1)
abbrev aW1 : Vec Ideal S1024x4096 .f32 := m ((c : Thread nD τ).loc main_arg2)
abbrev aW2 : Vec Ideal S4096x1024 .f32 := m ((c : Thread nD τ).loc main_arg3)

/-- The hidden layer. -/
def hid (s j : Fin 4096) : EReal := max (∑ k : Fin 1024, aV m c (ix2 s k) * aW1 m c (ix2 k j)) 0
/-- Its gradient. -/
def dhid (s j : Fin 4096) : EReal := (∑ k : Fin 1024, aM m c (ix2 s k) * aW2 m c (ix2 j k)) * (2 * hid m c s j)

/-- Row `r` of a point's tile. -/
def row (t : Fin cfg0.N) (r : Fin 1024) : Fin 4096 := ⟨1024 * (t.val % 4) + r.val, by omega⟩
/-- Column `q` of a point's pass. -/
def col (t : Fin cfg0.N) (q : Fin 512) : Fin 4096 := ⟨512 * (t.val / 4) + q.val, by have := lt32 t; omega⟩

theorem index0 : ∀ t : Fin cfg0.N, (win0_0.index t 0 = t.val % 4 ∧ win0_0.index t 1 = 0)
    ∧ (win0_1.index t 0 = t.val % 4 ∧ win0_1.index t 1 = 0)
    ∧ (win0_2.index t 0 = 0 ∧ win0_2.index t 1 = t.val / 4)
    ∧ (win0_3.index t 0 = t.val / 4 ∧ win0_3.index t 1 = 0)
    ∧ (win0_4.index t 0 = 0 ∧ win0_4.index t 1 = t.val / 4)
    ∧ (win0_5.index t 0 = t.val / 4 ∧ win0_5.index t 1 = 0) := by decide +kernel

theorem V0 : (V m c main_v0 : Vec Ideal S4096x1024 .bf16) = aV m c := by
  unfold V; after_reads_simp; rfl
theorem V1 : (V m c main_v1 : Vec Ideal S4096x1024 .bf16) = aM m c := by
  unfold V; after_reads_simp; rfl
theorem V2 : (V m c main_v2 : Vec Ideal S1024x4096 .bf16) = aW1 m c := by
  unfold V; after_reads_simp; rfl
theorem V3 : (V m c main_v3 : Vec Ideal S4096x1024 .bf16) = aW2 m c := by
  unfold V; after_reads_simp; rfl

theorem block0 (t : Fin cfg0.N) (r k : Fin 1024) : vB m c t (ix2 r k) = aV m c (ix2 (row t r) k) := by
  rw [← V0]
  exact congrArg (V m c main_v0) (funext fun i => Fin.ext (by
    have h := (index0 t).1
    match i with
    | ⟨0, _⟩ => show win0_0.index t 0 * 1024 + 1 * r.val = 1024 * (t.val % 4) + r.val; rw [h.1]; omega
    | ⟨1, _⟩ => show win0_0.index t 1 * 1024 + 1 * k.val = k.val; rw [h.2]; omega))
theorem block1 (t : Fin cfg0.N) (r k : Fin 1024) : mB m c t (ix2 r k) = aM m c (ix2 (row t r) k) := by
  rw [← V1]
  exact congrArg (V m c main_v1) (funext fun i => Fin.ext (by
    have h := (index0 t).2.1
    match i with
    | ⟨0, _⟩ => show win0_1.index t 0 * 1024 + 1 * r.val = 1024 * (t.val % 4) + r.val; rw [h.1]; omega
    | ⟨1, _⟩ => show win0_1.index t 1 * 1024 + 1 * k.val = k.val; rw [h.2]; omega))
theorem block2 (t : Fin cfg0.N) (k : Fin 1024) (q : Fin 512) : aB m c t (ix2 k q) = aW1 m c (ix2 k (col t q)) := by
  rw [← V2]
  exact congrArg (V m c main_v2) (funext fun i => Fin.ext (by
    have h := (index0 t).2.2.1
    match i with
    | ⟨0, _⟩ => show win0_2.index t 0 * 1024 + 1 * k.val = k.val; rw [h.1]; omega
    | ⟨1, _⟩ => show win0_2.index t 1 * 512 + 1 * q.val = 512 * (t.val / 4) + q.val; rw [h.2]; omega))
theorem block3 (t : Fin cfg0.N) (q : Fin 512) (k : Fin 1024) : bB m c t (ix2 q k) = aW2 m c (ix2 (col t q) k) := by
  rw [← V3]
  exact congrArg (V m c main_v3) (funext fun i => Fin.ext (by
    have h := (index0 t).2.2.2.1
    match i with
    | ⟨0, _⟩ => show win0_3.index t 0 * 512 + 1 * q.val = 512 * (t.val / 4) + q.val; rw [h.1]; omega
    | ⟨1, _⟩ => show win0_3.index t 1 * 1024 + 1 * k.val = k.val; rw [h.2]; omega))

theorem hid_at (t : Fin cfg0.N) (r : Fin 1024) (q : Fin 512) : k0_pay9 (vB m c t) (aB m c t) (ix2 r q) = hid m c (row t r) (col t q) := by
  rw [hidden]; simp only [block0, block2]; rfl

theorem dhid_at (t : Fin cfg0.N) (r : Fin 1024) (q : Fin 512) :
    k0_pay10 (vB m c t) (mB m c t) (aB m c t) (bB m c t) (ix2 r q) = dhid m c (row t r) (col t q) := by
  rw [hidden_grad, hid_at]; simp only [block1, block3]; rfl

/-! ## The sums -/

/-- A sum over the hidden columns is the sum over the passes. -/
theorem sum_passes (f : Fin 4096 → EReal) : ∑ s, f s = ∑ j : Fin 8, ∑ q : Fin 512, f ⟨512 * j.val + q.val, by omega⟩ := by
  rw [← Fintype.sum_prod_type']
  refine (Fintype.sum_equiv (finProdFinEquiv (m := 8) (n := 512)) _ f fun p => congrArg f (Fin.ext ?_)).symm
  show 512 * p.1.val + p.2.val = p.2.val + 512 * p.1.val
  omega

/-- A sum over the rows is the sum over the tiles. -/
theorem sum_tiles (f : Fin 4096 → EReal) : ∑ s, f s = ∑ i : Fin 4, ∑ r : Fin 1024, f ⟨1024 * i.val + r.val, by omega⟩ := by
  rw [← Fintype.sum_prod_type']
  refine (Fintype.sum_equiv (finProdFinEquiv (m := 4) (n := 1024)) _ f fun p => congrArg f (Fin.ext ?_)).symm
  show 1024 * p.1.val + p.2.val = p.2.val + 1024 * p.1.val
  omega

/-! ## The weights' gradients -/

theorem p10_at (t : Fin cfg0.N) (a : Fin 1024) (q : Fin 512) :
    p10 m c t (ix2 a q) = ∑ r : Fin 1024, aV m c (ix2 (row t r) a) * dhid m c (row t r) (col t q) := by
  unfold p10; rw [part_w1]; simp only [block0, dhid_at]

theorem p11_at (t : Fin cfg0.N) (q : Fin 512) (a : Fin 1024) :
    p11 m c t (ix2 q a) = ∑ r : Fin 1024, hid m c (row t r) (col t q) * hid m c (row t r) (col t q) * aM m c (ix2 (row t r) a) := by
  unfold p11; rw [part_w2]; simp only [block1, hid_at]

theorem a10_first (n : ℕ) (h : n % 4 = 0) (i : S1024x512.Idx) : a10 m c n i = p10 m c (pt n) i := by
  obtain ⟨a, q, rfl⟩ : ∃ (a : Fin 1024) (q : Fin 512), i = ix2 a q := ⟨i 0, i 1, eq_ix2 i⟩
  cases n with
  | zero => unfold a10; pointwise [k0_pay1]
  | succ n => unfold a10; rw [if_pos h]; pointwise [k0_pay1]

theorem a10_next (n : ℕ) (h : (n + 1) % 4 ≠ 0) (i : S1024x512.Idx) : a10 m c (n + 1) i = a10 m c n i + p10 m c (pt (n + 1)) i := by
  obtain ⟨a, q, rfl⟩ : ∃ (a : Fin 1024) (q : Fin 512), i = ix2 a q := ⟨i 0, i 1, eq_ix2 i⟩
  rw [a10, if_neg h]; pointwise [k0_pay3]

theorem a11_first (n : ℕ) (h : n % 4 = 0) (i : S512x1024.Idx) : a11 m c n i = p11 m c (pt n) i := by
  obtain ⟨a, q, rfl⟩ : ∃ (a : Fin 512) (q : Fin 1024), i = ix2 a q := ⟨i 0, i 1, eq_ix2 i⟩
  cases n with
  | zero => unfold a11; pointwise [k0_pay2]
  | succ n => unfold a11; rw [if_pos h]; pointwise [k0_pay2]

theorem a11_next (n : ℕ) (h : (n + 1) % 4 ≠ 0) (i : S512x1024.Idx) : a11 m c (n + 1) i = a11 m c n i + p11 m c (pt (n + 1)) i := by
  obtain ⟨a, q, rfl⟩ : ∃ (a : Fin 512) (q : Fin 1024), i = ix2 a q := ⟨i 0, i 1, eq_ix2 i⟩
  rw [a11, if_neg h]; pointwise [k0_pay4]

/-- At a pass's last tile its first point's tile is row tile 0, and so on. -/
theorem row_pt (j i : ℕ) (hj : j < 8) (hi : i < 4) (r : Fin 1024) : row (pt (4 * j + i)) r = ⟨1024 * i + r.val, by omega⟩ :=
  Fin.ext (by show 1024 * ((4 * j + i) % 32 % 4) + r.val = 1024 * i + r.val; omega)
theorem col_pt (j i : ℕ) (hj : j < 8) (hi : i < 4) (q : Fin 512) : col (pt (4 * j + i)) q = ⟨512 * j + q.val, by omega⟩ :=
  Fin.ext (by show 512 * ((4 * j + i) % 32 / 4) + q.val = 512 * j + q.val; omega)

theorem a10_sum (j : ℕ) (hj : j < 8) (a : Fin 1024) (q : Fin 512) :
    a10 m c (4 * j + 3) (ix2 a q) = ∑ s : Fin 4096, aV m c (ix2 s a) * dhid m c s ⟨512 * j + q.val, by omega⟩ := by
  rw [a10_next m c (4 * j + 2) (by omega), a10_next m c (4 * j + 1) (by omega), a10_next m c (4 * j) (by omega),
    a10_first m c (4 * j) (by omega), sum_tiles, Fin.sum_univ_four]
  have e (i : ℕ) (hi : i < 4) : p10 m c (pt (4 * j + i)) (ix2 a q)
      = ∑ r : Fin 1024, aV m c (ix2 ⟨1024 * i + r.val, by omega⟩ a) * dhid m c ⟨1024 * i + r.val, by omega⟩ ⟨512 * j + q.val, by omega⟩ := by
    rw [p10_at]; simp only [row_pt j i hj hi, col_pt j i hj hi]
  exact congrArg₂ (· + ·) (congrArg₂ (· + ·) (congrArg₂ (· + ·) (e 0 (by omega)) (e 1 (by omega))) (e 2 (by omega))) (e 3 (by omega))

theorem a11_sum (j : ℕ) (hj : j < 8) (q : Fin 512) (a : Fin 1024) :
    a11 m c (4 * j + 3) (ix2 q a) = ∑ s : Fin 4096, hid m c s ⟨512 * j + q.val, by omega⟩ * hid m c s ⟨512 * j + q.val, by omega⟩ * aM m c (ix2 s a) := by
  rw [a11_next m c (4 * j + 2) (by omega), a11_next m c (4 * j + 1) (by omega), a11_next m c (4 * j) (by omega),
    a11_first m c (4 * j) (by omega), sum_tiles, Fin.sum_univ_four]
  have e (i : ℕ) (hi : i < 4) : p11 m c (pt (4 * j + i)) (ix2 q a)
      = ∑ r : Fin 1024, hid m c ⟨1024 * i + r.val, by omega⟩ ⟨512 * j + q.val, by omega⟩ * hid m c ⟨1024 * i + r.val, by omega⟩ ⟨512 * j + q.val, by omega⟩
        * aM m c (ix2 ⟨1024 * i + r.val, by omega⟩ a) := by
    rw [p11_at]; simp only [row_pt j i hj hi, col_pt j i hj hi]
  exact congrArg₂ (· + ·) (congrArg₂ (· + ·) (congrArg₂ (· + ·) (e 0 (by omega)) (e 1 (by omega))) (e 2 (by omega))) (e 3 (by omega))

/-- The gradient of the first weights. -/
def outW1 : Vec Ideal S1024x4096 .bf16 := fun i => ∑ s : Fin 4096, aV m c (ix2 s ⟨(i 0).val, (i 0).isLt⟩) * dhid m c s ⟨(i 1).val, (i 1).isLt⟩
/-- The gradient of the second weights. -/
def outW2 : Vec Ideal S4096x1024 .bf16 := fun i =>
  ∑ s : Fin 4096, hid m c s ⟨(i 0).val, (i 0).isLt⟩ * hid m c s ⟨(i 0).val, (i 0).isLt⟩ * aM m c (ix2 s ⟨(i 1).val, (i 1).isLt⟩)

theorem last_point (t : Fin cfg0.N) (h : t.val % 4 = 3) : t.val = 4 * (t.val / 4) + 3 := by omega

theorem arr4 : (dats m 0 c).arrAt 4 cfg0.N = outW1 m c := by
  refine (dats m 0 c).arrAt_eq_of_covers 4 (outW1 m c) (by decide +kernel) fun t hf y => ?_
  have h := (index0 t).2.2.2.2.1
  obtain ⟨a, q, rfl⟩ : ∃ (a : Fin 1024) (q : Fin 512), y = ix2 a q := ⟨y 0, y 1, eq_ix2 y⟩
  have e : ((cfg0.win 4).blk t).view.emb (ix2 a q) = ix2 a (col t q) := funext fun i => Fin.ext (by
    match i with
    | ⟨0, _⟩ => show win0_4.index t 0 * 1024 + 1 * a.val = a.val; rw [h.1]; omega
    | ⟨1, _⟩ => show win0_4.index t 1 * 512 + 1 * q.val = 512 * (t.val / 4) + q.val; rw [h.2]; omega)
  have h3 : t.val % 4 = 3 := of_decide_eq_true ((flush4 t).symm.trans hf)
  have hj : t.val / 4 < 8 := by have := lt32 t; omega
  rw [e]
  show k0_pay5 (a10 m c t.val) (ix2 a q) = _
  have p : k0_pay5 (a10 m c t.val) (ix2 a q) = a10 m c t.val (ix2 a q) := by pointwise [k0_pay5]
  rw [p, last_point t h3, a10_sum m c _ hj]
  rfl

theorem arr5 : (dats m 0 c).arrAt 5 cfg0.N = outW2 m c := by
  refine (dats m 0 c).arrAt_eq_of_covers 5 (outW2 m c) (by decide +kernel) fun t hf y => ?_
  have h := (index0 t).2.2.2.2.2
  obtain ⟨q, a, rfl⟩ : ∃ (q : Fin 512) (a : Fin 1024), y = ix2 q a := ⟨y 0, y 1, eq_ix2 y⟩
  have e : ((cfg0.win 5).blk t).view.emb (ix2 q a) = ix2 (col t q) a := funext fun i => Fin.ext (by
    match i with
    | ⟨0, _⟩ => show win0_5.index t 0 * 512 + 1 * q.val = 512 * (t.val / 4) + q.val; rw [h.1]; omega
    | ⟨1, _⟩ => show win0_5.index t 1 * 1024 + 1 * a.val = a.val; rw [h.2]; omega)
  have h3 : t.val % 4 = 3 := of_decide_eq_true ((flush5 t).symm.trans hf)
  have hj : t.val / 4 < 8 := by have := lt32 t; omega
  rw [e]
  show k0_pay6 (a11 m c t.val) (ix2 q a) = _
  have p : k0_pay6 (a11 m c t.val) (ix2 q a) = a11 m c t.val (ix2 q a) := by pointwise [k0_pay6]
  rw [p, last_point t h3, a11_sum m c _ hj]
  rfl

/-! ## The input's gradient -/

/-- One pass's share of the input's gradient. -/
def share (s : Fin 4096) (a : Fin 1024) (j : Fin 8) : EReal :=
  ∑ q : Fin 512, dhid m c s ⟨512 * j.val + q.val, by omega⟩ * aW1 m c (ix2 a ⟨512 * j.val + q.val, by omega⟩)

theorem rows_start (k : ℕ) (hk : k < 4) (r a : Fin 1024) : d9 m c k 0 (ix2 r a) = share m c ⟨1024 * k + r.val, by omega⟩ a 0 := by
  rw [d9, rows_first]; simp only [dhid_at, block2]
  have e : pt k = pt (4 * 0 + k) := by rw [Nat.mul_zero, Nat.zero_add]
  rw [e]; simp only [row_pt 0 k (by omega) hk, col_pt 0 k (by omega) hk]; rfl

theorem rows_step (k j : ℕ) (hk : k < 4) (hj : j + 1 < 8) (r a : Fin 1024) :
    d9 m c k (j + 1) (ix2 r a) = d9 m c k j (ix2 r a) + share m c ⟨1024 * k + r.val, by omega⟩ a ⟨j + 1, hj⟩ := by
  rw [d9, rows_later]; simp only [dhid_at, block2, row_pt (j + 1) k hj hk, col_pt (j + 1) k hj hk]; rfl

theorem d9_sum (k : ℕ) (hk : k < 4) (r a : Fin 1024) :
    d9 m c k 7 (ix2 r a) = ∑ j : Fin 4096, dhid m c ⟨1024 * k + r.val, by omega⟩ j * aW1 m c (ix2 a j) := by
  rw [sum_passes, rows_step m c k 6 hk (by omega), rows_step m c k 5 hk (by omega), rows_step m c k 4 hk (by omega), rows_step m c k 3 hk (by omega),
    rows_step m c k 2 hk (by omega), rows_step m c k 1 hk (by omega), rows_step m c k 0 hk (by omega), rows_start m c k hk, Fin.sum_univ_eight]
  rfl

/-- The gradient of the input. -/
def outV : Vec Ideal S4096x1024 .f32 := fun i =>
  ∑ j : Fin 4096, dhid m c ⟨(i 0).val, (i 0).isLt⟩ j * aW1 m c (ix2 ⟨(i 1).val, (i 1).isLt⟩ j)

theorem dvOut_eq : dvOut m c = outV m c := funext fun i => by
  obtain ⟨s, a, rfl⟩ : ∃ (s : Fin 4096) (a : Fin 1024), i = ix2 s a := ⟨i 0, i 1, eq_ix2 i⟩
  have e : (⟨1024 * (s.val / 1024) + s.val % 1024, by omega⟩ : Fin 4096) = s := Fin.ext (Nat.div_add_mod _ _)
  exact (d9_sum m c (s.val / 1024) (by omega) ⟨s.val % 1024, Nat.mod_lt _ (by decide)⟩ a).trans
    (Finset.sum_congr rfl fun j _ => congrArg (fun s => dhid m c s j * aW1 m c (ix2 a j)) e)

/-! ## The reference -/

open Cert.MlpReferenceIdeal.Read

theorem ref_hid (s j : Fin 4096) : val_main_v1 (F := Ideal) (aV m c) (aW1 m c) (ix2 s j) = hid m c s j := by
  rw [val_main_v1_apply, val_main_v0_apply, val_main_call0_v0_apply, val_main_call0_cst_apply]
  refine congrArg₂ max (Finset.sum_congr rfl fun k _ => ?_) zero_word
  rw [eq_ix2 (lidx_main_v0 _ k), eq_ix2 (ridx_main_v0 _ k)]; rfl

/-- Where the hidden layer is positive the reference lets the gradient through; elsewhere the layer is zero, and so is the kernel's product. -/
theorem ref_dhid (s j : Fin 4096) : val_main_v14 (F := Ideal) (aV m c) (aM m c) (aW1 m c) (aW2 m c) (ix2 s j) = dhid m c s j := by
  have e12 : val_main_v12 (F := Ideal) (aV m c) (aM m c) (aW1 m c) (aW2 m c) (ix2 s j) = dhid m c s j := by
    rw [val_main_v12_apply, val_main_v7_apply, val_main_v6_apply, val_main_cst_1_apply, ref_hid, val_main_v11_apply]
    refine congrArg₂ (· * ·) (Finset.sum_congr rfl fun k _ => ?_) (congrArg (· * hid m c s j) two_word)
    rw [eq_ix2 (lidx_main_v11 _ k), eq_ix2 (ridx_main_v11 _ k)]; rfl
  have e13 : val_main_v13 (F := Ideal) (ix2 s j) = 0 := by
    rw [val_main_v13_apply, val_main_cst_2_apply]; exact zero_word
  have e0 : hid m c s j = max (val_main_v0 (F := Ideal) (aV m c) (aW1 m c) (ix2 s j)) 0 := by
    rw [← ref_hid, val_main_v1_apply, val_main_call0_v0_apply, val_main_call0_cst_apply]
    exact congrArg (max _) zero_word
  have e3 : val_main_v3 (F := Ideal) (aV m c) (aW1 m c) (ix2 s j) = Ideal.cmp .ogt (val_main_v0 (F := Ideal) (aV m c) (aW1 m c) (ix2 s j)) 0 := by
    rw [val_main_v3_apply, val_main_v2_apply, val_main_cst_apply]
    exact congrArg (Ideal.cmp .ogt _) zero_word
  rw [val_main_v14_apply, e12, e13, e3]
  by_cases h : 0 < val_main_v0 (F := Ideal) (aV m c) (aW1 m c) (ix2 s j)
  · simp [Ideal.cmp, h, Scalar.select]
  · have z : dhid m c s j = 0 := by
      unfold dhid; rw [e0, max_eq_right (not_lt.mp h), mul_zero, mul_zero]
    rw [z]; simp [Scalar.select]

theorem ref_v17 : val_main_v17 (F := Ideal) (aV m c) (aM m c) (aW1 m c) (aW2 m c) = outV m c := funext fun i => by
  obtain ⟨s, a, rfl⟩ : ∃ (s : Fin 4096) (a : Fin 1024), i = ix2 s a := ⟨i 0, i 1, eq_ix2 i⟩
  rw [val_main_v17_apply]
  refine Finset.sum_congr rfl fun j _ => ?_
  rw [eq_ix2 (lidx_main_v17 _ j), eq_ix2 (ridx_main_v17 _ j)]
  exact congrArg (· * _) (ref_dhid m c s j)

theorem ref_v18 : val_main_v18 (F := Ideal) (aV m c) (aM m c) (aW1 m c) (aW2 m c) = outW1 m c := funext fun i => by
  obtain ⟨a, j, rfl⟩ : ∃ (a : Fin 1024) (j : Fin 4096), i = ix2 a j := ⟨i 0, i 1, eq_ix2 i⟩
  rw [val_main_v18_apply, val_main_v16_apply, val_main_v15_apply]
  refine (show ∀ x : Ideal .f32, FloatOps.truncf .bf16 Cert.MlpReferenceIdeal.Gen.bitsLt_bf16_f32 x = x from fun _ => rfl) _ |>.trans ?_
  refine Finset.sum_congr rfl fun s _ => ?_
  rw [eq_ix2 (lidx_main_v15 _ s), eq_ix2 (ridx_main_v15 _ s), mul_comm]
  exact congrArg (_ * ·) (ref_dhid m c s j)

theorem ref_v19 : val_main_v19 (F := Ideal) (aV m c) (aM m c) (aW1 m c) = outW2 m c := funext fun i => by
  obtain ⟨j, a, rfl⟩ : ∃ (j : Fin 4096) (a : Fin 1024), i = ix2 j a := ⟨i 0, i 1, eq_ix2 i⟩
  rw [val_main_v19_apply, val_main_v10_apply, val_main_v9_apply]
  refine (show ∀ x : Ideal .f32, FloatOps.truncf .bf16 Cert.MlpReferenceIdeal.Gen.bitsLt_bf16_f32 x = x from fun _ => rfl) _ |>.trans ?_
  refine Finset.sum_congr rfl fun s _ => ?_
  rw [eq_ix2 (lidx_main_v9 _ s), eq_ix2 (ridx_main_v9 _ s), mul_comm, val_main_v5_apply]
  exact congrArg (· * _) (congrArg₂ (· * ·) (ref_hid m c s j) (ref_hid m c s j))

end Cert.MlpVal
-- ==== Proof.MlpClaims.lean ====
module
public import proofs.«01_k».proof.Defs
public import proofs.«01_k».proof.Proof.MlpVal
public import proofs.«01_k».proof.Proof.Gen.Mlp
public import proofs.«01_k».proof.Proof.Gen.MlpIdeal
public import proofs.«01_k».proof.Proof.Gen.MlpReferenceIdeal
public import proofs.«01_k».proof.Proof.Gen.MlpReferenceIdeal.Run
public import Idealize.ShloMosaic.Adequacy
public import Idealize.ShloMosaic.Init
@[expose] public section
noncomputable section
/-! The claims about the MLP gradient. -/
namespace Cert.MlpVal
open Idealize.ShloMosaic Idealize.ShloMosaic.TcCoe Idealize.SL.Sem
open Cert.MlpIdeal Cert.MlpIdeal.Gen

variable {F : FTy → Type} [FloatOps F] (m : (ℓ : Loc nD τ sig) → Buf (Elt F) ℓ) (ρ : Dev nD → PrngReg)

/-- An argument is no window's array and not the input gradient's. -/
theorem kept {r : PUnit × MemSt nD τ sig (Elt F)} (h : Pipeline.FramePostRG cfgs (dats m) 0 {main_v4_0} (V m) (G m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  have k : ∀ b : Ref sig .tc, b ∈ Pipeline.restRefs sig spec0 → b ≠ main_v4_0 → r.2.mem ((c : Thread nD τ).loc b) = V m c b :=
    fun b hb hne => (h.1 c).2 b (Finset.mem_sdiff.mpr ⟨hb, fun e => hne (Finset.mem_singleton.mp e)⟩)
  ⟨(k main_arg0 (Pipeline.mem_restRefs_of main_arg0 (by decide) (by decide)) (by decide)).trans (V_main_arg0 m c),
    (k main_arg1 (Pipeline.mem_restRefs_of main_arg1 (by decide) (by decide)) (by decide)).trans (V_main_arg1 m c),
    (k main_arg2 (Pipeline.mem_restRefs_of main_arg2 (by decide) (by decide)) (by decide)).trans (V_main_arg2 m c),
    (k main_arg3 (Pipeline.mem_restRefs_of main_arg3 (by decide) (by decide)) (by decide)).trans (V_main_arg3 m c)⟩

/-- The input gradient's buffer ends with the tiles' rows. -/
theorem G_self (c : Dev nD) : G m c main_v4_0 = dvOut m c := by
  unfold G; exact Function.update_self ..

/-- The kernel runs, keeps its arguments and leaves every counter at zero, over any float values. -/
theorem frame : θ_run defs (onTc (τ := τ) (main (F := F))) ⟨m, fun _ => 0, ρ⟩ (fun r => (∀ c : Dev nD,
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => kept m h.1 c, h.2⟩) (run_main m ρ)

/-- The two programs have the same text: their body tables are equal. -/
theorem same_table : Cert.Mlp.defs (F := F) = defs (F := F) :=
  congrArg (Pipeline.defs (pcfgs (F := F))) (show Cert.Mlp.defs₀ (F := F) = defs₀ (F := F) from
    congrArg Defs.onTc (funext fun l => funext fun a => match l, a with
      | 0, (_, _) => rfl
      | ⟨_ + 1, h⟩, _ => absurd h (Nat.not_lt.2 (Nat.le_add_left _ _))))

/-- The kernel's frame. -/
theorem frame_kernel : Cert.quiescent_Mlp := fun m ρ _ => by
  rw [same_table]; exact frame (F := Bits) m ρ
/-- Its idealization's. -/
theorem frame_ideal : Cert.quiescent_MlpIdeal := fun m ρ _ => frame (F := Ideal) m ρ
/-- So does the reference. -/
theorem frame_reference : Cert.quiescent_MlpReferenceIdeal := fun m ρ _ =>
  (θ_run Cert.MlpReferenceIdeal.defs _ _).mono
    (fun r h => ⟨fun c => (h c).2.2.2, Idealize.ShloMosaic.sem_eq_zero_of_no_sems (by decide) r.2⟩)
    (Cert.MlpReferenceIdeal.Value.run (F := Ideal) m ρ)

/-- Both programs return the same three gradients, on any arguments. -/
theorem values : Cert.algebraic_MlpIdeal_MlpReferenceIdeal := fun m ρ m' ρ' _ hm =>
  ⟨outV m, outW1 m, outW2 m,
    (θ_run defs _ _).mono (fun r (h : Pipeline.FramePostRG cfgs (dats m) 0 {main_v4_0} (V m) (G m) r ∧ _) c =>
      ⟨(h.1.written c (Finset.mem_singleton_self main_v4_0)).trans ((G_self m c).trans (dvOut_eq m c)),
        ((h.1.toR c).1 4).trans (arr4 m c), ((h.1.toR c).1 5).trans (arr5 m c), kept m h.1 c⟩) (run_main (F := Ideal) m ρ),
    (θ_run Cert.MlpReferenceIdeal.defs _ _).mono (fun r h c => by
      obtain ⟨e0, e1, e2, hk⟩ := h c
      obtain ⟨a0, a1, a2, a3⟩ := hm c
      rw [Cert.MlpReferenceIdeal.Read.val_main_v17_eq, a0, a1, a2, a3] at e0
      rw [Cert.MlpReferenceIdeal.Read.val_main_v18_eq, a0, a1, a2, a3] at e1
      rw [Cert.MlpReferenceIdeal.Read.val_main_v19_eq, a0, a1, a2] at e2
      exact ⟨e0.trans (ref_v17 m c), e1.trans (ref_v18 m c), e2.trans (ref_v19 m c), hk⟩)
      (Cert.MlpReferenceIdeal.Value.run (F := Ideal) m' ρ')⟩
end Cert.MlpVal
-- ==== Proof.WeightVal.lean ====
module
public import proofs.«01_k».proof.Proof.Gen.WeightIdeal.Value
public import proofs.«01_k».proof.Proof.Gen.WeightReferenceIdeal.Read
public import Idealize.ShloMosaic.Lib.Pointwise
public import Idealize.ShloMosaic.Lib.KernelVsHost
public import Idealize.ShloMosaic.Lib.StableHlo.ReadAt
public import Idealize.ShloMosaic.Lib.Pipeline.ValueKit.Geometry
@[expose] public section
set_option maxRecDepth 16384
set_option maxHeartbeats 400000
noncomputable section
/-! The gradient of the input projection's weight: what the call returns and what the reference computes. -/
namespace Cert.WeightVal
open Idealize.ShloMosaic Idealize.ShloMosaic.TcCoe Idealize.SL.Sem
open Cert.WeightIdeal Cert.WeightIdeal.Gen

variable (m : (ℓ : Loc nD τ sig) → Buf (Elt Ideal) ℓ) (c : Dev nD)

theorem zero2 : (![0, 0] : Fin 2 → Nat) = fun _ => 0 := funext fun a => by fin_cases a <;> rfl

/-- The tile of the incoming gradient that a point multiplies: of the convolution's columns, of the pooling's, or of the gates'. -/
def tile (t : Fin cfg0.N) : Vec Ideal S2048x1024 .bf16 :=
  if t.val < 4 then iblk m c 1 t else if t.val / 2 % 5 = 2 then iblk m c 2 t else iblk m c 3 t

theorem prod (x : Vec Ideal S1024x2048 .bf16) (y : Vec Ideal S2048x1024 .bf16) (a j : Fin 1024) :
    k0_pay3 x y (ix2 a j) = ∑ k : Fin 2048, x (ix2 a k) * y (ix2 k j) := by
  pointwise [k0_pay3, k0_pay2, k0_pay1]

theorem prod_add (x : Vec Ideal S1024x2048 .bf16) (y : Vec Ideal S2048x1024 .bf16) (z : Vec Ideal S1024x1024 .f32) (a j : Fin 1024) :
    k0_pay11 (k0_pay4 x y z) (ix2 a j) = z (ix2 a j) + ∑ k : Fin 2048, x (ix2 a k) * y (ix2 k j) := by
  pointwise [k0_pay11, k0_pay4, k0_pay2, k0_pay1]

/-- At a pair's first point the accumulator takes the product of the two tiles. -/
theorem first (t : Fin cfg0.N) (h : t.val % 2 = 0) : (outsAt0 m c t.val t.isLt).2 = k0_pay3 (iblk m c 0 t) (tile m c t) := by
  have hN : t.val < 10 := lt_of_lt_of_eq t.isLt (show cfg0.N = 10 from N_0)
  unfold tile
  by_cases h4 : t.val < 4
  · rw [if_pos h4, outsAt0_A m c t h4 h (by omega) (by omega) (by omega) (by omega)]
    dsimp only
    unfold sout0_A_0
    rw [View.read_writes_eq_canon _ _ _ (by intro y; apply scover0_A_0)]
    unfold kernelRun0_A
    dsimp only
    sl_unfold_words
    simp only [View.readAt_eq_ld, (hs0_0 t).read_unread, (hs0_1 t).read_unread, View.ld_unit_zero (S := S1024x2048) zero2,
      View.ld_unit_zero (S := S2048x1024) zero2]
    rw [View.canon_unit_zero zero2]
  · by_cases h6 : t.val / 2 % 5 = 2
    · rw [if_neg h4, if_pos h6, outsAt0_C m c t h4 h6 (by omega) (by omega) h (by omega)]
      dsimp only
      unfold sout0_C_0
      rw [View.read_writes_eq_canon _ _ _ (by intro y; apply scover0_C_0)]
      unfold kernelRun0_C
      dsimp only
      sl_unfold_words
      simp only [View.readAt_eq_ld, (hs0_0 t).read_unread, (hs0_2 t).read_unread, View.ld_unit_zero (S := S1024x2048) zero2,
        View.ld_unit_zero (S := S2048x1024) zero2]
      rw [View.canon_unit_zero zero2]
      rfl
    · rw [if_neg h4, if_neg h6, outsAt0_E m c t h4 h6 (by omega) (by omega) h (by omega)]
      dsimp only
      unfold sout0_E_0
      rw [View.read_writes_eq_canon _ _ _ (by intro y; apply scover0_E_0)]
      unfold kernelRun0_E
      dsimp only
      sl_unfold_words
      simp only [View.readAt_eq_ld, (hs0_0 t).read_unread, (hs0_3 t).read_unread, View.ld_unit_zero (S := S1024x2048) zero2,
        View.ld_unit_zero (S := S2048x1024) zero2]
      rw [View.canon_unit_zero zero2]
      rfl

/-- At a pair's second point the result's block takes the accumulator plus the product of the two tiles. -/
theorem second (t : Fin cfg0.N) (h : t.val % 2 = 1) (h' : t.val - 1 < cfg0.N) :
    (outsAt0 m c t.val t.isLt).1 = k0_pay11 (k0_pay4 (iblk m c 0 t) (tile m c t) (outsAt0 m c (t.val - 1) h').2) := by
  have hN : t.val < 10 := lt_of_lt_of_eq t.isLt (show cfg0.N = 10 from N_0)
  obtain ⟨prev, hprev⟩ : ∃ prev, prev = outsAt0 m c (t.val - 1) h' := ⟨_, rfl⟩
  unfold tile
  by_cases h4 : t.val < 4
  · rw [if_pos h4, outsAt0_B m c t h4 (by omega) h (by omega) (by omega) h, ← hprev]
    dsimp only
    unfold out0_B_4
    rw [View.read_writes_eq_canon _ _ _ (by intro y; apply cover0_B_4)]
    unfold kernelRun0_B
    dsimp only
    sl_unfold_words
    simp only [View.readAt_eq_ld, (hs0_0 t).read_unread, (hs0_1 t).read_unread, (Memref.isWhole_whole cc0_scratch0).read_unread,
      View.ld_unit_zero (S := S1024x2048) zero2, View.ld_unit_zero (S := S2048x1024) zero2, View.ld_unit_zero (S := S1024x1024) zero2]
    rw [View.canon_unit_zero zero2, View.readCov_unit_zero (S := S1024x1024) _ zero2]
  · by_cases h6 : t.val / 2 % 5 = 2
    · rw [if_neg h4, if_pos h6, outsAt0_D m c t h4 h6 (by omega) h (by omega) h, ← hprev]
      dsimp only
      unfold out0_D_4
      rw [View.read_writes_eq_canon _ _ _ (by intro y; apply cover0_D_4)]
      unfold kernelRun0_D
      dsimp only
      sl_unfold_words
      simp only [View.readAt_eq_ld, (hs0_0 t).read_unread, (hs0_2 t).read_unread, (Memref.isWhole_whole cc0_scratch0).read_unread,
        View.ld_unit_zero (S := S1024x2048) zero2, View.ld_unit_zero (S := S2048x1024) zero2, View.ld_unit_zero (S := S1024x1024) zero2]
      rw [View.canon_unit_zero zero2, View.readCov_unit_zero (S := S1024x1024) _ zero2]
      rfl
    · rw [if_neg h4, if_neg h6, outsAt0_F m c t h4 h6 (by omega) h (by omega) h, ← hprev]
      dsimp only
      unfold out0_F_4
      rw [View.read_writes_eq_canon _ _ _ (by intro y; apply cover0_F_4)]
      unfold kernelRun0_F
      dsimp only
      sl_unfold_words
      simp only [View.readAt_eq_ld, (hs0_0 t).read_unread, (hs0_3 t).read_unread, (Memref.isWhole_whole cc0_scratch0).read_unread,
        View.ld_unit_zero (S := S1024x2048) zero2, View.ld_unit_zero (S := S2048x1024) zero2, View.ld_unit_zero (S := S1024x1024) zero2]
      rw [View.canon_unit_zero zero2, View.readCov_unit_zero (S := S1024x1024) _ zero2]
      rfl

/-- The rows going into the projection. -/
abbrev aU : Vec Ideal S4096x1024 .f32 := m ((c : Thread nD τ).loc main_arg0)
/-- The incoming gradient, its three parts side by side. -/
abbrev aCt : Vec Ideal Cert.WeightReferenceIdeal.S4096x5120 .f32 := Cert.WeightReferenceIdeal.Read.val_main_v2 (F := Ideal)
  (m ((c : Thread nD τ).loc main_arg1)) (m ((c : Thread nD τ).loc main_arg2)) (m ((c : Thread nD τ).loc main_arg3))

/-- The three parts. -/
abbrev parts : List ((S : Shape) × (S.Idx → EReal)) := [⟨S4096x2048, m ((c : Thread nD τ).loc main_arg1)⟩,
  ⟨S4096x1024, m ((c : Thread nD τ).loc main_arg2)⟩, ⟨S4096x2048, m ((c : Thread nD τ).loc main_arg3)⟩]

/-- Row `k` of a point's half of the rows. -/
def row (t : Fin cfg0.N) (k : Fin 2048) : Fin 4096 := ⟨2048 * (t.val % 2) + k.val, by omega⟩
/-- Column `j` of a point's tile of the columns. -/
def col (t : Fin cfg0.N) (j : Fin 1024) : Fin 5120 :=
  ⟨1024 * (t.val / 2) + j.val, by have := lt_of_lt_of_eq t.isLt (show cfg0.N = 10 from N_0); omega⟩

theorem index0 : ∀ t : Fin cfg0.N, (win0_0.index t 0 = 0 ∧ win0_0.index t 1 = t.val % 2)
    ∧ (t.val < 4 → win0_1.index t 0 = t.val % 2 ∧ win0_1.index t 1 = t.val / 2)
    ∧ (t.val / 2 % 5 = 2 → win0_2.index t 0 = t.val % 2 ∧ win0_2.index t 1 = 0)
    ∧ (6 ≤ t.val → win0_3.index t 0 = t.val % 2 ∧ win0_3.index t 1 = t.val / 2 - 3)
    ∧ (win0_4.index t 0 = 0 ∧ win0_4.index t 1 = t.val / 2) := by decide +kernel

theorem V1 (a : Fin 1024) (s : Fin 4096) : (V m c main_v1 : Vec Ideal S1024x4096 .bf16) (ix2 a s) = aU m c (ix2 s a) := by
  unfold V
  after_reads_at

theorem V2 : (V m c main_v2 : Vec Ideal S4096x2048 .bf16) = m ((c : Thread nD τ).loc main_arg1) := by
  unfold V
  after_reads_simp
  rfl
theorem V3 : (V m c main_v3 : Vec Ideal S4096x1024 .bf16) = m ((c : Thread nD τ).loc main_arg2) := by
  unfold V
  after_reads_simp
  rfl
theorem V4 : (V m c main_v4 : Vec Ideal S4096x2048 .bf16) = m ((c : Thread nD τ).loc main_arg3) := by
  unfold V
  after_reads_simp
  rfl

theorem block0 (t : Fin cfg0.N) (a : Fin 1024) (k : Fin 2048) :
    (iblk m c 0 t : Vec Ideal S1024x2048 .bf16) (ix2 a k) = aU m c (ix2 (row t k) a) := by
  rw [← V1]
  exact congrArg (V m c main_v1) (funext fun i => Fin.ext (by
    have h := (index0 t).1
    match i with
    | ⟨0, _⟩ => show win0_0.index t 0 * 1024 + 1 * a.val = a.val; rw [h.1]; omega
    | ⟨1, _⟩ => show win0_0.index t 1 * 2048 + 1 * k.val = 2048 * (t.val % 2) + k.val; rw [h.2]; omega))

/-- A point's tile of the incoming gradient. -/
theorem tile_apply (t : Fin cfg0.N) (k : Fin 2048) (j : Fin 1024) : tile m c t (ix2 k j) = aCt m c (ix2 (row t k) (col t j)) := by
  have hN : t.val < 10 := lt_of_lt_of_eq t.isLt (show cfg0.N = 10 from N_0)
  unfold tile aCt Cert.WeightReferenceIdeal.Read.val_main_v2
  by_cases h4 : t.val < 4
  · rw [if_pos h4]
    have h := (index0 t).2.1 h4
    have := concatenate_apply_piece (t := Cert.WeightReferenceIdeal.S4096x5120) 1 (parts m c) WeightReferenceIdeal.Gen.concatenates_S4096x2048_S4096x1024_S4096x2048_S4096x5120_d1 (ix2 (row t k) (col t j)) 0 (by simp [parts]) S4096x2048
      (m ((c : Thread nD τ).loc main_arg1)) rfl rfl 0 rfl (ix2 (row t k) (⟨1024 * (t.val / 2) + j.val, by omega⟩ : Fin 2048))
      (fun b hb => by match b with | ⟨0, _⟩ => rfl | ⟨1, _⟩ => exact absurd rfl hb) (by show _ = _; simp [col])
    rw [this, ← congrFun (V2 m c)]
    exact congrArg (V m c main_v2) (funext fun i => Fin.ext (by
      match i with
      | ⟨0, _⟩ => show win0_1.index t 0 * 2048 + 1 * k.val = 2048 * (t.val % 2) + k.val; rw [h.1]; omega
      | ⟨1, _⟩ => show win0_1.index t 1 * 1024 + 1 * j.val = 1024 * (t.val / 2) + j.val; rw [h.2]; omega))
  · by_cases h6 : t.val / 2 % 5 = 2
    · rw [if_neg h4, if_pos h6]
      have h := (index0 t).2.2.1 h6
      have := concatenate_apply_piece (t := Cert.WeightReferenceIdeal.S4096x5120) 1 (parts m c) WeightReferenceIdeal.Gen.concatenates_S4096x2048_S4096x1024_S4096x2048_S4096x5120_d1 (ix2 (row t k) (col t j)) 1 (by simp [parts]) S4096x1024
        (m ((c : Thread nD τ).loc main_arg2)) rfl rfl 2048 rfl (ix2 (row t k) j)
        (fun b hb => by match b with | ⟨0, _⟩ => rfl | ⟨1, _⟩ => exact absurd rfl hb) (by show _ = _; simp [col]; omega)
      rw [this, ← congrFun (V3 m c)]
      exact congrArg (V m c main_v3) (funext fun i => Fin.ext (by
        match i with
        | ⟨0, _⟩ => show win0_2.index t 0 * 2048 + 1 * k.val = 2048 * (t.val % 2) + k.val; rw [h.1]; omega
        | ⟨1, _⟩ => show win0_2.index t 1 * 1024 + 1 * j.val = j.val; rw [h.2]; omega))
    · rw [if_neg h4, if_neg h6]
      have h := (index0 t).2.2.2.1 (by omega)
      have := concatenate_apply_piece (t := Cert.WeightReferenceIdeal.S4096x5120) 1 (parts m c) WeightReferenceIdeal.Gen.concatenates_S4096x2048_S4096x1024_S4096x2048_S4096x5120_d1 (ix2 (row t k) (col t j)) 2 (by simp [parts]) S4096x2048
        (m ((c : Thread nD τ).loc main_arg3)) rfl rfl 3072 rfl (ix2 (row t k) (⟨1024 * (t.val / 2 - 3) + j.val, by omega⟩ : Fin 2048))
        (fun b hb => by match b with | ⟨0, _⟩ => rfl | ⟨1, _⟩ => exact absurd rfl hb) (by show _ = _; simp [col]; omega)
      rw [this, ← congrFun (V4 m c)]
      exact congrArg (V m c main_v4) (funext fun i => Fin.ext (by
        match i with
        | ⟨0, _⟩ => show win0_3.index t 0 * 2048 + 1 * k.val = 2048 * (t.val % 2) + k.val; rw [h.1]; omega
        | ⟨1, _⟩ => show win0_3.index t 1 * 1024 + 1 * j.val = 1024 * (t.val / 2 - 3) + j.val; rw [h.2]; omega))

/-- The gradient of the weight: a sum over all rows. -/
def outW : Vec Ideal S1024x5120 .bf16 := fun i => ∑ s : Fin 4096, aU m c (ix2 s (i 0)) * aCt m c (ix2 s (i 1))

/-- A sum over all rows is the sum over the first half plus the sum over the second. -/
theorem sum_halves (f : Fin 4096 → EReal) :
    ∑ s, f s = (∑ k : Fin 2048, f ⟨k.val, by omega⟩) + ∑ k : Fin 2048, f ⟨2048 + k.val, by omega⟩ :=
  Fin.sum_univ_add (a := 2048) (b := 2048) f

theorem flush4 : ∀ t : Fin cfg0.N, (cfg0.win 4).flush t = true → t.val % 2 = 1 := by decide +kernel

theorem block4 (t : Fin cfg0.N) (h : t.val % 2 = 1) (a j : Fin 1024) :
    (outsAt0 m c t.val t.isLt).1 (ix2 a j) = outW m c (ix2 a (col t j)) := by
  have h' : t.val - 1 < cfg0.N := lt_of_le_of_lt (Nat.sub_le _ _) t.isLt
  have hc : col (⟨t.val - 1, h'⟩ : Fin cfg0.N) j = col t j := Fin.ext (by show 1024 * ((t.val - 1) / 2) + j.val = 1024 * (t.val / 2) + j.val; omega)
  have e1 := first m c ⟨t.val - 1, h'⟩ (show (t.val - 1) % 2 = 0 by omega)
  rw [second m c t h h', prod_add, e1, prod]
  refine Eq.trans ?_ (sum_halves fun s => aU m c (ix2 s a) * aCt m c (ix2 s (col t j))).symm
  refine congrArg₂ (· + ·) (Finset.sum_congr rfl fun k _ => ?_) (Finset.sum_congr rfl fun k _ => ?_)
  · rw [block0, tile_apply, hc, show row (⟨t.val - 1, h'⟩ : Fin cfg0.N) k = ⟨k.val, by omega⟩ from
      Fin.ext (by show 2048 * ((t.val - 1) % 2) + k.val = k.val; omega)]
  · rw [block0, tile_apply, show row t k = ⟨2048 + k.val, by omega⟩ from
      Fin.ext (by show 2048 * (t.val % 2) + k.val = 2048 + k.val; omega)]

theorem arr4 : (dats m 0 c).arrAt 4 cfg0.N = outW m c := by
  refine (dats m 0 c).arrAt_eq_of_covers 4 (outW m c) (by decide +kernel) fun t hf y => ?_
  have h := (index0 t).2.2.2.2
  obtain ⟨a, j, rfl⟩ : ∃ (a : Fin 1024) (j : Fin 1024), y = ix2 a j := ⟨y 0, y 1, eq_ix2 y⟩
  have e : ((cfg0.win 4).blk t).view.emb (ix2 a j) = ix2 a (col t j) := funext fun i => Fin.ext (by
    match i with
    | ⟨0, _⟩ => show win0_4.index t 0 * 1024 + 1 * a.val = a.val; rw [h.1]; omega
    | ⟨1, _⟩ => show win0_4.index t 1 * 1024 + 1 * j.val = 1024 * (t.val / 2) + j.val; rw [h.2]; omega)
  rw [e, after0_4]
  exact block4 m c t (flush4 t hf) a j

/-- The reference's gradient of the weight is the kernel's. -/
theorem outW_eq : outW m c = Cert.WeightReferenceIdeal.Read.val_main_v6 (F := Ideal) (aU m c)
    (m ((c : Thread nD τ).loc main_arg1)) (m ((c : Thread nD τ).loc main_arg2)) (m ((c : Thread nD τ).loc main_arg3)) := by
  funext i
  rw [Cert.WeightReferenceIdeal.Read.val_main_v6_apply, Cert.WeightReferenceIdeal.Read.val_main_v4_apply, show ∀ x : Ideal .f32, FloatOps.truncf .bf16 WeightReferenceIdeal.Gen.bitsLt_bf16_f32 x = x from fun _ => rfl,
    Cert.WeightReferenceIdeal.Read.val_main_v3_apply]
  refine Finset.sum_congr rfl fun s _ => (mul_comm _ _).trans ?_
  rw [eq_ix2 (Cert.WeightReferenceIdeal.Read.lidx_main_v3 _ s), eq_ix2 (Cert.WeightReferenceIdeal.Read.ridx_main_v3 _ s)]
  rfl
end Cert.WeightVal
-- ==== Proof.WeightClaims.lean ====
module
public import proofs.«01_k».proof.Defs
public import proofs.«01_k».proof.Proof.WeightVal
public import proofs.«01_k».proof.Proof.Gen.Weight
public import proofs.«01_k».proof.Proof.Gen.Weight.Frame
public import proofs.«01_k».proof.Proof.Gen.WeightIdeal
public import proofs.«01_k».proof.Proof.Gen.WeightReferenceIdeal
public import proofs.«01_k».proof.Proof.Gen.WeightReferenceIdeal.Run
public import Idealize.ShloMosaic.Adequacy
public import Idealize.ShloMosaic.Init
@[expose] public section
noncomputable section
/-! The claims about the gradient of the input projection's weight. -/
namespace Cert.WeightVal
open Idealize.ShloMosaic Idealize.SL.Sem

/-- The kernel runs, keeps its arguments and leaves every counter at zero. -/
theorem frame_kernel : Cert.quiescent_Weight := fun m ρ _ => Cert.Weight.Gen.frame m ρ
/-- So does its idealization. -/
theorem frame_ideal : Cert.quiescent_WeightIdeal := fun m ρ _ => Cert.WeightIdeal.Gen.frame m ρ
/-- So does the reference. -/
theorem frame_reference : Cert.quiescent_WeightReferenceIdeal := fun m ρ _ =>
  (θ_run Cert.WeightReferenceIdeal.defs _ _).mono
    (fun r h => ⟨fun c => (h c).2, Idealize.ShloMosaic.sem_eq_zero_of_no_sems (by decide) r.2⟩)
    (Cert.WeightReferenceIdeal.Value.run (F := Ideal) m ρ)

/-- Both programs return the same gradient, on any arguments. -/
theorem values : Cert.algebraic_WeightIdeal_WeightReferenceIdeal := fun m ρ m' ρ' _ hm =>
  ⟨outW m, (θ_run Cert.WeightIdeal.defs _ _).mono (fun r h c => ⟨(h c).1.trans (arr4 m c), (h c).2⟩)
      (Cert.WeightIdeal.Value.run_blocks (F := Ideal) m ρ),
    (θ_run Cert.WeightReferenceIdeal.defs _ _).mono (fun r h c => by
      obtain ⟨e, hk⟩ := h c
      obtain ⟨a0, a1, a2, a3⟩ := hm c
      rw [Cert.WeightReferenceIdeal.Read.val_main_v6_eq, a0, a1, a2, a3] at e
      exact ⟨e.trans (outW_eq m c).symm, hk⟩)
      (Cert.WeightReferenceIdeal.Value.run (F := Ideal) m' ρ')⟩
end Cert.WeightVal
-- ==== Proof.InputRow.lean ====
module
public import Idealize.ShloMosaic.Lib.Pointwise
@[expose] public section
noncomputable section
/-! One row of the norm's gradient: the kernel's arithmetic and the reference's agree on every row of extended reals. -/
namespace Cert.InputVal
open Idealize.ShloMosaic

/-- The row length, as the program writes it. -/
def len : EReal := Ideal.ofBits .f32 0x44800000#32
/-- The norm's small constant. -/
def eps : EReal := Ideal.ofBits .f32 0x358637BD#32
/-- Minus one half, as the reference writes it. -/
def half : EReal := Ideal.ofBits .f32 0xBF000000#32
/-- The mean square of a row, plus the small constant. -/
def spread (x : Fin 1024 → EReal) : EReal := Ideal.div (∑ k, x k * x k) len + eps
/-- The factor of a row's norm. -/
def scale (x : Fin 1024 → EReal) : EReal := Ideal.rsqrt (spread x)

theorem len_eq : len = ((1024 : ℝ) : EReal) := by
  unfold len
  simp [Ideal.ofBits, Ideal.ieee]
  rw [← EReal.coe_mul]; norm_num
theorem half_eq : half = ((-(1 / 2) : ℝ) : EReal) := by
  unfold half
  simp [Ideal.ofBits, Ideal.ieee]
  rw [← EReal.coe_mul]; norm_num
theorem eps_pos : ∃ e : ℝ, 0 < e ∧ eps = (e : EReal) := by
  unfold eps
  simp [Ideal.ofBits, Ideal.ieee]
  rw [← EReal.coe_mul]
  exact ⟨_, by positivity, rfl⟩

theorem div_len (y : EReal) : Ideal.div y len = y * ((1024⁻¹ : ℝ) : EReal) := by
  rw [len_eq, Ideal.div, if_neg (by exact_mod_cast (by norm_num : (1024 : ℝ) ≠ 0)), ← EReal.coe_inv]

theorem square_nonneg (y : EReal) : 0 ≤ y * y := by
  rcases le_total 0 y with h | h
  · exact mul_nonneg h h
  · rw [← neg_mul_neg]
    exact mul_nonneg (EReal.neg_nonneg.mpr h) (EReal.neg_nonneg.mpr h)

/-- The spread is a positive real, or infinite. -/
theorem spread_cases (x : Fin 1024 → EReal) : spread x = ⊤ ∨ ∃ s : ℝ, 0 < s ∧ spread x = (s : EReal) := by
  obtain ⟨e, he, hE⟩ := eps_pos
  have hs : 0 ≤ Ideal.div (∑ k, x k * x k) len := by
    rw [div_len]
    exact mul_nonneg (Finset.sum_nonneg fun k _ => square_nonneg _) (by exact_mod_cast (by norm_num : (0 : ℝ) ≤ 1024⁻¹))
  unfold spread
  rw [hE]
  generalize Ideal.div (∑ k, x k * x k) len = y at hs
  induction y using EReal.rec with
  | bot => exact absurd hs (by simp)
  | top => exact .inl rfl
  | coe y => exact .inr ⟨y + e, add_pos_of_nonneg_of_pos (by exact_mod_cast hs) he, by rw [EReal.coe_add]⟩

/-- A nonnegative real factor goes through a sum. -/
theorem mul_sum_real (r : ℝ) (hr : 0 ≤ r) (f : Fin 1024 → EReal) : (r : EReal) * ∑ k, f k = ∑ k, (r : EReal) * f k := by
  have h : ∀ s : Finset (Fin 1024), (r : EReal) * ∑ k ∈ s, f k = ∑ k ∈ s, (r : EReal) * f k := fun s => by
    induction s using Finset.induction_on with
    | empty => simp
    | insert a s ha ih =>
      rw [Finset.sum_insert ha, Finset.sum_insert ha,
        EReal.left_distrib_of_nonneg_of_ne_top (by exact_mod_cast hr) (EReal.coe_ne_top r), ih]
  exact h _

/-- Twice a real share is the share of the double. -/
theorem twice (u : EReal) (h : ℝ) (hh : 0 < h) : u * ((-h : ℝ) : EReal) + u * ((-h : ℝ) : EReal) = -(u * ((2 * h : ℝ) : EReal)) := by
  induction u using EReal.rec with
  | bot => rw [EReal.bot_mul_coe_of_neg (by linarith), EReal.bot_mul_coe_of_pos (by linarith)]; rfl
  | top => rw [EReal.top_mul_coe_of_neg (by linarith), EReal.top_mul_coe_of_pos (by linarith)]; rfl
  | coe u => rw [← EReal.coe_mul, ← EReal.coe_mul, ← EReal.coe_add, ← EReal.coe_neg]; congr 1; ring

/-- What the kernel adds to a row. -/
def rowK (x d : Fin 1024 → EReal) (a : Fin 1024) : EReal :=
  scale x * (d a - x a * scale x * Ideal.div (∑ k, d k * (x k * scale x)) len)
/-- The reference's coefficient of a row. -/
def coef (x d : Fin 1024 → EReal) : EReal := Ideal.div ((∑ k, x k * d k) * (half * Ideal.div (scale x) (spread x))) len
/-- What the reference adds to a row. -/
def rowR (x d : Fin 1024 → EReal) (a : Fin 1024) : EReal := d a * scale x + x a * coef x d + coef x d * x a

/-- The two agree, whatever the row holds. -/
theorem row_eq (x d : Fin 1024 → EReal) (a : Fin 1024) : rowK x d a = rowR x d a := by
  unfold rowK rowR coef
  rcases spread_cases x with h | ⟨s, hs, h⟩
  · have hr : scale x = 0 := by unfold scale; rw [h]; exact Ideal.rsqrt_top
    have hd : Ideal.div 0 (⊤ : EReal) = 0 := by rw [Ideal.div, if_neg (by simp), zero_mul]
    rw [hr, h, hd, div_len, div_len]
    simp only [mul_zero, zero_mul, add_zero]
  · obtain ⟨r, hr, e⟩ : ∃ r : ℝ, 0 < r ∧ scale x = (r : EReal) := ⟨(Real.sqrt s)⁻¹, by positivity, by
      unfold scale
      rw [h, Ideal.rsqrt_coe, if_neg (not_lt.mpr hs.le), if_neg hs.ne']⟩
    have hm : ∑ k, d k * (x k * (r : EReal)) = r * ∑ k, x k * d k := by
      rw [mul_sum_real r hr.le]
      exact Finset.sum_congr rfl fun k _ => by rw [mul_comm (x k), mul_left_comm, mul_comm (d k)]
    have hd : Ideal.div (r : EReal) (s : EReal) = ((r * s⁻¹ : ℝ) : EReal) := by
      rw [Ideal.div, if_neg (by exact_mod_cast hs.ne'), ← EReal.coe_inv, EReal.coe_mul]
    have hrs : r * r = s⁻¹ := by
      have h1 : (r : EReal) = (((Real.sqrt s)⁻¹ : ℝ) : EReal) := by
        rw [← e]; unfold scale; rw [h, Ideal.rsqrt_coe, if_neg (not_lt.mpr hs.le), if_neg hs.ne']
      rw [EReal.coe_eq_coe_iff.mp h1, ← mul_inv, Real.mul_self_sqrt hs.le]
    rw [e, h, hd, half_eq, div_len, div_len, hm]
    generalize ∑ k, x k * d k = T
    have hq : T * (((-(1 / 2) : ℝ) : EReal) * ((r * s⁻¹ : ℝ) : EReal)) * ((1024⁻¹ : ℝ) : EReal) = T * ((-(r * r * r / 2048) : ℝ) : EReal) := by
      rw [mul_assoc, ← EReal.coe_mul, ← EReal.coe_mul, ← hrs]
      congr 2; ring
    have hk : x a * (r : EReal) * ((r : EReal) * T * ((1024⁻¹ : ℝ) : EReal)) = x a * T * ((r * r / 1024 : ℝ) : EReal) := by
      rw [show ((r * r / 1024 : ℝ) : EReal) = (r : EReal) * r * ((1024⁻¹ : ℝ) : EReal) by rw [← EReal.coe_mul, ← EReal.coe_mul]; rfl]
      ac_rfl
    rw [hq, hk, mul_comm (T * _) (x a), ← mul_assoc, add_assoc, twice _ _ (by positivity), sub_eq_add_neg,
      EReal.left_distrib_of_nonneg_of_ne_top (by exact_mod_cast hr.le) (EReal.coe_ne_top r), mul_comm (r : EReal) (d a), mul_neg,
      mul_left_comm (r : EReal) (x a * T), ← EReal.coe_mul]
    rw [show r * (r * r / 1024) = 2 * (r * r * r / 2048) by ring]
end Cert.InputVal
-- ==== Proof.InputRef.lean ====
module
public import proofs.«01_k».proof.Proof.Gen.InputReferenceIdeal.Read
public import proofs.«01_k».proof.Proof.InputRow
public import Idealize.ShloMosaic.Lib.KernelVsHost
public import Idealize.ShloMosaic.Lib.StableHlo.ReadAt
@[expose] public section
set_option maxRecDepth 16384
noncomputable section
/-! The gradient through the input projection and its norm: what the reference returns. -/
namespace Cert.InputVal.Ref
open Idealize.ShloMosaic Idealize.ShloMosaic.TcCoe Idealize.SL.Sem
open Cert.InputReferenceIdeal Cert.InputReferenceIdeal.Gen Cert.InputReferenceIdeal.Read

/-- A sum over all columns is the sum over the three parts. -/
theorem sum_parts (f : Fin 5120 → EReal) : ∑ k, f k = (∑ k : Fin 2048, f ⟨k.val, by omega⟩) + (∑ k : Fin 1024, f ⟨2048 + k.val, by omega⟩)
    + ∑ k : Fin 2048, f ⟨3072 + k.val, by omega⟩ :=
  (Fin.sum_univ_add (a := 3072) (b := 2048) f).trans
    (congrArg (· + _) (Fin.sum_univ_add (a := 2048) (b := 1024) fun k : Fin 3072 => f ⟨k.val, by omega⟩))

variable (x0 : Vec Ideal S4096x2048 .f32) (x1 : Vec Ideal S4096x1024 .f32) (x2 : Vec Ideal S4096x2048 .f32) (x3 : Vec Ideal S1024x5120 .f32)
  (x4 : Vec Ideal S4096x1024 .f32) (x5 : Vec Ideal S1024 .f32) (x6 : Vec Ideal S4096x1024 .f32)

/-- The three parts. -/
abbrev parts : List ((S : Shape) × (S.Idx → EReal)) := [⟨S4096x2048, x0⟩, ⟨S4096x1024, x1⟩, ⟨S4096x2048, x2⟩]

theorem part0 (s : Fin 4096) (k : Fin 2048) : val_main_v17 (F := Ideal) x0 x1 x2 (ix2 s ⟨k.val, by omega⟩) = x0 (ix2 s k) :=
  concatenate_apply_piece (t := S4096x5120) 1 (parts x0 x1 x2) concatenates_S4096x2048_S4096x1024_S4096x2048_S4096x5120_d1 (ix2 s ⟨k.val, by omega⟩) 0
    (by simp [parts]) S4096x2048 x0 rfl rfl 0 rfl (ix2 s k) (fun b hb => by match b with | ⟨0, _⟩ => rfl | ⟨1, _⟩ => exact absurd rfl hb)
    (by show _ = _; simp)
theorem part1 (s : Fin 4096) (k : Fin 1024) : val_main_v17 (F := Ideal) x0 x1 x2 (ix2 s ⟨2048 + k.val, by omega⟩) = x1 (ix2 s k) :=
  concatenate_apply_piece (t := S4096x5120) 1 (parts x0 x1 x2) concatenates_S4096x2048_S4096x1024_S4096x2048_S4096x5120_d1 (ix2 s ⟨2048 + k.val, by omega⟩) 1
    (by simp [parts]) S4096x1024 x1 rfl rfl 2048 rfl (ix2 s k) (fun b hb => by match b with | ⟨0, _⟩ => rfl | ⟨1, _⟩ => exact absurd rfl hb)
    (by show _ = _; simp)
theorem part2 (s : Fin 4096) (k : Fin 2048) : val_main_v17 (F := Ideal) x0 x1 x2 (ix2 s ⟨3072 + k.val, by omega⟩) = x2 (ix2 s k) :=
  concatenate_apply_piece (t := S4096x5120) 1 (parts x0 x1 x2) concatenates_S4096x2048_S4096x1024_S4096x2048_S4096x5120_d1 (ix2 s ⟨3072 + k.val, by omega⟩) 2
    (by simp [parts]) S4096x2048 x2 rfl rfl 3072 rfl (ix2 s k) (fun b hb => by match b with | ⟨0, _⟩ => rfl | ⟨1, _⟩ => exact absurd rfl hb)
    (by show _ = _; simp)

theorem product (s : Fin 4096) (a : Fin 1024) : val_main_v20 (F := Ideal) x0 x1 x2 x3 (ix2 s a)
    = (∑ k : Fin 2048, x0 (ix2 s k) * x3 (ix2 a ⟨k.val, by omega⟩)) + (∑ k : Fin 1024, x1 (ix2 s k) * x3 (ix2 a ⟨2048 + k.val, by omega⟩))
      + ∑ k : Fin 2048, x2 (ix2 s k) * x3 (ix2 a ⟨3072 + k.val, by omega⟩) := by
  have h : val_main_v20 (F := Ideal) x0 x1 x2 x3 (ix2 s a) = ∑ k : Fin 5120, val_main_v17 (F := Ideal) x0 x1 x2 (ix2 s k) * x3 (ix2 a k) := by
    rw [val_main_v20_apply]
    exact Finset.sum_congr rfl fun k _ => by rw [eq_ix2 (lidx_main_v20 _ k), eq_ix2 (ridx_main_v20 _ k)]; rfl
  rw [h, sum_parts]
  simp only [part0, part1, part2]

/-- A row of the norm's input. -/
abbrev rx (s : Fin 4096) : Fin 1024 → EReal := fun k => x4 (ix2 s k)
/-- A row of the gradient after the norm, times the gain. -/
abbrev rd (s : Fin 4096) : Fin 1024 → EReal := fun k => val_main_v20 (F := Ideal) x0 x1 x2 x3 (ix2 s k) * x5 (ix1 k)

theorem zero_bits : Ideal.ofBits .f32 0x00000000#32 = 0 := by simp [Ideal.ofBits, Ideal.ieee]

theorem spread_ref (s : Fin 4096) : val_main_v6 (F := Ideal) x4 (ix2 s 0) = spread (rx x4 s) := by
  have h : val_main_v1 (F := Ideal) x4 (ix1 s) = ∑ k : Fin 1024, x4 (ix2 s k) * x4 (ix2 s k) := by
    rw [val_main_v1_apply]
    refine (congrArg₂ (· + ·) zero_bits (Finset.sum_congr rfl fun k _ => ?_)).trans (zero_add _)
    rw [val_main_v0_apply, eq_ix2 (idx_main_v1 (ix1 s) k)]
    rfl
  rw [val_main_v6_apply, val_main_v5_apply, val_main_cst_1_apply, val_main_v4_apply, val_main_v3_apply, val_main_cst_0_apply, val_main_v2_apply,
    eq_ix1 (idx_main_v2 (ix2 s 0))]
  refine Eq.trans ?_ (congrArg (fun y => Ideal.div y len + eps) h)
  rfl
theorem scale_ref (s : Fin 4096) : val_main_v7 (F := Ideal) x4 (ix2 s 0) = scale (rx x4 s) := by
  rw [val_main_v7_apply, spread_ref]
  rfl
theorem coef0_ref (s : Fin 4096) : val_main_v10 (F := Ideal) x4 (ix2 s 0) = half * Ideal.div (scale (rx x4 s)) (spread (rx x4 s)) := by
  rw [val_main_v10_apply, val_main_v9_apply, val_main_cst_2_apply, val_main_v8_apply, scale_ref, spread_ref]
  rfl
theorem gained (s : Fin 4096) (a : Fin 1024) : val_main_v25 (F := Ideal) x0 x1 x2 x3 x5 (ix2 s a) = rd x0 x1 x2 x3 x5 s a := by
  rw [val_main_v25_apply, val_main_v24_apply, val_main_v13_apply, eq_ix1 (idx_main_v13 _)]
  rfl
theorem inner (s : Fin 4096) : val_main_v29 (F := Ideal) x0 x1 x2 x3 x4 x5 (ix2 s 0) = ∑ k, rx x4 s k * rd x0 x1 x2 x3 x5 s k := by
  rw [val_main_v29_apply, show idx_main_v29 (ix2 s 0) = ix1 s from (eq_ix1 _).trans (congrArg ix1 (Fin.ext (show s.val * 1 + 0 = s.val by omega))),
    val_main_v28_apply]
  refine (congrArg₂ (· + ·) zero_bits (Finset.sum_congr rfl fun k _ => ?_)).trans (zero_add _)
  rw [show idx_main_v28 (ix1 s) k = ix2 s k from eq_ix2 _, val_main_v27_apply, gained]
  rfl
theorem coef_ref (s : Fin 4096) (a : Fin 1024) :
    val_main_v36 (F := Ideal) x0 x1 x2 x3 x4 x5 (ix2 s a) = coef (rx x4 s) (rd x0 x1 x2 x3 x5 s) := by
  rw [val_main_v36_apply, val_main_v35_apply]
  refine (congrArg₂ (· + ·) zero_bits (Fin.sum_univ_one _)).trans ((zero_add _).trans ?_)
  rw [show ∀ j, idx_main_v35 (idx_main_v36 (ix2 s a)) j = ix2 s 0 from fun j => (eq_ix2 _).trans (congrArg (ix2 s) (Subsingleton.elim _ _)),
    val_main_v34_apply, val_main_v33_apply, val_main_cst_6_apply, val_main_v32_apply, inner, coef0_ref]
  rfl

/-- The gradient of the layer's input. -/
theorem input_ref (s : Fin 4096) (a : Fin 1024) : val_main_v41 (F := Ideal) x0 x1 x2 x3 x4 x5 x6 (ix2 s a)
    = x6 (ix2 s a) + rowR (rx x4 s) (rd x0 x1 x2 x3 x5 s) a := by
  rw [val_main_v41_apply, val_main_v40_apply, val_main_v39_apply, val_main_v38_apply, val_main_v37_apply, coef_ref, val_main_v31_apply,
    val_main_v30_apply, gained, show idx_main_v30 (ix2 s a) = ix2 s 0 from (eq_ix2 _).trans (congrArg (ix2 s) (Subsingleton.elim _ _)), scale_ref]
  rfl

/-- The gradient of the gain. -/
theorem gain_ref (a : Fin 1024) : val_main_v42 (F := Ideal) x0 x1 x2 x3 x4 (ix2 0 a)
    = ∑ s : Fin 4096, val_main_v20 (F := Ideal) x0 x1 x2 x3 (ix2 s a) * (rx x4 s a * scale (rx x4 s)) := by
  rw [val_main_v42_apply, val_main_v26_apply]
  refine (congrArg₂ (· + ·) zero_bits (Fin.sum_univ_one _)).trans ((zero_add _).trans ?_)
  rw [val_main_v23_apply, show ∀ j, idx_main_v23 (idx_main_v26 (idx_main_v42 (ix2 0 a)) j) = ix1 a from fun j =>
      (eq_ix1 _).trans (congrArg ix1 (Fin.ext (by simp [idx_main_v23, idx_main_v26, idx_main_v42]))), val_main_v22_apply]
  refine (congrArg₂ (· + ·) zero_bits (Finset.sum_congr rfl fun s _ => ?_)).trans (zero_add _)
  rw [show idx_main_v22 (ix1 a) s = ix2 s a from eq_ix2 _, val_main_v21_apply, val_main_v12_apply, val_main_v11_apply,
    show idx_main_v11 (ix2 s a) = ix2 s 0 from (eq_ix2 _).trans (congrArg (ix2 s) (Subsingleton.elim _ _)), scale_ref]
  exact mul_comm _ _
end Cert.InputVal.Ref
-- ==== Proof.InputVal.lean ====
module
public import proofs.«01_k».proof.Proof.Gen.InputIdeal.Value
public import proofs.«01_k».proof.Proof.InputRef
public import Idealize.ShloMosaic.Lib.Pointwise
public import Idealize.ShloMosaic.Lib.KernelVsHost
public import Idealize.ShloMosaic.Lib.StableHlo.ReadAt
public import Idealize.ShloMosaic.Lib.Pipeline.ValueKit.Geometry
public import Idealize.ShloMosaic.Lib.Pipeline.ValueKit.Tiles
@[expose] public section
set_option maxRecDepth 16384
set_option maxHeartbeats 400000
noncomputable section
/-! The gradient through the input projection and its norm: what the call returns. -/
namespace Cert.InputVal
open Idealize.ShloMosaic Idealize.ShloMosaic.TcCoe Idealize.SL.Sem
open Cert.InputIdeal Cert.InputIdeal.Gen

variable (m : (ℓ : Loc nD τ sig) → Buf (Elt Ideal) ℓ) (c : Dev nD)

theorem zero2 : (![0, 0] : Fin 2 → Nat) = fun _ => 0 := funext fun a => by fin_cases a <;> rfl

/-! ## One row's arithmetic -/

theorem normed (x : Vec Ideal S512x1024 .f32) (r : Fin 512) (a : Fin 1024) :
    k0_pay5 x (ix2 r a) = x (ix2 r a) * scale fun k => x (ix2 r k) := by
  pointwise [k0_pay5]
  rfl

theorem squares (x : Vec Ideal S512x1024 .f32) (r : Fin 512) :
    k0_pay7 x (ix2 r 0) = ∑ k : Fin 1024, x (ix2 r k) * x (ix2 r k) := by
  pointwise [k0_pay7]

theorem back (n d : Vec Ideal S512x1024 .f32) (q : Vec Ideal S512x1 .f32) (h : Vec Ideal S512x1024 .f32) (r : Fin 512) (a : Fin 1024) :
    k0_pay2 n d q (Scalar.ofBits .f32 0x44800000#32) h (ix2 r a)
      = h (ix2 r a) + Ideal.rsqrt (Ideal.div (q (ix2 r 0)) len + eps)
        * (d (ix2 r a) - n (ix2 r a) * Ideal.div (∑ k : Fin 1024, d (ix2 r k) * n (ix2 r k)) len) := by
  pointwise [k0_pay2]
  rfl

theorem products (x0 : Vec Ideal S512x2048 .bf16) (w0 : Vec Ideal S1024x2048 .bf16) (x1 : Vec Ideal S512x1024 .bf16) (w1 : Vec Ideal S1024x1024 .bf16)
    (x2 : Vec Ideal S512x2048 .bf16) (w2 : Vec Ideal S1024x2048 .bf16) (r : Fin 512) (a : Fin 1024) :
    k0_pay4 x0 w0 x1 w1 x2 w2 (ix2 r a) = (∑ k : Fin 2048, x0 (ix2 r k) * w0 (ix2 a k)) + (∑ k : Fin 1024, x1 (ix2 r k) * w1 (ix2 a k))
      + ∑ k : Fin 2048, x2 (ix2 r k) * w2 (ix2 a k) := by
  pointwise [k0_pay4]

theorem scaled (x0 : Vec Ideal S512x2048 .bf16) (w0 : Vec Ideal S1024x2048 .bf16) (x1 : Vec Ideal S512x1024 .bf16) (w1 : Vec Ideal S1024x1024 .bf16)
    (x2 : Vec Ideal S512x2048 .bf16) (w2 : Vec Ideal S1024x2048 .bf16) (g : Vec Ideal S1x1024 .f32) (r : Fin 512) (a : Fin 1024) :
    k0_pay6 x0 w0 x1 w1 x2 w2 g (ix2 r a) = k0_pay4 x0 w0 x1 w1 x2 w2 (ix2 r a) * g (ix2 0 a) := by
  pointwise [k0_pay6]

theorem gain_first (u n : Vec Ideal S512x1024 .f32) (a : Fin 1024) : k0_pay1 (F := Ideal) u n (ix2 0 a) = ∑ r : Fin 512, u (ix2 r a) * n (ix2 r a) := by
  pointwise [k0_pay1]

theorem gain_later (u n : Vec Ideal S512x1024 .f32) (z : Vec Ideal S1x1024 .f32) (a : Fin 1024) :
    k0_pay3 u n z (ix2 0 a) = z (ix2 0 a) + ∑ r : Fin 512, u (ix2 r a) * n (ix2 r a) := by
  pointwise [k0_pay3, k0_pay1]

/-! ## What a point leaves -/

/-- The weight's columns a point multiplies the first part by. -/
def cols0 (t : Fin cfg0.N) : Vec Ideal S1024x2048 .bf16 :=
  View.ld (iblk m c 3 t : Vec Ideal S1024x5120 .bf16) (Rect.unit ![0, 0] ![1024, 2048] inb_S1024x5120_S1024x2048_0_0)
/-- Those for the second part. -/
def cols1 (t : Fin cfg0.N) : Vec Ideal S1024x1024 .bf16 :=
  View.ld (iblk m c 3 t : Vec Ideal S1024x5120 .bf16) (Rect.unit ![0, 2048] ![1024, 1024] inb_S1024x5120_S1024x1024_0_2048)
/-- Those for the third part. -/
def cols2 (t : Fin cfg0.N) : Vec Ideal S1024x2048 .bf16 :=
  View.ld (iblk m c 3 t : Vec Ideal S1024x5120 .bf16) (Rect.unit ![0, 3072] ![1024, 2048] inb_S1024x5120_S1024x2048_0_3072)
/-- The gradient after the norm, on a point's rows. -/
def uTile (t : Fin cfg0.N) : Vec Ideal S512x1024 .f32 :=
  k0_pay4 (iblk m c 0 t) (cols0 m c t) (iblk m c 1 t) (cols1 m c t) (iblk m c 2 t) (cols2 m c t)
/-- The normed rows of a point. -/
def nTile (t : Fin cfg0.N) : Vec Ideal S512x1024 .f32 := k0_pay5 (iblk m c 4 t)
/-- The gradient a point returns. -/
def xTile (t : Fin cfg0.N) : Vec Ideal S512x1024 .f32 :=
  k0_pay2 (nTile m c t) (k0_pay6 (iblk m c 0 t) (cols0 m c t) (iblk m c 1 t) (cols1 m c t) (iblk m c 2 t) (cols2 m c t) (iblk m c 5 t))
    (k0_pay7 (iblk m c 4 t)) (Scalar.ofBits .f32 0x44800000#32) (iblk m c 6 t)

/-- The first point stores its rows and starts the sum over rows. -/
theorem at_first (t : Fin cfg0.N) (h : t.val % 8 = 0) (h' : ¬1 ≤ t.val) :
    outsAt0 m c t.val t.isLt = (xTile m c t, k0_pay1 (F := Ideal) (uTile m c t) (nTile m c t)) := by
  rw [outsAt0_A m c t h h']
  refine Prod.ext ?_ ?_
  · dsimp only
    unfold out0_A_7
    rw [View.read_writes_eq_canon _ _ _ (by intro y; apply cover0_A_7)]
    unfold kernelRun0_A
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, View.ld_unit_zero (S := S512x2048) zero2, View.ld_unit_zero (S := S512x1024) zero2,
      View.ld_unit_zero (S := S1x1024) zero2]
    rw [View.canon_unit_zero zero2]
    rfl
  · dsimp only
    unfold out0_A_8
    rw [View.read_writes_eq_canon _ _ _ (by intro y; apply cover0_A_8)]
    unfold kernelRun0_A
    dsimp only
    sl_unfold_words
    simp only [View.readAt_eq_ld, (hs0_0 t).read_unread, (hs0_1 t).read_unread, (hs0_2 t).read_unread, (hs0_3 t).read_unread, (hs0_4 t).read_unread,
      View.ld_unit_zero (S := S512x2048) zero2, View.ld_unit_zero (S := S512x1024) zero2]
    rw [View.canon_unit_zero zero2]
    rfl

/-- A later point stores its rows and adds to the sum. -/
theorem at_later (t : Fin cfg0.N) (h : ¬t.val % 8 = 0) (h' : 1 ≤ t.val) (hp : t.val - 1 < cfg0.N) :
    outsAt0 m c t.val t.isLt = (xTile m c t, k0_pay3 (uTile m c t) (nTile m c t) (outsAt0 m c (t.val - 1) hp).2) := by
  obtain ⟨prev, hprev⟩ : ∃ prev, prev = outsAt0 m c (t.val - 1) hp := ⟨_, rfl⟩
  rw [outsAt0_B m c t h h', ← hprev]
  refine Prod.ext ?_ ?_
  · dsimp only
    unfold out0_B_7
    rw [View.read_writes_eq_canon _ _ _ (by intro y; apply cover0_B_7)]
    unfold kernelRun0_B
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, View.ld_unit_zero (S := S512x2048) zero2, View.ld_unit_zero (S := S512x1024) zero2,
      View.ld_unit_zero (S := S1x1024) zero2]
    rw [View.canon_unit_zero zero2]
    rfl
  · dsimp only
    unfold out0_B_8
    rw [View.read_writes_eq_canon _ _ _ (by intro y; apply cover0_B_8)]
    unfold kernelRun0_B
    dsimp only
    sl_unfold_words
    simp only [View.readAt_eq_ld, (hs0_0 t).read_unread, (hs0_1 t).read_unread, (hs0_2 t).read_unread, (hs0_3 t).read_unread, (hs0_4 t).read_unread,
      (hs0_8 t).read_unread, View.ld_unit_zero (S := S512x2048) zero2, View.ld_unit_zero (S := S512x1024) zero2, View.ld_unit_zero (S := S1x1024) zero2]
    rw [View.canon_unit_zero zero2]
    rfl

/-! ## The blocks, in terms of the arguments -/

/-- The incoming gradient of the first part. -/
abbrev aA : Vec Ideal S4096x2048 .f32 := m ((c : Thread nD τ).loc main_arg0)
/-- The incoming gradient of the second part. -/
abbrev aB : Vec Ideal S4096x1024 .f32 := m ((c : Thread nD τ).loc main_arg1)
/-- The incoming gradient of the third part. -/
abbrev aC : Vec Ideal S4096x2048 .f32 := m ((c : Thread nD τ).loc main_arg2)
/-- The weight. -/
abbrev aW : Vec Ideal S1024x5120 .f32 := m ((c : Thread nD τ).loc main_arg3)
/-- The norm's input. -/
abbrev aX : Vec Ideal S4096x1024 .f32 := m ((c : Thread nD τ).loc main_arg4)
/-- The norm's gain. -/
abbrev aG : Vec Ideal S1024 .f32 := m ((c : Thread nD τ).loc main_arg5)
/-- The gradient that passes around the norm. -/
abbrev aH : Vec Ideal S4096x1024 .f32 := m ((c : Thread nD τ).loc main_arg6)

theorem lt8 (t : Fin cfg0.N) : t.val < 8 := lt_of_lt_of_eq t.isLt (show cfg0.N = 8 from N_0)

/-- Row `r` of a point's tile. -/
def row (t : Fin cfg0.N) (r : Fin 512) : Fin 4096 := ⟨512 * t.val + r.val, by have := lt8 t; omega⟩

theorem index0 : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0)
    ∧ (win0_8.index t 0 = 0 ∧ win0_8.index t 1 = 0) := by decide +kernel

theorem V0 : (V m c main_v0 : Vec Ideal S4096x2048 .bf16) = aA m c := by
  unfold V
  after_reads_simp
  rfl
theorem V1 : (V m c main_v1 : Vec Ideal S4096x1024 .bf16) = aB m c := by
  unfold V
  after_reads_simp
  rfl
theorem V2 : (V m c main_v2 : Vec Ideal S4096x2048 .bf16) = aC m c := by
  unfold V
  after_reads_simp
  rfl
theorem V3 : (V m c main_v3 : Vec Ideal S1024x5120 .bf16) = aW m c := by
  unfold V
  after_reads_simp
  rfl
theorem V4 (a : Fin 1024) : (V m c main_v4 : Vec Ideal S1x1024 .f32) (ix2 0 a) = aG m c (ix1 a) := by
  unfold V
  after_reads_at
theorem Vx : (V m c main_arg4 : Vec Ideal S4096x1024 .f32) = aX m c := by
  unfold V
  after_reads_simp
theorem Vh : (V m c main_arg6 : Vec Ideal S4096x1024 .f32) = aH m c := by
  unfold V
  after_reads_simp

theorem block0 (t : Fin cfg0.N) (r : Fin 512) (k : Fin 2048) :
    (iblk m c 0 t : Vec Ideal S512x2048 .bf16) (ix2 r k) = aA m c (ix2 (row t r) k) := by
  rw [← V0]
  exact congrArg (V m c main_v0) (funext fun i => Fin.ext (by
    have h := (index0 t).1
    match i with
    | ⟨0, _⟩ => show win0_0.index t 0 * 512 + 1 * r.val = 512 * t.val + r.val; rw [h.1]; omega
    | ⟨1, _⟩ => show win0_0.index t 1 * 2048 + 1 * k.val = k.val; rw [h.2]; omega))
theorem block1 (t : Fin cfg0.N) (r : Fin 512) (k : Fin 1024) :
    (iblk m c 1 t : Vec Ideal S512x1024 .bf16) (ix2 r k) = aB m c (ix2 (row t r) k) := by
  rw [← V1]
  exact congrArg (V m c main_v1) (funext fun i => Fin.ext (by
    have h := (index0 t).2.1
    match i with
    | ⟨0, _⟩ => show win0_1.index t 0 * 512 + 1 * r.val = 512 * t.val + r.val; rw [h.1]; omega
    | ⟨1, _⟩ => show win0_1.index t 1 * 1024 + 1 * k.val = k.val; rw [h.2]; omega))
theorem block2 (t : Fin cfg0.N) (r : Fin 512) (k : Fin 2048) :
    (iblk m c 2 t : Vec Ideal S512x2048 .bf16) (ix2 r k) = aC m c (ix2 (row t r) k) := by
  rw [← V2]
  exact congrArg (V m c main_v2) (funext fun i => Fin.ext (by
    have h := (index0 t).2.2.1
    match i with
    | ⟨0, _⟩ => show win0_2.index t 0 * 512 + 1 * r.val = 512 * t.val + r.val; rw [h.1]; omega
    | ⟨1, _⟩ => show win0_2.index t 1 * 2048 + 1 * k.val = k.val; rw [h.2]; omega))
theorem block3 (t : Fin cfg0.N) : (iblk m c 3 t : Vec Ideal S1024x5120 .bf16) = aW m c := by
  rw [← V3]
  exact funext fun y => congrArg (V m c main_v3) (funext fun i => Fin.ext (by
    have h := (index0 t).2.2.2.1
    match i with
    | ⟨0, _⟩ => show win0_3.index t 0 * 1024 + 1 * (y 0).val = (y 0).val; rw [h.1]; omega
    | ⟨1, _⟩ => show win0_3.index t 1 * 5120 + 1 * (y 1).val = (y 1).val; rw [h.2]; omega))
theorem block4 (t : Fin cfg0.N) (r : Fin 512) (k : Fin 1024) :
    (iblk m c 4 t : Vec Ideal S512x1024 .f32) (ix2 r k) = aX m c (ix2 (row t r) k) := by
  rw [← Vx]
  exact congrArg (V m c main_arg4) (funext fun i => Fin.ext (by
    have h := (index0 t).2.2.2.2.1
    match i with
    | ⟨0, _⟩ => show win0_4.index t 0 * 512 + 1 * r.val = 512 * t.val + r.val; rw [h.1]; omega
    | ⟨1, _⟩ => show win0_4.index t 1 * 1024 + 1 * k.val = k.val; rw [h.2]; omega))
theorem block5 (t : Fin cfg0.N) (k : Fin 1024) : (iblk m c 5 t : Vec Ideal S1x1024 .f32) (ix2 0 k) = aG m c (ix1 k) := by
  rw [← V4]
  exact congrArg (V m c main_v4) (funext fun i => Fin.ext (by
    have h := (index0 t).2.2.2.2.2.1
    match i with
    | ⟨0, _⟩ => show win0_5.index t 0 * 1 + 1 * 0 = 0; rw [h.1]
    | ⟨1, _⟩ => show win0_5.index t 1 * 1024 + 1 * k.val = k.val; rw [h.2]; omega))
theorem block6 (t : Fin cfg0.N) (r : Fin 512) (k : Fin 1024) :
    (iblk m c 6 t : Vec Ideal S512x1024 .f32) (ix2 r k) = aH m c (ix2 (row t r) k) := by
  rw [← Vh]
  exact congrArg (V m c main_arg6) (funext fun i => Fin.ext (by
    have h := (index0 t).2.2.2.2.2.2.1
    match i with
    | ⟨0, _⟩ => show win0_6.index t 0 * 512 + 1 * r.val = 512 * t.val + r.val; rw [h.1]; omega
    | ⟨1, _⟩ => show win0_6.index t 1 * 1024 + 1 * k.val = k.val; rw [h.2]; omega))

theorem cols0_apply (t : Fin cfg0.N) (a : Fin 1024) (k : Fin 2048) : cols0 m c t (ix2 a k) = aW m c (ix2 a ⟨k.val, by omega⟩) := by
  unfold cols0
  rw [block3]
  exact View.ld_unit_apply_of _ _ _ _ _ _ fun i => by
    match i with
    | ⟨0, _⟩ => exact (Nat.zero_add _).symm
    | ⟨1, _⟩ => exact (Nat.zero_add _).symm
theorem cols1_apply (t : Fin cfg0.N) (a k : Fin 1024) : cols1 m c t (ix2 a k) = aW m c (ix2 a ⟨2048 + k.val, by omega⟩) := by
  unfold cols1
  rw [block3]
  exact View.ld_unit_apply_of _ _ _ _ _ _ fun i => by
    match i with
    | ⟨0, _⟩ => exact (Nat.zero_add _).symm
    | ⟨1, _⟩ => rfl
theorem cols2_apply (t : Fin cfg0.N) (a : Fin 1024) (k : Fin 2048) : cols2 m c t (ix2 a k) = aW m c (ix2 a ⟨3072 + k.val, by omega⟩) := by
  unfold cols2
  rw [block3]
  exact View.ld_unit_apply_of _ _ _ _ _ _ fun i => by
    match i with
    | ⟨0, _⟩ => exact (Nat.zero_add _).symm
    | ⟨1, _⟩ => rfl

/-! ## The results -/

/-- The gradient after the norm, the weight's columns taken in three parts. -/
def du (s : Fin 4096) (a : Fin 1024) : EReal := (∑ k : Fin 2048, aA m c (ix2 s k) * aW m c (ix2 a ⟨k.val, by omega⟩))
  + (∑ k : Fin 1024, aB m c (ix2 s k) * aW m c (ix2 a ⟨2048 + k.val, by omega⟩))
  + ∑ k : Fin 2048, aC m c (ix2 s k) * aW m c (ix2 a ⟨3072 + k.val, by omega⟩)
/-- A row of the norm's input. -/
def rowX (s : Fin 4096) : Fin 1024 → EReal := fun k => aX m c (ix2 s k)
/-- A row of the gradient after the norm, times the gain. -/
def rowD (s : Fin 4096) : Fin 1024 → EReal := fun k => du m c s k * aG m c (ix1 k)

theorem uTile_apply (t : Fin cfg0.N) (r : Fin 512) (a : Fin 1024) : uTile m c t (ix2 r a) = du m c (row t r) a := by
  unfold uTile
  rw [products]
  simp only [block0, block1, block2, cols0_apply, cols1_apply, cols2_apply]
  rfl
theorem nTile_apply (t : Fin cfg0.N) (r : Fin 512) (a : Fin 1024) :
    nTile m c t (ix2 r a) = rowX m c (row t r) a * scale (rowX m c (row t r)) := by
  unfold nTile
  rw [normed]
  simp only [block4]
  rfl
theorem xTile_apply (t : Fin cfg0.N) (r : Fin 512) (a : Fin 1024) :
    xTile m c t (ix2 r a) = aH m c (ix2 (row t r) a) + rowK (rowX m c (row t r)) (rowD m c (row t r)) a := by
  unfold xTile
  rw [back, squares]
  simp only [scaled, block4, block5, block6, nTile_apply]
  have hu : ∀ k : Fin 1024, k0_pay4 (iblk m c 0 t) (cols0 m c t) (iblk m c 1 t) (cols1 m c t) (iblk m c 2 t) (cols2 m c t) (ix2 r k)
      = du m c (row t r) k := uTile_apply m c t r
  simp only [hu]
  rfl

/-- The gradient of the layer's input. -/
def outX : Vec Ideal S4096x1024 .f32 := fun i => aH m c i + rowK (rowX m c (i 0)) (rowD m c (i 0)) (i 1)
/-- One row's share of the gain's gradient. -/
def gain (a : Fin 1024) (s : Fin 4096) : EReal := du m c s a * (rowX m c s a * scale (rowX m c s))
/-- The gradient of the gain. -/
def outG : Vec Ideal S1x1024 .f32 := fun i => ∑ s : Fin 4096, gain m c (i 1) s

/-- One point's share of the gain's gradient. -/
def share (a : Fin 1024) (n : ℕ) : EReal := if h : n < 8 then ∑ r : Fin 512, gain m c a ⟨512 * n + r.val, by omega⟩ else 0

theorem tile_share (t : Fin cfg0.N) (a : Fin 1024) : ∑ r : Fin 512, uTile m c t (ix2 r a) * nTile m c t (ix2 r a) = share m c a t.val := by
  unfold share
  rw [dif_pos (lt8 t)]
  exact Finset.sum_congr rfl fun r _ => by rw [uTile_apply, nTile_apply]; rfl

/-- The sum over rows, as far as a point has come. -/
theorem so_far (a : Fin 1024) : ∀ n (hn : n < cfg0.N), (outsAt0 m c n hn).2 (ix2 0 a) = ∑ i ∈ Finset.range (n + 1), share m c a i := by
  intro n
  induction n with
  | zero =>
    intro hn
    rw [show outsAt0 m c 0 hn = _ from at_first m c ⟨0, hn⟩ rfl (by simp)]
    exact (gain_first _ _ a).trans ((tile_share m c ⟨0, hn⟩ a).trans (by simp))
  | succ n ih =>
    intro hn
    have h8 := lt8 ⟨n + 1, hn⟩
    rw [show outsAt0 m c (n + 1) hn = _ from at_later m c ⟨n + 1, hn⟩ (by show ¬(n + 1) % 8 = 0; change n + 1 < 8 at h8; omega) (Nat.le_add_left 1 n)
      (Nat.lt_of_succ_lt hn), Finset.sum_range_succ, ← ih (Nat.lt_of_succ_lt hn)]
    exact (gain_later _ _ _ a).trans (congrArg (_ + ·) (tile_share m c ⟨n + 1, hn⟩ a))

/-- A sum over the rows is the sum over the tiles. -/
theorem sum_tiles (f : Fin 4096 → EReal) : ∑ s, f s = ∑ j : Fin 8, ∑ r : Fin 512, f ⟨512 * j.val + r.val, by omega⟩ := by
  rw [← Fintype.sum_prod_type']
  refine (Fintype.sum_equiv (finProdFinEquiv (m := 8) (n := 512)) _ f fun p => congrArg f (Fin.ext ?_)).symm
  show 512 * p.1.val + p.2.val = p.2.val + 512 * p.1.val
  omega

theorem arr7 : (dats m 0 c).arrAt 7 cfg0.N = outX m c := by
  refine (dats m 0 c).arrAt_eq_of_covers 7 (outX m c) (by decide +kernel) fun t hf y => ?_
  have h := (index0 t).2.2.2.2.2.2.2.1
  obtain ⟨r, a, rfl⟩ : ∃ (r : Fin 512) (a : Fin 1024), y = ix2 r a := ⟨y 0, y 1, eq_ix2 y⟩
  have e : ((cfg0.win 7).blk t).view.emb (ix2 r a) = ix2 (row t r) a := funext fun i => Fin.ext (by
    match i with
    | ⟨0, _⟩ => show win0_7.index t 0 * 512 + 1 * r.val = 512 * t.val + r.val; rw [h.1]; omega
    | ⟨1, _⟩ => show win0_7.index t 1 * 1024 + 1 * a.val = a.val; rw [h.2]; omega)
  have h1 : (outsAt0 m c t.val t.isLt).1 = xTile m c t := by
    have := lt8 t
    by_cases h0 : t.val = 0
    · rw [at_first m c t (by omega) (by omega)]
    · rw [at_later m c t (by omega) (by omega) (lt_of_le_of_lt (Nat.sub_le _ _) t.isLt)]
  rw [e, after0_7]
  exact (congrFun h1 _).trans (xTile_apply m c t r a)

theorem flush8 : ∀ t : Fin cfg0.N, (cfg0.win 8).flush t = true → t.val = 7 := by decide +kernel

theorem arr8 : (dats m 0 c).arrAt 8 cfg0.N = outG m c := by
  refine (dats m 0 c).arrAt_eq_of_covers 8 (outG m c) (by decide +kernel) fun t hf y => ?_
  have h := (index0 t).2.2.2.2.2.2.2.2
  obtain ⟨z, a, rfl⟩ : ∃ (z : Fin 1) (a : Fin 1024), y = ix2 z a := ⟨y 0, y 1, eq_ix2 y⟩
  obtain rfl : z = 0 := Subsingleton.elim _ _
  have e : ((cfg0.win 8).blk t).view.emb (ix2 0 a) = ix2 0 a := funext fun i => Fin.ext (by
    match i with
    | ⟨0, _⟩ => show win0_8.index t 0 * 1 + 1 * 0 = 0; rw [h.1]
    | ⟨1, _⟩ => show win0_8.index t 1 * 1024 + 1 * a.val = a.val; rw [h.2]; omega)
  rw [e, after0_8]
  refine (so_far m c a t.val t.isLt).trans ?_
  rw [flush8 t hf, Finset.sum_range]
  refine Eq.trans (Finset.sum_congr rfl fun j _ => ?_) (sum_tiles (gain m c a)).symm
  unfold share
  rw [dif_pos j.isLt]

/-- The reference's gradient of the layer's input is the kernel's. -/
theorem outX_eq : outX m c = Cert.InputReferenceIdeal.Read.val_main_v41 (F := Ideal) (aA m c) (aB m c) (aC m c) (aW m c) (aX m c) (aG m c) (aH m c) := by
  funext i
  obtain ⟨s, a, rfl⟩ : ∃ (s : Fin 4096) (a : Fin 1024), i = ix2 s a := ⟨i 0, i 1, eq_ix2 i⟩
  rw [Ref.input_ref, ← row_eq]
  have hd : Ref.rd (aA m c) (aB m c) (aC m c) (aW m c) (aG m c) s = rowD m c s := funext fun k => congrArg (· * _) (Ref.product ..)
  rw [hd]
  rfl

/-- The reference's gradient of the gain is the kernel's. -/
theorem outG_eq : outG m c = Cert.InputReferenceIdeal.Read.val_main_v42 (F := Ideal) (aA m c) (aB m c) (aC m c) (aW m c) (aX m c) := by
  funext i
  obtain ⟨z, a, rfl⟩ : ∃ (z : Fin 1) (a : Fin 1024), i = ix2 z a := ⟨i 0, i 1, eq_ix2 i⟩
  obtain rfl : z = 0 := Subsingleton.elim _ _
  exact Eq.trans (Finset.sum_congr rfl fun s _ => congrArg (· * _) (Ref.product ..).symm) (Ref.gain_ref ..).symm
end Cert.InputVal
-- ==== Proof.InputClaims.lean ====
module
public import proofs.«01_k».proof.Defs
public import proofs.«01_k».proof.Proof.InputVal
public import proofs.«01_k».proof.Proof.Gen.Input
public import proofs.«01_k».proof.Proof.Gen.Input.Frame
public import proofs.«01_k».proof.Proof.Gen.InputIdeal
public import proofs.«01_k».proof.Proof.Gen.InputReferenceIdeal
public import proofs.«01_k».proof.Proof.Gen.InputReferenceIdeal.Run
public import Idealize.ShloMosaic.Adequacy
public import Idealize.ShloMosaic.Init
@[expose] public section
noncomputable section
/-! The claims about the gradient through the input projection and its norm. -/
namespace Cert.InputVal
open Idealize.ShloMosaic Idealize.SL.Sem

/-- The kernel runs, keeps its arguments and leaves every counter at zero. -/
theorem frame_kernel : Cert.quiescent_Input := fun m ρ _ => Cert.Input.Gen.frame m ρ
/-- So does its idealization. -/
theorem frame_ideal : Cert.quiescent_InputIdeal := fun m ρ _ => Cert.InputIdeal.Gen.frame m ρ
/-- So does the reference. -/
theorem frame_reference : Cert.quiescent_InputReferenceIdeal := fun m ρ _ =>
  (θ_run Cert.InputReferenceIdeal.defs _ _).mono
    (fun r h => ⟨fun c => (h c).2.2, Idealize.ShloMosaic.sem_eq_zero_of_no_sems (by decide) r.2⟩)
    (Cert.InputReferenceIdeal.Value.run (F := Ideal) m ρ)

/-- Both programs return the same two gradients, on any arguments. -/
theorem values : Cert.algebraic_InputIdeal_InputReferenceIdeal := fun m ρ m' ρ' _ hm =>
  ⟨outX m, outG m, (θ_run Cert.InputIdeal.defs _ _).mono (fun r h c => ⟨(h c).1.trans (arr7 m c), (h c).2.1.trans (arr8 m c), (h c).2.2⟩)
      (Cert.InputIdeal.Value.run_blocks (F := Ideal) m ρ),
    (θ_run Cert.InputReferenceIdeal.defs _ _).mono (fun r h c => by
      obtain ⟨e, e', hk⟩ := h c
      obtain ⟨a0, a1, a2, a3, a4, a5, a6⟩ := hm c
      rw [Cert.InputReferenceIdeal.Read.val_main_v41_eq, a0, a1, a2, a3, a4, a5, a6] at e
      rw [Cert.InputReferenceIdeal.Read.val_main_v42_eq, a0, a1, a2, a3, a4] at e'
      exact ⟨e.trans (outX_eq m c).symm, e'.trans (outG_eq m c).symm, hk⟩)
      (Cert.InputReferenceIdeal.Value.run (F := Ideal) m' ρ')⟩
end Cert.InputVal
-- ==== Proof.MergeRef.lean ====
module
public import proofs.«01_k».proof.Proof.Gen.MergeReferenceIdeal.Read
public import proofs.«01_k».proof.Proof.InputRef
@[expose] public section
set_option maxRecDepth 16384
noncomputable section
/-! The gradient through the merge of the branches: what the reference returns. -/
namespace Cert.MergeVal.Ref
open Idealize.ShloMosaic Idealize.ShloMosaic.TcCoe Idealize.SL.Sem
open Cert.MergeReferenceIdeal Cert.MergeReferenceIdeal.Gen Cert.MergeReferenceIdeal.Read
open Cert.InputVal (len eps half spread scale coef rowR)
open Cert.InputVal.Ref (zero_bits rx)

variable (x0 x1 x2 : Vec Ideal S4096x1024 .f32) (x3 x4 : Vec Ideal S1024 .f32) (x5 : Vec Ideal S1024x1024 .f32)
  (x6 : Vec Ideal S4096x5120 .f32) (x7 x8 : Vec Ideal S4096x1024 .f32)

/-! ## The gradient of a norm, of any input, gain and incoming gradient -/

/-- A row of the gradient after a norm, times the gain. -/
abbrev rd (s : Fin 4096) : Fin 1024 → EReal := fun k => x1 (ix2 s k) * x3 (ix1 k)

theorem scale_ref (s : Fin 4096) : val_main_v23 (F := Ideal) x2 (ix2 s 0) = scale (rx x2 s) := Cert.InputVal.Ref.scale_ref x2 s
theorem coef0_ref (s : Fin 4096) : val_main_v26 (F := Ideal) x2 (ix2 s 0) = half * Ideal.div (scale (rx x2 s)) (spread (rx x2 s)) :=
  Cert.InputVal.Ref.coef0_ref x2 s
theorem gained (s : Fin 4096) (a : Fin 1024) : val_main_v36 (F := Ideal) x1 x3 (ix2 s a) = rd x1 x3 s a := by
  rw [val_main_v36_apply, val_main_v35_apply, val_main_v29_apply, eq_ix1 (idx_main_v29 _)]
  rfl
theorem inner (s : Fin 4096) : val_main_v40 (F := Ideal) x1 x2 x3 (ix2 s 0) = ∑ k, rx x2 s k * rd x1 x3 s k := by
  rw [val_main_v40_apply, show idx_main_v40 (ix2 s 0) = ix1 s from (eq_ix1 _).trans (congrArg ix1 (Fin.ext (show s.val * 1 + 0 = s.val by omega))),
    val_main_v39_apply]
  refine (congrArg₂ (· + ·) zero_bits (Finset.sum_congr rfl fun k _ => ?_)).trans (zero_add _)
  rw [show idx_main_v39 (ix1 s) k = ix2 s k from eq_ix2 _, val_main_v38_apply, gained]
  rfl
theorem coef_ref (s : Fin 4096) (a : Fin 1024) : val_main_v47 (F := Ideal) x1 x2 x3 (ix2 s a) = coef (rx x2 s) (rd x1 x3 s) := by
  rw [val_main_v47_apply, val_main_v46_apply]
  refine (congrArg₂ (· + ·) zero_bits (Fin.sum_univ_one _)).trans ((zero_add _).trans ?_)
  rw [show ∀ j, idx_main_v46 (idx_main_v47 (ix2 s a)) j = ix2 s 0 from fun j => (eq_ix2 _).trans (congrArg (ix2 s) (Subsingleton.elim _ _)),
    val_main_v45_apply, val_main_v44_apply, val_main_cst_9_apply, val_main_v43_apply, inner, coef0_ref]
  rfl
/-- The gradient of a norm's input. -/
theorem norm_ref (s : Fin 4096) (a : Fin 1024) : val_main_v51 (F := Ideal) x1 x2 x3 (ix2 s a) = rowR (rx x2 s) (rd x1 x3 s) a := by
  rw [val_main_v51_apply, val_main_v50_apply, val_main_v49_apply, val_main_v48_apply, coef_ref, val_main_v42_apply,
    val_main_v41_apply, gained, show idx_main_v41 (ix2 s a) = ix2 s 0 from (eq_ix2 _).trans (congrArg (ix2 s) (Subsingleton.elim _ _)), scale_ref]
  rfl
/-- The gradient of a norm's gain. -/
theorem gain_ref (a : Fin 1024) : val_main_v102 (F := Ideal) x1 x2 (ix2 0 a)
    = ∑ s : Fin 4096, x1 (ix2 s a) * (rx x2 s a * scale (rx x2 s)) := by
  rw [val_main_v102_apply, val_main_v37_apply]
  refine (congrArg₂ (· + ·) zero_bits (Fin.sum_univ_one _)).trans ((zero_add _).trans ?_)
  rw [val_main_v34_apply, show ∀ j, idx_main_v34 (idx_main_v37 (idx_main_v102 (ix2 0 a)) j) = ix1 a from fun j =>
      (eq_ix1 _).trans (congrArg ix1 (Fin.ext (by simp [idx_main_v34, idx_main_v37, idx_main_v102]))), val_main_v33_apply]
  refine (congrArg₂ (· + ·) zero_bits (Finset.sum_congr rfl fun s _ => ?_)).trans (zero_add _)
  rw [show idx_main_v33 (ix1 a) s = ix2 s a from eq_ix2 _, val_main_v32_apply, val_main_v28_apply, val_main_v27_apply,
    show idx_main_v27 (ix2 s a) = ix2 s 0 from (eq_ix2 _).trans (congrArg (ix2 s) (Subsingleton.elim _ _)), scale_ref]
  exact mul_comm _ _

/-! ## The two norms of the merge -/

/-- The gradient of the first norm's input. -/
theorem hidden_ref (s : Fin 4096) (a : Fin 1024) : val_main_v52 (F := Ideal) x0 x1 x2 x3 (ix2 s a)
    = x0 (ix2 s a) + rowR (rx x2 s) (rd x1 x3 s) a :=
  (val_main_v52_apply ..).trans (congrArg (x0 (ix2 s a) + ·) (norm_ref x1 x2 x3 s a))
theorem again : val_main_v88 (F := Ideal) x0 x1 x2 x3 x4 x5 x6 x7 x8
    = val_main_v51 (F := Ideal) (val_main_v52 (F := Ideal) x0 x1 x2 x3) (val_main_v15 (F := Ideal) x5 x6 x7 x8) x4 := rfl
theorem again' : val_main_v103 (F := Ideal) x0 x1 x2 x3 x5 x6 x7 x8
    = val_main_v102 (F := Ideal) (val_main_v52 (F := Ideal) x0 x1 x2 x3) (val_main_v15 (F := Ideal) x5 x6 x7 x8) := rfl
/-- The gradient of the second norm's input. -/
theorem out_ref (s : Fin 4096) (a : Fin 1024) : val_main_v88 (F := Ideal) x0 x1 x2 x3 x4 x5 x6 x7 x8 (ix2 s a)
    = rowR (rx (val_main_v15 (F := Ideal) x5 x6 x7 x8) s) (rd (val_main_v52 (F := Ideal) x0 x1 x2 x3) x4 s) a := by
  rw [again, norm_ref]
/-- The gradient of the second norm's gain. -/
theorem gain_ref' (a : Fin 1024) : val_main_v103 (F := Ideal) x0 x1 x2 x3 x5 x6 x7 x8 (ix2 0 a)
    = ∑ s : Fin 4096, val_main_v52 (F := Ideal) x0 x1 x2 x3 (ix2 s a)
      * (rx (val_main_v15 (F := Ideal) x5 x6 x7 x8) s a * scale (rx (val_main_v15 (F := Ideal) x5 x6 x7 x8) s)) := by
  rw [again', gain_ref]

/-! ## The products and the gates -/

theorem merged_ref (s : Fin 4096) (a : Fin 1024) : val_main_v91 (F := Ideal) x0 x1 x2 x3 x4 x5 x6 x7 x8 (ix2 s a)
    = ∑ k : Fin 1024, val_main_v88 (F := Ideal) x0 x1 x2 x3 x4 x5 x6 x7 x8 (ix2 s k) * x5 (ix2 a k) := by
  rw [val_main_v91_apply]
  exact Finset.sum_congr rfl fun k _ => by rw [eq_ix2 (lidx_main_v91 _ k), eq_ix2 (ridx_main_v91 _ k)]; rfl
/-- The gradient of the output weight. -/
theorem weight_ref (a b : Fin 1024) : val_main_v101 (F := Ideal) x0 x1 x2 x3 x4 x5 x6 x7 x8 (ix2 a b)
    = ∑ s : Fin 4096, val_main_v14 (F := Ideal) x6 x7 x8 (ix2 s a) * val_main_v88 (F := Ideal) x0 x1 x2 x3 x4 x5 x6 x7 x8 (ix2 s b) := by
  show val_main_v90 (F := Ideal) x0 x1 x2 x3 x4 x5 x6 x7 x8 (ix2 a b) = _
  rw [val_main_v90_apply, val_main_v89_apply]
  exact Finset.sum_congr rfl fun k _ => by rw [eq_ix2 (lidx_main_v89 _ k), eq_ix2 (ridx_main_v89 _ k)]; exact mul_comm _ _

theorem one_bits : Ideal.ofBits .f32 0x3F800000#32 = 1 := by
  simp [Ideal.ofBits, Ideal.ieee]
  rw [← EReal.coe_mul]; norm_num

theorem gate_ref (s : Fin 4096) (j : Fin 2048) : val_main_v6 (F := Ideal) x6 (ix2 s j) = Ideal.logistic (x6 (ix2 s ⟨3072 + j.val, by omega⟩)) := by
  rw [val_main_v6_apply, val_main_v5_apply, val_main_cst_0_apply, val_main_v4_apply, val_main_v3_apply, val_main_cst_apply, val_main_v2_apply,
    val_main_v1_apply, val_main_v0_apply, show idx_main_v0 (ix2 s j) = ix2 s ⟨3072 + j.val, by omega⟩ from eq_ix2 _]
  show Ideal.div (Ideal.ofBits .f32 0x3F800000#32) (Ideal.ofBits .f32 0x3F800000#32 + Ideal.exp (-x6 (ix2 s ⟨3072 + j.val, by omega⟩))) = _
  rw [one_bits]
  rfl
/-- The slope of the logistic function, as both programs compute it. -/
def slope (y : EReal) : EReal := Ideal.logistic y * (1 - Ideal.logistic y)
theorem slope_ref (s : Fin 4096) (j : Fin 2048) : val_main_v9 (F := Ideal) x6 (ix2 s j) = slope (x6 (ix2 s ⟨3072 + j.val, by omega⟩)) := by
  rw [val_main_v9_apply, val_main_v8_apply, val_main_v7_apply, val_main_cst_1_apply, gate_ref]
  show Ideal.logistic _ * (Ideal.ofBits .f32 0x3F800000#32 - Ideal.logistic _) = _
  rw [one_bits]
  rfl
/-- The gradient of the first branch. -/
theorem first_ref (s : Fin 4096) (a : Fin 1024) : val_main_v98 (F := Ideal) x0 x1 x2 x3 x4 x5 x6 x7 x8 (ix2 s a)
    = val_main_v91 (F := Ideal) x0 x1 x2 x3 x4 x5 x6 x7 x8 (ix2 s a) * Ideal.logistic (x6 (ix2 s ⟨3072 + a.val, by omega⟩)) := by
  show val_main_v94 (F := Ideal) x0 x1 x2 x3 x4 x5 x6 x7 x8 (ix2 s a) = _
  rw [val_main_v94_apply, val_main_v10_apply, show idx_main_v10 (ix2 s a) = ix2 s ⟨a.val, by omega⟩ from eq_ix2 _, gate_ref]
  exact mul_comm _ _
/-- The gradient of the second branch. -/
theorem second_ref (s : Fin 4096) (a : Fin 1024) : val_main_v99 (F := Ideal) x0 x1 x2 x3 x4 x5 x6 x7 x8 (ix2 s a)
    = val_main_v91 (F := Ideal) x0 x1 x2 x3 x4 x5 x6 x7 x8 (ix2 s a) * Ideal.logistic (x6 (ix2 s ⟨4096 + a.val, by omega⟩)) := by
  show val_main_v92 (F := Ideal) x0 x1 x2 x3 x4 x5 x6 x7 x8 (ix2 s a) = _
  rw [val_main_v92_apply, val_main_v11_apply, show idx_main_v11 (ix2 s a) = ix2 s ⟨1024 + a.val, by omega⟩ from eq_ix2 _, gate_ref,
    show (⟨3072 + (1024 + a.val), by omega⟩ : Fin 5120) = ⟨4096 + a.val, by omega⟩ from Fin.ext (by show 3072 + (1024 + a.val) = 4096 + a.val; omega)]
  exact mul_comm _ _

/-- The two halves of the gates' gradient, before the slope. -/
abbrev halves (u v : Vec Ideal S4096x1024 .f32) : List ((S : Shape) × (S.Idx → EReal)) := [⟨S4096x1024, u⟩, ⟨S4096x1024, v⟩]
/-- The gradient of the first gate. -/
theorem gate0_ref (s : Fin 4096) (a : Fin 1024) : val_main_v100 (F := Ideal) x0 x1 x2 x3 x4 x5 x6 x7 x8 (ix2 s ⟨a.val, by omega⟩)
    = val_main_v91 (F := Ideal) x0 x1 x2 x3 x4 x5 x6 x7 x8 (ix2 s a) * x7 (ix2 s a) * slope (x6 (ix2 s ⟨3072 + a.val, by omega⟩)) := by
  show val_main_v97 (F := Ideal) x0 x1 x2 x3 x4 x5 x6 x7 x8 (ix2 s ⟨a.val, by omega⟩) = _
  rw [val_main_v97_apply, slope_ref]
  refine congrArg (· * _) (concatenate_apply_piece (t := S4096x2048) 1 (halves (val_main_v95 (F := Ideal) x0 x1 x2 x3 x4 x5 x6 x7 x8)
    (val_main_v93 (F := Ideal) x0 x1 x2 x3 x4 x5 x6 x7 x8)) concatenates_S4096x1024_S4096x1024_S4096x2048_d1 (ix2 s ⟨a.val, by omega⟩) 0
    (by simp [halves]) S4096x1024 (val_main_v95 (F := Ideal) x0 x1 x2 x3 x4 x5 x6 x7 x8) rfl rfl 0 rfl (ix2 s a)
    (fun b hb => by match b with | ⟨0, _⟩ => rfl | ⟨1, _⟩ => exact absurd rfl hb) (by show _ = _; simp))
/-- The gradient of the second gate. -/
theorem gate1_ref (s : Fin 4096) (a : Fin 1024) : val_main_v100 (F := Ideal) x0 x1 x2 x3 x4 x5 x6 x7 x8 (ix2 s ⟨1024 + a.val, by omega⟩)
    = val_main_v91 (F := Ideal) x0 x1 x2 x3 x4 x5 x6 x7 x8 (ix2 s a) * x8 (ix2 s a) * slope (x6 (ix2 s ⟨4096 + a.val, by omega⟩)) := by
  show val_main_v97 (F := Ideal) x0 x1 x2 x3 x4 x5 x6 x7 x8 (ix2 s ⟨1024 + a.val, by omega⟩) = _
  rw [val_main_v97_apply, slope_ref,
    show (⟨3072 + (1024 + a.val), by omega⟩ : Fin 5120) = ⟨4096 + a.val, by omega⟩ from Fin.ext (by show 3072 + (1024 + a.val) = 4096 + a.val; omega)]
  refine congrArg (· * _) (concatenate_apply_piece (t := S4096x2048) 1 (halves (val_main_v95 (F := Ideal) x0 x1 x2 x3 x4 x5 x6 x7 x8)
    (val_main_v93 (F := Ideal) x0 x1 x2 x3 x4 x5 x6 x7 x8)) concatenates_S4096x1024_S4096x1024_S4096x2048_d1 (ix2 s ⟨1024 + a.val, by omega⟩) 1
    (by simp [halves]) S4096x1024 (val_main_v93 (F := Ideal) x0 x1 x2 x3 x4 x5 x6 x7 x8) rfl rfl 1024 rfl (ix2 s a)
    (fun b hb => by match b with | ⟨0, _⟩ => rfl | ⟨1, _⟩ => exact absurd rfl hb) (by show _ = _; simp))
end Cert.MergeVal.Ref
-- ==== Proof.MergeHalf.lean ====
module
public import proofs.«01_k».proof.Proof.Gen.MergeIdeal.Value
public import Idealize.ShloMosaic.Lib.Pointwise
public import Idealize.ShloMosaic.Lib.Pipeline.ValueKit.Geometry
public import Idealize.ShloMosaic.Lib.Pipeline.ValueKit.Tiles
@[expose] public section
set_option maxRecDepth 16384
noncomputable section
/-! A block stored in two halves, read back. -/
namespace Cert.MergeVal
open Idealize.ShloMosaic Idealize.ShloMosaic.TcCoe Idealize.SL.Sem
open Cert.MergeIdeal Cert.MergeIdeal.Gen

/-- Off the last of two stores, the first is read. -/
theorem read_first {s : Shape} {e : EltTy} (p q : Rect s) (v : p.shape.Idx → Elt Ideal e) (w : q.shape.Idx → Elt Ideal e) (y : s.Idx) (x : q.shape.Idx)
    (hx : y = q.emb x) (hn : y ∉ p.set) : View.canon (Val := Elt Ideal) (s := s) (e := e) [⟨p, v⟩, ⟨q, w⟩] y = w x := by
  rw [View.canon_cons_of_not_mem _ _ hn, hx]
  exact View.canon_cons_emb _ _ _ _

/-- Two stores of half a row's columns each. -/
abbrev both (v w : Vec Ideal S256x1024 .bf16) : Vec Ideal S256x2048 .bf16 := View.canon [⟨Rect.unit ![0, 1024] ![256, 1024] inb_S256x2048_S256x1024_0_1024, v⟩,
  ⟨Rect.unit ![0, 0] ![256, 1024] inb_S256x2048_S256x1024_0_0, w⟩]
theorem outside (r : Fin 256) (j : Fin 2048) (h : j.val < 1024) :
    (ix2 r j : S256x2048.Idx) ∉ (Rect.unit (s := S256x2048) ![0, 1024] ![256, 1024] inb_S256x2048_S256x1024_0_1024).set := by
  rw [Rect.mem_set_unit]
  intro h'
  exact absurd (show 1024 ≤ j.val from (h' 1).1) (by omega)
theorem inside (r : Fin 256) (j : Fin 2048) (a : Fin 1024) (h : j.val = a.val) : (ix2 r j : S256x2048.Idx)
    = (Rect.unit (s := S256x2048) ![0, 0] ![256, 1024] inb_S256x2048_S256x1024_0_0).emb (ix2 r a) :=
  funext fun i => Fin.ext (by
    match i with
    | ⟨0, _⟩ => show r.val = 0 + 1 * r.val; omega
    | ⟨1, _⟩ => show j.val = 0 + 1 * a.val; omega)
theorem half_of (v w : Vec Ideal S256x1024 .bf16) (y : S256x2048.Idx) (x : S256x1024.Idx)
    (hi : y = (Rect.unit (s := S256x2048) ![0, 0] ![256, 1024] inb_S256x2048_S256x1024_0_0).emb x)
    (ho : y ∉ (Rect.unit (s := S256x2048) ![0, 1024] ![256, 1024] inb_S256x2048_S256x1024_0_1024).set) : both v w y = w x :=
  read_first (Rect.unit (s := S256x2048) ![0, 1024] ![256, 1024] inb_S256x2048_S256x1024_0_1024)
    (Rect.unit (s := S256x2048) ![0, 0] ![256, 1024] inb_S256x2048_S256x1024_0_0) v w y x hi ho
theorem half_left (v w : Vec Ideal S256x1024 .bf16) (r : Fin 256) (j : Fin 2048) (a : Fin 1024) (h : j.val = a.val) :
    both v w (ix2 r j) = w (ix2 r a) := half_of _ _ _ _ (inside r j a h) (outside r j (by omega))
theorem half_right (v w : Vec Ideal S256x1024 .bf16) (r : Fin 256) (a : Fin 1024) : both v w (ix2 r ⟨1024 + a.val, by omega⟩) = v (ix2 r a) := by
  have e : (ix2 r ⟨1024 + a.val, by omega⟩ : S256x2048.Idx) = (Rect.unit ![0, 1024] ![256, 1024] inb_S256x2048_S256x1024_0_1024).emb (ix2 r a) :=
    funext fun i => Fin.ext (by
      match i with
      | ⟨0, _⟩ => show r.val = 0 + 1 * r.val; omega
      | ⟨1, _⟩ => show 1024 + a.val = 1024 + 1 * a.val; omega)
  rw [e]
  exact View.canon_cons_emb _ _ _ _
end Cert.MergeVal
-- ==== Proof.MergeVal.lean ====
module
public import proofs.«01_k».proof.Proof.Gen.MergeIdeal.Value
public import proofs.«01_k».proof.Proof.MergeRef
public import proofs.«01_k».proof.Proof.MergeHalf
public import Idealize.ShloMosaic.Lib.Pointwise
public import Idealize.ShloMosaic.Lib.KernelVsHost
public import Idealize.ShloMosaic.Lib.StableHlo.ReadAt
public import Idealize.ShloMosaic.Lib.Pipeline.ValueKit.Geometry
public import Idealize.ShloMosaic.Lib.Pipeline.ValueKit.Tiles
@[expose] public section
set_option maxRecDepth 16384
set_option maxHeartbeats 400000
noncomputable section
/-! The gradient through the merge of the branches and the two norms around it: what the call returns. -/
namespace Cert.MergeVal
open Idealize.ShloMosaic Idealize.ShloMosaic.TcCoe Idealize.SL.Sem
open Cert.MergeIdeal Cert.MergeIdeal.Gen
open Cert.InputVal (len spread scale rowK row_eq)
open Cert.MergeReferenceIdeal.Read (val_main_v14 val_main_v15 val_main_v52 val_main_v88 val_main_v91 val_main_v98 val_main_v99 val_main_v100 val_main_v101 val_main_v102 val_main_v103)
open Ref (slope)

variable (m : (ℓ : Loc nD τ sig) → Buf (Elt Ideal) ℓ) (c : Dev nD)

theorem zero2 : (![0, 0] : Fin 2 → Nat) = fun _ => 0 := funext fun a => by fin_cases a <;> rfl

/-! ## One point's arithmetic -/

theorem normed (x : Vec Ideal S256x1024 .f32) (r : Fin 256) (a : Fin 1024) :
    k0_pay6 x (ix2 r a) = x (ix2 r a) * scale fun k => x (ix2 r k) := by
  pointwise [k0_pay6]
  rfl
theorem normed' (x : Vec Ideal S256x1024 .f32) (r : Fin 256) (a : Fin 1024) :
    k0_pay11 x (ix2 r a) = x (ix2 r a) * scale fun k => x (ix2 r k) := by
  pointwise [k0_pay11, k0_pay10]
  rfl
theorem gains (d x : Vec Ideal S256x1024 .f32) (a : Fin 1024) : k0_pay7 d x (ix2 0 a) = ∑ r : Fin 256, d (ix2 r a) * k0_pay6 x (ix2 r a) := by
  pointwise [k0_pay7]
theorem gains' (d x : Vec Ideal S256x1024 .f32) (a : Fin 1024) : k0_pay12 d x (ix2 0 a) = ∑ r : Fin 256, d (ix2 r a) * k0_pay11 x (ix2 r a) := by
  pointwise [k0_pay12]
theorem back (d x : Vec Ideal S256x1024 .f32) (g : Vec Ideal S1x1024 .f32) (h : Vec Ideal S256x1024 .bf16) (r : Fin 256) (a : Fin 1024) :
    k0_pay8 d x g h (ix2 r a) = h (ix2 r a) + rowK (fun k => x (ix2 r k)) (fun k => d (ix2 r k) * g (ix2 0 k)) a := by
  unfold rowK
  simp only [← normed]
  pointwise [k0_pay8]
  simp only [normed]
  rfl
theorem back' (d x : Vec Ideal S256x1024 .f32) (g : Vec Ideal S1x1024 .f32) (r : Fin 256) (a : Fin 1024) :
    k0_pay13 d x g (ix2 r a) = rowK (fun k => x (ix2 r k)) (fun k => d (ix2 r k) * g (ix2 0 k)) a := by
  unfold rowK
  simp only [← normed']
  pointwise [k0_pay13, k0_pay10]
  simp only [normed']
  rfl
theorem add_gains (z w : Vec Ideal S1x1024 .f32) (a : Fin 1024) : k0_pay14 (F := Ideal) z w (ix2 0 a) = w (ix2 0 a) + z (ix2 0 a) := by
  pointwise [k0_pay14]
theorem add_gains' (z w : Vec Ideal S1x1024 .f32) (a : Fin 1024) : k0_pay15 (F := Ideal) z w (ix2 0 a) = w (ix2 0 a) + z (ix2 0 a) := by
  pointwise [k0_pay15]
theorem prod_first (d g : Vec Ideal S256x1024 .bf16) (a b : Fin 1024) :
    k0_pay17 (F := Ideal) d g (ix2 a b) = ∑ r : Fin 256, g (ix2 r a) * d (ix2 r b) := by
  pointwise [k0_pay17, k0_pay16]
theorem prod_later (d g : Vec Ideal S256x1024 .bf16) (z : Vec Ideal S1024x1024 .f32) (a b : Fin 1024) :
    k0_pay18 (F := Ideal) d g z (ix2 a b) = z (ix2 a b) + ∑ r : Fin 256, g (ix2 r a) * d (ix2 r b) := by
  pointwise [k0_pay18, k0_pay16]
theorem prod_back (d : Vec Ideal S256x1024 .bf16) (w : Vec Ideal S1024x1024 .bf16) (r : Fin 256) (a : Fin 1024) :
    k0_pay19 (F := Ideal) d w (ix2 r a) = ∑ k : Fin 1024, d (ix2 r k) * w (ix2 a k) := by
  pointwise [k0_pay19]
theorem same (x : Vec Ideal S256x1024 .f32) (r : Fin 256) (a : Fin 1024) : k0_pay9 (F := Ideal) x (ix2 r a) = x (ix2 r a) := by
  pointwise [k0_pay9]
theorem same' (x : Vec Ideal S1024x1024 .f32) (a b : Fin 1024) : k0_pay5 (F := Ideal) x (ix2 a b) = x (ix2 a b) := by
  pointwise [k0_pay5]
theorem branch1 (d : Vec Ideal S256x1024 .bf16) (w : Vec Ideal S1024x1024 .bf16) (g : Vec Ideal S256x1024 .bf16) (r : Fin 256) (a : Fin 1024) :
    k0_pay1 (F := Ideal) (k0_pay22 (F := Ideal) d w g) (ix2 r a) = k0_pay19 (F := Ideal) d w (ix2 r a) * Ideal.logistic (g (ix2 r a)) := by
  pointwise [k0_pay1, k0_pay22, k0_pay20]
theorem branch2 (u : Vec Ideal S256x1024 .f32) (g : Vec Ideal S256x1024 .bf16) (r : Fin 256) (a : Fin 1024) :
    k0_pay2 (F := Ideal) u (k0_pay21 (F := Ideal) g) (ix2 r a) = u (ix2 r a) * Ideal.logistic (g (ix2 r a)) := by
  pointwise [k0_pay2, k0_pay21]
theorem gates1 (u : Vec Ideal S256x1024 .f32) (g y : Vec Ideal S256x1024 .bf16) (r : Fin 256) (a : Fin 1024) :
    k0_pay3 (F := Ideal) u (k0_pay20 (F := Ideal) g) y (ix2 r a) = u (ix2 r a) * y (ix2 r a) * slope (g (ix2 r a)) := by
  pointwise [k0_pay3, k0_pay20]
  rfl
theorem gates2 (u : Vec Ideal S256x1024 .f32) (g y : Vec Ideal S256x1024 .bf16) (r : Fin 256) (a : Fin 1024) :
    k0_pay4 (F := Ideal) u (k0_pay21 (F := Ideal) g) y (ix2 r a) = u (ix2 r a) * y (ix2 r a) * slope (g (ix2 r a)) := by
  pointwise [k0_pay4, k0_pay21]
  rfl

/-! ## What each point stores -/

/-- The gradient of the hidden rows at a point. -/
def hTile (t : Fin cfg0.N) : Vec Ideal S256x1024 .f32 := k0_pay8 (iblk m c 1 t) (iblk m c 2 t) (iblk m c 3 t) (iblk m c 0 t)
/-- The gradient of the output product at a point. -/
def oTile (t : Fin cfg0.N) : Vec Ideal S256x1024 .bf16 := k0_pay13 (hTile m c t) (iblk m c 4 t) (iblk m c 5 t)
/-- The gradient of the merged rows at a point. -/
def mTile (t : Fin cfg0.N) : Vec Ideal S256x1024 .f32 := k0_pay19 (F := Ideal) (oTile m c t) (iblk m c 6 t)
/-- The gradient of the gates at a point, stored in two halves. -/
def gTile (t : Fin cfg0.N) : Vec Ideal S256x2048 .bf16 :=
  View.canon [⟨Rect.unit ![0, 1024] ![256, 1024] inb_S256x2048_S256x1024_0_1024,
      k0_pay4 (F := Ideal) (mTile m c t) (k0_pay21 (F := Ideal) (iblk m c 9 t)) (iblk m c 11 t)⟩,
    ⟨Rect.unit ![0, 0] ![256, 1024] inb_S256x2048_S256x1024_0_0,
      k0_pay3 (F := Ideal) (mTile m c t) (k0_pay20 (F := Ideal) (iblk m c 8 t)) (iblk m c 10 t)⟩]

/-- The four results a point stores row by row. -/
def Rows (t : Fin cfg0.N) : Prop := (outsAt0 m c t.val t.isLt).1 = k0_pay9 (F := Ideal) (hTile m c t)
  ∧ (outsAt0 m c t.val t.isLt).2.1 = k0_pay1 (F := Ideal) (k0_pay22 (F := Ideal) (oTile m c t) (iblk m c 6 t) (iblk m c 8 t))
  ∧ (outsAt0 m c t.val t.isLt).2.2.1 = k0_pay2 (F := Ideal) (mTile m c t) (k0_pay21 (F := Ideal) (iblk m c 9 t))
  ∧ (outsAt0 m c t.val t.isLt).2.2.2.1 = gTile m c t

/-- The first point starts the three sums over rows. -/
theorem at_first (t : Fin cfg0.N) (h : t.val % 16 = 0) (h' : ¬1 ≤ t.val) :
    Rows m c t ∧ (outsAt0 m c t.val t.isLt).2.2.2.2.2.1 = k0_pay7 (iblk m c 1 t) (iblk m c 2 t)
      ∧ (outsAt0 m c t.val t.isLt).2.2.2.2.2.2.1 = k0_pay12 (hTile m c t) (iblk m c 4 t)
      ∧ (outsAt0 m c t.val t.isLt).2.2.2.2.2.2.2 = k0_pay17 (F := Ideal) (oTile m c t) (iblk m c 7 t) := by
  unfold Rows
  rw [outsAt0_A m c t h h' h h' h h' (by omega)]
  dsimp only
  refine ⟨⟨?_, ?_, ?_, ?_⟩, ?_, ?_, ?_⟩
  on_goal 1 => unfold out0_A_12; rw [View.read_writes_eq_canon _ _ _ (by intro y; apply cover0_A_12)]
  on_goal 2 => unfold out0_A_13; rw [View.read_writes_eq_canon _ _ _ (by intro y; apply cover0_A_13)]
  on_goal 3 => unfold out0_A_14; rw [View.read_writes_eq_canon _ _ _ (by intro y; apply cover0_A_14)]
  on_goal 4 => unfold out0_A_15; rw [View.read_writes_eq_canon _ _ _ (by intro y; apply cover0_A_15)]
  on_goal 5 => unfold out0_A_17; rw [View.read_writes_eq_canon _ _ _ (by intro y; apply cover0_A_17)]
  on_goal 6 => unfold out0_A_18; rw [View.read_writes_eq_canon _ _ _ (by intro y; apply cover0_A_18)]
  on_goal 7 => unfold sout0_A_0; rw [View.read_writes_eq_canon _ _ _ (by intro y; apply scover0_A_0)]
  all_goals unfold kernelRun0_A
  all_goals dsimp only
  all_goals sl_unfold_words
  all_goals simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_9 t).read_unread,
    (hs0_10 t).read_unread, (hs0_11 t).read_unread, View.ld_unit_zero (S := S256x1024) zero2,
    View.ld_unit_zero (S := S1024x1024) zero2, View.ld_unit_zero (S := S1x1024) zero2]
  all_goals try rw [View.canon_unit_zero zero2]
  all_goals try unfold gTile
  all_goals try unfold mTile
  all_goals try unfold oTile
  all_goals try unfold hTile
  all_goals with_reducible rfl

/-- A later point adds to them. -/
theorem at_middle (t : Fin cfg0.N) (h : ¬t.val % 16 = 0) (h' : 1 ≤ t.val) (h6 : ¬t.val % 16 = 15) (hp : t.val - 1 < cfg0.N) :
    Rows m c t ∧ (outsAt0 m c t.val t.isLt).2.2.2.2.2.1 = k0_pay14 (F := Ideal) (k0_pay7 (iblk m c 1 t) (iblk m c 2 t)) (outsAt0 m c (t.val - 1) hp).2.2.2.2.2.1
      ∧ (outsAt0 m c t.val t.isLt).2.2.2.2.2.2.1 = k0_pay15 (F := Ideal) (k0_pay12 (hTile m c t) (iblk m c 4 t)) (outsAt0 m c (t.val - 1) hp).2.2.2.2.2.2.1
      ∧ (outsAt0 m c t.val t.isLt).2.2.2.2.2.2.2 = k0_pay18 (F := Ideal) (oTile m c t) (iblk m c 7 t) (outsAt0 m c (t.val - 1) hp).2.2.2.2.2.2.2 := by
  unfold Rows
  obtain ⟨prev, hprev⟩ : ∃ prev, prev = outsAt0 m c (t.val - 1) hp := ⟨_, rfl⟩
  rw [outsAt0_B m c t h h' h h' h h' h6, ← hprev]
  dsimp only
  refine ⟨⟨?_, ?_, ?_, ?_⟩, ?_, ?_, ?_⟩
  on_goal 1 => unfold out0_B_12; rw [View.read_writes_eq_canon _ _ _ (by intro y; apply cover0_B_12)]
  on_goal 2 => unfold out0_B_13; rw [View.read_writes_eq_canon _ _ _ (by intro y; apply cover0_B_13)]
  on_goal 3 => unfold out0_B_14; rw [View.read_writes_eq_canon _ _ _ (by intro y; apply cover0_B_14)]
  on_goal 4 => unfold out0_B_15; rw [View.read_writes_eq_canon _ _ _ (by intro y; apply cover0_B_15)]
  on_goal 5 => unfold out0_B_17; rw [View.read_writes_eq_canon _ _ _ (by intro y; apply cover0_B_17)]
  on_goal 6 => unfold out0_B_18; rw [View.read_writes_eq_canon _ _ _ (by intro y; apply cover0_B_18)]
  on_goal 7 => unfold sout0_B_0; rw [View.read_writes_eq_canon _ _ _ (by intro y; apply scover0_B_0)]
  all_goals unfold kernelRun0_B
  all_goals dsimp only
  all_goals sl_unfold_words
  all_goals simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_9 t).read_unread,
    (hs0_10 t).read_unread, (hs0_11 t).read_unread, (hs0_17 t).read_unread, (hs0_18 t).read_unread, (Memref.isWhole_whole cc0_scratch0).read_unread, View.ld_unit_zero (S := S256x1024) zero2,
    View.ld_unit_zero (S := S1024x1024) zero2, View.ld_unit_zero (S := S1x1024) zero2]
  all_goals try rw [View.canon_unit_zero zero2]
  all_goals try unfold gTile
  all_goals try unfold mTile
  all_goals try unfold oTile
  all_goals try unfold hTile
  all_goals with_reducible rfl

/-- The last point adds to them and stores the gradient of the weight. -/
theorem at_last (t : Fin cfg0.N) (h : ¬t.val % 16 = 0) (h' : 1 ≤ t.val) (h6 : t.val % 16 = 15) (hp : t.val - 1 < cfg0.N) :
    Rows m c t ∧ (outsAt0 m c t.val t.isLt).2.2.2.2.2.1 = k0_pay14 (F := Ideal) (k0_pay7 (iblk m c 1 t) (iblk m c 2 t)) (outsAt0 m c (t.val - 1) hp).2.2.2.2.2.1
      ∧ (outsAt0 m c t.val t.isLt).2.2.2.2.2.2.1 = k0_pay15 (F := Ideal) (k0_pay12 (hTile m c t) (iblk m c 4 t)) (outsAt0 m c (t.val - 1) hp).2.2.2.2.2.2.1
      ∧ (outsAt0 m c t.val t.isLt).2.2.2.2.2.2.2 = k0_pay18 (F := Ideal) (oTile m c t) (iblk m c 7 t) (outsAt0 m c (t.val - 1) hp).2.2.2.2.2.2.2
      ∧ (outsAt0 m c t.val t.isLt).2.2.2.2.1 = k0_pay5 (F := Ideal) (k0_pay18 (F := Ideal) (oTile m c t) (iblk m c 7 t) (outsAt0 m c (t.val - 1) hp).2.2.2.2.2.2.2) := by
  unfold Rows
  obtain ⟨prev, hprev⟩ : ∃ prev, prev = outsAt0 m c (t.val - 1) hp := ⟨_, rfl⟩
  rw [outsAt0_C m c t h h' h h' h h' h6, ← hprev]
  dsimp only
  refine ⟨⟨?_, ?_, ?_, ?_⟩, ?_, ?_, ?_, ?_⟩
  on_goal 1 => unfold out0_C_12; rw [View.read_writes_eq_canon _ _ _ (by intro y; apply cover0_C_12)]
  on_goal 2 => unfold out0_C_13; rw [View.read_writes_eq_canon _ _ _ (by intro y; apply cover0_C_13)]
  on_goal 3 => unfold out0_C_14; rw [View.read_writes_eq_canon _ _ _ (by intro y; apply cover0_C_14)]
  on_goal 4 => unfold out0_C_15; rw [View.read_writes_eq_canon _ _ _ (by intro y; apply cover0_C_15)]
  on_goal 5 => unfold out0_C_17; rw [View.read_writes_eq_canon _ _ _ (by intro y; apply cover0_C_17)]
  on_goal 6 => unfold out0_C_18; rw [View.read_writes_eq_canon _ _ _ (by intro y; apply cover0_C_18)]
  on_goal 7 => unfold sout0_C_0; rw [View.read_writes_eq_canon _ _ _ (by intro y; apply scover0_C_0)]
  on_goal 8 => unfold out0_C_16; rw [View.read_writes_eq_canon _ _ _ (by intro y; apply cover0_C_16)]
  all_goals unfold kernelRun0_C
  all_goals dsimp only
  all_goals sl_unfold_words
  all_goals simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_9 t).read_unread,
    (hs0_10 t).read_unread, (hs0_11 t).read_unread, (hs0_17 t).read_unread, (hs0_18 t).read_unread, (Memref.isWhole_whole cc0_scratch0).read_unread, View.ld_unit_zero (S := S256x1024) zero2,
    View.ld_unit_zero (S := S1024x1024) zero2, View.ld_unit_zero (S := S1x1024) zero2]
  on_goal 8 => rw [View.readCov_unit_zero _ zero2]
  all_goals try rw [View.canon_unit_zero zero2]
  all_goals try unfold gTile
  all_goals try unfold mTile
  all_goals try unfold oTile
  all_goals try unfold hTile
  all_goals with_reducible rfl

/-! ## The blocks, in terms of the arguments -/

/-- The gradient that passes around the first norm. -/
abbrev aH : Vec Ideal S4096x1024 .f32 := m ((c : Thread nD τ).loc main_arg0)
/-- The incoming gradient of the first norm's output. -/
abbrev aV : Vec Ideal S4096x1024 .f32 := m ((c : Thread nD τ).loc main_arg1)
/-- The first norm's input. -/
abbrev aX : Vec Ideal S4096x1024 .f32 := m ((c : Thread nD τ).loc main_arg2)
/-- The first norm's gain. -/
abbrev aP : Vec Ideal S1024 .f32 := m ((c : Thread nD τ).loc main_arg3)
/-- The second norm's gain. -/
abbrev aQ : Vec Ideal S1024 .f32 := m ((c : Thread nD τ).loc main_arg4)
/-- The output weight. -/
abbrev aW : Vec Ideal S1024x1024 .f32 := m ((c : Thread nD τ).loc main_arg5)
/-- The projection. -/
abbrev aJ : Vec Ideal S4096x5120 .f32 := m ((c : Thread nD τ).loc main_arg6)
/-- The first branch. -/
abbrev aC : Vec Ideal S4096x1024 .f32 := m ((c : Thread nD τ).loc main_arg7)
/-- The second branch. -/
abbrev aL : Vec Ideal S4096x1024 .f32 := m ((c : Thread nD τ).loc main_arg8)
/-- The merged rows, as the reference computes them. -/
abbrev aM : Vec Ideal S4096x1024 .f32 := val_main_v14 (F := Ideal) (aJ m c) (aC m c) (aL m c)
/-- The output product, as the reference computes it. -/
abbrev aO : Vec Ideal S4096x1024 .f32 := val_main_v15 (F := Ideal) (aW m c) (aJ m c) (aC m c) (aL m c)

theorem lt16 (t : Fin cfg0.N) : t.val < 16 := lt_of_lt_of_eq t.isLt (show cfg0.N = 16 from N_0)

/-- Row `r` of a point's tile. -/
def row (t : Fin cfg0.N) (r : Fin 256) : Fin 4096 := ⟨256 * t.val + r.val, by have := lt16 t; omega⟩

theorem index_in : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = t.val ∧ win0_4.index t 1 = 0)
    ∧ (win0_5.index t 0 = 0 ∧ win0_5.index t 1 = 0)
    ∧ (win0_6.index t 0 = 0 ∧ win0_6.index t 1 = 0)
    ∧ (win0_7.index t 0 = t.val ∧ win0_7.index t 1 = 0)
    ∧ (win0_8.index t 0 = t.val ∧ win0_8.index t 1 = 3)
    ∧ (win0_9.index t 0 = t.val ∧ win0_9.index t 1 = 4)
    ∧ (win0_10.index t 0 = t.val ∧ win0_10.index t 1 = 0)
    ∧ (win0_11.index t 0 = t.val ∧ win0_11.index t 1 = 0) := by decide +kernel
theorem index_out : ∀ t : Fin cfg0.N, (win0_12.index t 0 = t.val ∧ win0_12.index t 1 = 0)
    ∧ (win0_13.index t 0 = t.val ∧ win0_13.index t 1 = 0)
    ∧ (win0_14.index t 0 = t.val ∧ win0_14.index t 1 = 0)
    ∧ (win0_15.index t 0 = t.val ∧ win0_15.index t 1 = 0)
    ∧ (win0_16.index t 0 = 0 ∧ win0_16.index t 1 = 0)
    ∧ (win0_17.index t 0 = 0 ∧ win0_17.index t 1 = 0)
    ∧ (win0_18.index t 0 = 0 ∧ win0_18.index t 1 = 0) := by decide +kernel

theorem V12 : (V m c main_v12 : Vec Ideal S4096x1024 .bf16) = aH m c := by
  unfold V
  after_reads_simp
  rfl
theorem Va1 : (V m c main_arg1 : Vec Ideal S4096x1024 .f32) = aV m c := by
  unfold V
  after_reads_simp
theorem Va2 : (V m c main_arg2 : Vec Ideal S4096x1024 .f32) = aX m c := by
  unfold V
  after_reads_simp
theorem V14 : (V m c main_v14 : Vec Ideal S4096x1024 .f32) = aO m c := by
  unfold V
  after_reads_simp
  rfl
theorem V16 : (V m c main_v16 : Vec Ideal S1024x1024 .bf16) = aW m c := by
  unfold V
  after_reads_simp
  rfl
theorem V17 : (V m c main_v17 : Vec Ideal S4096x1024 .bf16) = aM m c := by
  unfold V
  after_reads_simp
  rfl
theorem V18 : (V m c main_v18 : Vec Ideal S4096x5120 .bf16) = aJ m c := by
  unfold V
  after_reads_simp
  rfl
theorem V19 : (V m c main_v19 : Vec Ideal S4096x1024 .bf16) = aC m c := by
  unfold V
  after_reads_simp
  rfl
theorem V20 : (V m c main_v20 : Vec Ideal S4096x1024 .bf16) = aL m c := by
  unfold V
  after_reads_simp
  rfl
theorem V13 (a : Fin 1024) : (V m c main_v13 : Vec Ideal S1x1024 .f32) (ix2 0 a) = aP m c (ix1 a) := by
  unfold V
  after_reads_at
theorem V15 (a : Fin 1024) : (V m c main_v15 : Vec Ideal S1x1024 .f32) (ix2 0 a) = aQ m c (ix1 a) := by
  unfold V
  after_reads_at
theorem block0 (t : Fin cfg0.N) (r : Fin 256) (k : Fin 1024) :
    (iblk m c 0 t : Vec Ideal S256x1024 .bf16) (ix2 r k) = aH m c (ix2 (row t r) k) := by
  rw [← V12]
  exact congrArg (V m c main_v12) (funext fun i => Fin.ext (by
    have h := (index_in t).1
    match i with
    | ⟨0, _⟩ => show win0_0.index t 0 * 256 + 1 * r.val = 256 * t.val + r.val; rw [h.1]; omega
    | ⟨1, _⟩ => show win0_0.index t 1 * 1024 + 1 * k.val = k.val; rw [h.2]; omega))
theorem block1 (t : Fin cfg0.N) (r : Fin 256) (k : Fin 1024) :
    (iblk m c 1 t : Vec Ideal S256x1024 .f32) (ix2 r k) = aV m c (ix2 (row t r) k) := by
  rw [← Va1]
  exact congrArg (V m c main_arg1) (funext fun i => Fin.ext (by
    have h := (index_in t).2.1
    match i with
    | ⟨0, _⟩ => show win0_1.index t 0 * 256 + 1 * r.val = 256 * t.val + r.val; rw [h.1]; omega
    | ⟨1, _⟩ => show win0_1.index t 1 * 1024 + 1 * k.val = k.val; rw [h.2]; omega))
theorem block2 (t : Fin cfg0.N) (r : Fin 256) (k : Fin 1024) :
    (iblk m c 2 t : Vec Ideal S256x1024 .f32) (ix2 r k) = aX m c (ix2 (row t r) k) := by
  rw [← Va2]
  exact congrArg (V m c main_arg2) (funext fun i => Fin.ext (by
    have h := (index_in t).2.2.1
    match i with
    | ⟨0, _⟩ => show win0_2.index t 0 * 256 + 1 * r.val = 256 * t.val + r.val; rw [h.1]; omega
    | ⟨1, _⟩ => show win0_2.index t 1 * 1024 + 1 * k.val = k.val; rw [h.2]; omega))
theorem block3 (t : Fin cfg0.N) (k : Fin 1024) : (iblk m c 3 t : Vec Ideal S1x1024 .f32) (ix2 0 k) = aP m c (ix1 k) := by
  rw [← V13]
  exact congrArg (V m c main_v13) (funext fun i => Fin.ext (by
    have h := (index_in t).2.2.2.1
    match i with
    | ⟨0, _⟩ => show win0_3.index t 0 * 1 + 1 * 0 = 0; rw [h.1]
    | ⟨1, _⟩ => show win0_3.index t 1 * 1024 + 1 * k.val = k.val; rw [h.2]; omega))
theorem block4 (t : Fin cfg0.N) (r : Fin 256) (k : Fin 1024) :
    (iblk m c 4 t : Vec Ideal S256x1024 .f32) (ix2 r k) = aO m c (ix2 (row t r) k) := by
  rw [← V14]
  exact congrArg (V m c main_v14) (funext fun i => Fin.ext (by
    have h := (index_in t).2.2.2.2.1
    match i with
    | ⟨0, _⟩ => show win0_4.index t 0 * 256 + 1 * r.val = 256 * t.val + r.val; rw [h.1]; omega
    | ⟨1, _⟩ => show win0_4.index t 1 * 1024 + 1 * k.val = k.val; rw [h.2]; omega))
theorem block5 (t : Fin cfg0.N) (k : Fin 1024) : (iblk m c 5 t : Vec Ideal S1x1024 .f32) (ix2 0 k) = aQ m c (ix1 k) := by
  rw [← V15]
  exact congrArg (V m c main_v15) (funext fun i => Fin.ext (by
    have h := (index_in t).2.2.2.2.2.1
    match i with
    | ⟨0, _⟩ => show win0_5.index t 0 * 1 + 1 * 0 = 0; rw [h.1]
    | ⟨1, _⟩ => show win0_5.index t 1 * 1024 + 1 * k.val = k.val; rw [h.2]; omega))
theorem block6 (t : Fin cfg0.N) (a b : Fin 1024) : (iblk m c 6 t : Vec Ideal S1024x1024 .bf16) (ix2 a b) = aW m c (ix2 a b) := by
  rw [← V16]
  exact congrArg (V m c main_v16) (funext fun i => Fin.ext (by
    have h := (index_in t).2.2.2.2.2.2.1
    match i with
    | ⟨0, _⟩ => show win0_6.index t 0 * 1024 + 1 * a.val = a.val; rw [h.1]; omega
    | ⟨1, _⟩ => show win0_6.index t 1 * 1024 + 1 * b.val = b.val; rw [h.2]; omega))
theorem block7 (t : Fin cfg0.N) (r : Fin 256) (k : Fin 1024) :
    (iblk m c 7 t : Vec Ideal S256x1024 .bf16) (ix2 r k) = aM m c (ix2 (row t r) k) := by
  rw [← V17]
  exact congrArg (V m c main_v17) (funext fun i => Fin.ext (by
    have h := (index_in t).2.2.2.2.2.2.2.1
    match i with
    | ⟨0, _⟩ => show win0_7.index t 0 * 256 + 1 * r.val = 256 * t.val + r.val; rw [h.1]; omega
    | ⟨1, _⟩ => show win0_7.index t 1 * 1024 + 1 * k.val = k.val; rw [h.2]; omega))
theorem block8 (t : Fin cfg0.N) (r : Fin 256) (k : Fin 1024) :
    (iblk m c 8 t : Vec Ideal S256x1024 .bf16) (ix2 r k) = aJ m c (ix2 (row t r) ⟨3072 + k.val, by omega⟩) := by
  rw [← V18]
  exact congrArg (V m c main_v18) (funext fun i => Fin.ext (by
    have h := (index_in t).2.2.2.2.2.2.2.2.1
    match i with
    | ⟨0, _⟩ => show win0_8.index t 0 * 256 + 1 * r.val = 256 * t.val + r.val; rw [h.1]; omega
    | ⟨1, _⟩ => show win0_8.index t 1 * 1024 + 1 * k.val = 3072 + k.val; rw [h.2]; omega))
theorem block9 (t : Fin cfg0.N) (r : Fin 256) (k : Fin 1024) :
    (iblk m c 9 t : Vec Ideal S256x1024 .bf16) (ix2 r k) = aJ m c (ix2 (row t r) ⟨4096 + k.val, by omega⟩) := by
  rw [← V18]
  exact congrArg (V m c main_v18) (funext fun i => Fin.ext (by
    have h := (index_in t).2.2.2.2.2.2.2.2.2.1
    match i with
    | ⟨0, _⟩ => show win0_9.index t 0 * 256 + 1 * r.val = 256 * t.val + r.val; rw [h.1]; omega
    | ⟨1, _⟩ => show win0_9.index t 1 * 1024 + 1 * k.val = 4096 + k.val; rw [h.2]; omega))
theorem block10 (t : Fin cfg0.N) (r : Fin 256) (k : Fin 1024) :
    (iblk m c 10 t : Vec Ideal S256x1024 .bf16) (ix2 r k) = aC m c (ix2 (row t r) k) := by
  rw [← V19]
  exact congrArg (V m c main_v19) (funext fun i => Fin.ext (by
    have h := (index_in t).2.2.2.2.2.2.2.2.2.2.1
    match i with
    | ⟨0, _⟩ => show win0_10.index t 0 * 256 + 1 * r.val = 256 * t.val + r.val; rw [h.1]; omega
    | ⟨1, _⟩ => show win0_10.index t 1 * 1024 + 1 * k.val = k.val; rw [h.2]; omega))
theorem block11 (t : Fin cfg0.N) (r : Fin 256) (k : Fin 1024) :
    (iblk m c 11 t : Vec Ideal S256x1024 .bf16) (ix2 r k) = aL m c (ix2 (row t r) k) := by
  rw [← V20]
  exact congrArg (V m c main_v20) (funext fun i => Fin.ext (by
    have h := (index_in t).2.2.2.2.2.2.2.2.2.2.2
    match i with
    | ⟨0, _⟩ => show win0_11.index t 0 * 256 + 1 * r.val = 256 * t.val + r.val; rw [h.1]; omega
    | ⟨1, _⟩ => show win0_11.index t 1 * 1024 + 1 * k.val = k.val; rw [h.2]; omega))

/-! ## The tiles -/

/-- The gradient of the hidden rows. -/
abbrev outH : Vec Ideal S4096x1024 .f32 := val_main_v52 (F := Ideal) (aH m c) (aV m c) (aX m c) (aP m c)
/-- The gradient of the output product. -/
abbrev outO : Vec Ideal S4096x1024 .f32 := val_main_v88 (F := Ideal) (aH m c) (aV m c) (aX m c) (aP m c) (aQ m c) (aW m c) (aJ m c) (aC m c) (aL m c)
/-- The gradient of the merged rows. -/
abbrev outM : Vec Ideal S4096x1024 .f32 := val_main_v91 (F := Ideal) (aH m c) (aV m c) (aX m c) (aP m c) (aQ m c) (aW m c) (aJ m c) (aC m c) (aL m c)
/-- The gradient of the first branch. -/
abbrev outC : Vec Ideal S4096x1024 .bf16 := val_main_v98 (F := Ideal) (aH m c) (aV m c) (aX m c) (aP m c) (aQ m c) (aW m c) (aJ m c) (aC m c) (aL m c)
/-- The gradient of the second branch. -/
abbrev outL : Vec Ideal S4096x1024 .bf16 := val_main_v99 (F := Ideal) (aH m c) (aV m c) (aX m c) (aP m c) (aQ m c) (aW m c) (aJ m c) (aC m c) (aL m c)
/-- The gradient of the gates. -/
abbrev outJ : Vec Ideal S4096x2048 .bf16 := val_main_v100 (F := Ideal) (aH m c) (aV m c) (aX m c) (aP m c) (aQ m c) (aW m c) (aJ m c) (aC m c) (aL m c)
/-- The gradient of the output weight. -/
abbrev outW : Vec Ideal S1024x1024 .bf16 := val_main_v101 (F := Ideal) (aH m c) (aV m c) (aX m c) (aP m c) (aQ m c) (aW m c) (aJ m c) (aC m c) (aL m c)
/-- The gradient of the first gain. -/
abbrev outP : Vec Ideal S1x1024 .f32 := val_main_v102 (F := Ideal) (aV m c) (aX m c)
/-- The gradient of the second gain. -/
abbrev outQ : Vec Ideal S1x1024 .f32 := val_main_v103 (F := Ideal) (aH m c) (aV m c) (aX m c) (aP m c) (aW m c) (aJ m c) (aC m c) (aL m c)

theorem hTile_apply (t : Fin cfg0.N) (r : Fin 256) (a : Fin 1024) : hTile m c t (ix2 r a) = outH m c (ix2 (row t r) a) := by
  unfold hTile
  refine Eq.trans ?_ (Ref.hidden_ref ..).symm
  rw [back, ← row_eq]
  simp only [block0, block1, block2, block3]
theorem oTile_apply (t : Fin cfg0.N) (r : Fin 256) (a : Fin 1024) : oTile m c t (ix2 r a) = outO m c (ix2 (row t r) a) := by
  unfold oTile
  refine Eq.trans ?_ (Ref.out_ref ..).symm
  rw [back', ← row_eq]
  simp only [block4, block5, hTile_apply]
theorem mTile_apply (t : Fin cfg0.N) (r : Fin 256) (a : Fin 1024) : mTile m c t (ix2 r a) = outM m c (ix2 (row t r) a) := by
  unfold mTile
  refine Eq.trans ?_ (Ref.merged_ref ..).symm
  rw [prod_back]
  simp only [block6, oTile_apply]
theorem gTile_left (t : Fin cfg0.N) (r : Fin 256) (a : Fin 1024) : gTile m c t (ix2 r ⟨a.val, by omega⟩) = outJ m c (ix2 (row t r) ⟨a.val, by omega⟩) := by
  have key : k0_pay3 (F := Ideal) (mTile m c t) (k0_pay20 (F := Ideal) (iblk m c 8 t)) (iblk m c 10 t) (ix2 r a)
      = outJ m c (ix2 (row t r) ⟨a.val, by omega⟩) := by
    rw [gates1, mTile_apply, block10, block8]
    exact (Ref.gate0_ref ..).symm
  exact (half_left _ _ r _ a rfl).trans key
theorem gTile_right (t : Fin cfg0.N) (r : Fin 256) (a : Fin 1024) :
    gTile m c t (ix2 r ⟨1024 + a.val, by omega⟩) = outJ m c (ix2 (row t r) ⟨1024 + a.val, by omega⟩) := by
  have key : k0_pay4 (F := Ideal) (mTile m c t) (k0_pay21 (F := Ideal) (iblk m c 9 t)) (iblk m c 11 t) (ix2 r a)
      = outJ m c (ix2 (row t r) ⟨1024 + a.val, by omega⟩) := by
    rw [gates2, mTile_apply, block11, block9]
    exact (Ref.gate1_ref ..).symm
  exact (half_right _ _ r a).trans key

/-! ## The sums over rows -/

/-- One point's share of a sum over rows. -/
def share (f : Fin 4096 → EReal) (n : ℕ) : EReal := if h : n < 16 then ∑ r : Fin 256, f ⟨256 * n + r.val, by omega⟩ else 0

theorem share_of (f : Fin 4096 → EReal) (t : Fin cfg0.N) (g : Fin 256 → EReal) (h : ∀ r, g r = f (row t r)) : ∑ r, g r = share f t.val := by
  unfold share
  rw [dif_pos (lt16 t)]
  exact Finset.sum_congr rfl fun r _ => h r

/-- What starts at the first share and adds each later one is their sum. -/
theorem so_far (u : ∀ n, n < cfg0.N → EReal) (g : ℕ → EReal) (h0 : ∀ hn, u 0 hn = g 0)
    (hs : ∀ n (hn : n + 1 < cfg0.N), u (n + 1) hn = u n (Nat.lt_of_succ_lt hn) + g (n + 1)) :
    ∀ n hn, u n hn = ∑ i ∈ Finset.range (n + 1), g i := by
  intro n
  induction n with
  | zero => exact fun hn => (h0 hn).trans (by simp)
  | succ n ih => exact fun hn => by rw [hs, ih, Finset.sum_range_succ _ (n + 1)]

/-- A sum over the rows is the sum of the shares. -/
theorem sum_shares (f : Fin 4096 → EReal) : ∑ i ∈ Finset.range 16, share f i = ∑ s, f s := by
  have h : ∑ s, f s = ∑ j : Fin 16, ∑ r : Fin 256, f ⟨256 * j.val + r.val, by omega⟩ := by
    rw [← Fintype.sum_prod_type']
    refine (Fintype.sum_equiv (finProdFinEquiv (m := 16) (n := 256)) _ f fun p => congrArg f (Fin.ext ?_)).symm
    show 256 * p.1.val + p.2.val = p.2.val + 256 * p.1.val
    omega
  rw [h, Finset.sum_range]
  refine Finset.sum_congr rfl fun j _ => ?_
  unfold share
  rw [dif_pos j.isLt]

/-- A later point adds to the three sums. -/
theorem at_later (n : ℕ) (hn : n + 1 < cfg0.N) :
    (outsAt0 m c (n + 1) hn).2.2.2.2.2.1 = k0_pay14 (F := Ideal) (k0_pay7 (iblk m c 1 ⟨n + 1, hn⟩) (iblk m c 2 ⟨n + 1, hn⟩)) (outsAt0 m c n (Nat.lt_of_succ_lt hn)).2.2.2.2.2.1
      ∧ (outsAt0 m c (n + 1) hn).2.2.2.2.2.2.1 = k0_pay15 (F := Ideal) (k0_pay12 (hTile m c ⟨n + 1, hn⟩) (iblk m c 4 ⟨n + 1, hn⟩)) (outsAt0 m c n (Nat.lt_of_succ_lt hn)).2.2.2.2.2.2.1
      ∧ (outsAt0 m c (n + 1) hn).2.2.2.2.2.2.2 = k0_pay18 (F := Ideal) (oTile m c ⟨n + 1, hn⟩) (iblk m c 7 ⟨n + 1, hn⟩) (outsAt0 m c n (Nat.lt_of_succ_lt hn)).2.2.2.2.2.2.2 := by
  have h16 : n + 1 < 16 := lt16 ⟨n + 1, hn⟩
  by_cases h : (n + 1) % 16 = 15
  · have h := (at_last m c ⟨n + 1, hn⟩ (by show ¬(n + 1) % 16 = 0; omega) (Nat.le_add_left 1 n) h (Nat.lt_of_succ_lt hn)).2
    exact ⟨h.1, h.2.1, h.2.2.1⟩
  · exact (at_middle m c ⟨n + 1, hn⟩ (by show ¬(n + 1) % 16 = 0; omega) (Nat.le_add_left 1 n) h (Nat.lt_of_succ_lt hn)).2

/-- Every point stores its rows. -/
theorem rows (t : Fin cfg0.N) : Rows m c t := by
  have h16 := lt16 t
  by_cases h0 : t.val = 0
  · exact (at_first m c t (by omega) (by omega)).1
  · by_cases h : t.val % 16 = 15
    · exact (at_last m c t (by omega) (by omega) h (lt_of_le_of_lt (Nat.sub_le _ _) t.isLt)).1
    · exact (at_middle m c t (by omega) (by omega) h (lt_of_le_of_lt (Nat.sub_le _ _) t.isLt)).1

/-- One row's share of the first gain's gradient. -/
def gain1 (a : Fin 1024) (s : Fin 4096) : EReal := aV m c (ix2 s a) * (aX m c (ix2 s a) * scale fun k => aX m c (ix2 s k))
/-- One row's share of the second gain's gradient. -/
def gain2 (a : Fin 1024) (s : Fin 4096) : EReal := outH m c (ix2 s a) * (aO m c (ix2 s a) * scale fun k => aO m c (ix2 s k))
/-- One row's share of the weight's gradient. -/
def prod (a b : Fin 1024) (s : Fin 4096) : EReal := aM m c (ix2 s a) * outO m c (ix2 s b)

theorem share1 (t : Fin cfg0.N) (a : Fin 1024) : k0_pay7 (iblk m c 1 t) (iblk m c 2 t) (ix2 0 a) = share (gain1 m c a) t.val := by
  rw [gains]
  refine share_of _ t _ fun r => ?_
  simp only [normed, block1, block2]
  rfl
theorem share2 (t : Fin cfg0.N) (a : Fin 1024) : k0_pay12 (hTile m c t) (iblk m c 4 t) (ix2 0 a) = share (gain2 m c a) t.val := by
  rw [gains']
  refine share_of _ t _ fun r => ?_
  simp only [normed', hTile_apply, block4]
  rfl
/-- The merged rows of a point. -/
abbrev mgTile (t : Fin cfg0.N) : Vec Ideal S256x1024 .bf16 := iblk m c 7 t
theorem share3 (t : Fin cfg0.N) (a b : Fin 1024) :
    ∑ r : Fin 256, mgTile m c t (ix2 r a) * oTile m c t (ix2 r b) = share (prod m c a b) t.val :=
  share_of _ t _ fun r => by rw [oTile_apply, show mgTile m c t (ix2 r a) = _ from block7 m c t r a]; rfl

theorem sum1 (a : Fin 1024) : ∀ n (hn : n < cfg0.N), (outsAt0 m c n hn).2.2.2.2.2.1 (ix2 0 a) = ∑ i ∈ Finset.range (n + 1), share (gain1 m c a) i :=
  so_far _ _ (fun hn => (congrFun (at_first m c ⟨0, hn⟩ rfl (by simp)).2.1 _).trans (share1 m c ⟨0, hn⟩ a))
    fun n hn => (congrFun (at_later m c n hn).1 _).trans ((add_gains _ _ a).trans (congrArg (_ + ·) (share1 m c ⟨n + 1, hn⟩ a)))
theorem sum2 (a : Fin 1024) : ∀ n (hn : n < cfg0.N), (outsAt0 m c n hn).2.2.2.2.2.2.1 (ix2 0 a) = ∑ i ∈ Finset.range (n + 1), share (gain2 m c a) i :=
  so_far _ _ (fun hn => (congrFun (at_first m c ⟨0, hn⟩ rfl (by simp)).2.2.1 _).trans (share2 m c ⟨0, hn⟩ a))
    fun n hn => (congrFun (at_later m c n hn).2.1 _).trans ((add_gains' _ _ a).trans (congrArg (_ + ·) (share2 m c ⟨n + 1, hn⟩ a)))
theorem sum3 (a b : Fin 1024) : ∀ n (hn : n < cfg0.N), (outsAt0 m c n hn).2.2.2.2.2.2.2 (ix2 a b) = ∑ i ∈ Finset.range (n + 1), share (prod m c a b) i :=
  so_far _ _ (fun hn => (congrFun (at_first m c ⟨0, hn⟩ rfl (by simp)).2.2.2 _).trans ((prod_first _ _ a b).trans (share3 m c ⟨0, hn⟩ a b)))
    fun n hn => (congrFun (at_later m c n hn).2.2 _).trans ((prod_later _ _ _ a b).trans (congrArg (_ + ·) (share3 m c ⟨n + 1, hn⟩ a b)))

/-! ## The results -/

theorem tileC (t : Fin cfg0.N) (r : Fin 256) (a : Fin 1024) :
    k0_pay1 (F := Ideal) (k0_pay22 (F := Ideal) (oTile m c t) (iblk m c 6 t) (iblk m c 8 t)) (ix2 r a) = outC m c (ix2 (row t r) a) := by
  rw [branch1, block8]
  exact (congrArg (· * _) (mTile_apply m c t r a)).trans (Ref.first_ref ..).symm
theorem tileL (t : Fin cfg0.N) (r : Fin 256) (a : Fin 1024) :
    k0_pay2 (F := Ideal) (mTile m c t) (k0_pay21 (F := Ideal) (iblk m c 9 t)) (ix2 r a) = outL m c (ix2 (row t r) a) := by
  rw [branch2, block9, mTile_apply]
  exact (Ref.second_ref ..).symm

theorem arr12 : (dats m 0 c).arrAt 12 cfg0.N = outH m c := by
  refine (dats m 0 c).arrAt_eq_of_covers 12 (outH m c) (by decide +kernel) fun t hf y => ?_
  have h := (index_out t).1
  obtain ⟨r, a, rfl⟩ : ∃ (r : Fin 256) (a : Fin 1024), y = ix2 r a := ⟨y 0, y 1, eq_ix2 y⟩
  have e : ((cfg0.win 12).blk t).view.emb (ix2 r a) = ix2 (row t r) a := funext fun i => Fin.ext (by
    match i with
    | ⟨0, _⟩ => show win0_12.index t 0 * 256 + 1 * r.val = 256 * t.val + r.val; rw [h.1]; omega
    | ⟨1, _⟩ => show win0_12.index t 1 * 1024 + 1 * a.val = a.val; rw [h.2]; omega)
  rw [e, after0_12]
  exact (congrFun (rows m c t).1 _).trans ((same _ r a).trans (hTile_apply m c t r a))
theorem arr13 : (dats m 0 c).arrAt 13 cfg0.N = outC m c := by
  refine (dats m 0 c).arrAt_eq_of_covers 13 (outC m c) (by decide +kernel) fun t hf y => ?_
  have h := (index_out t).2.1
  obtain ⟨r, a, rfl⟩ : ∃ (r : Fin 256) (a : Fin 1024), y = ix2 r a := ⟨y 0, y 1, eq_ix2 y⟩
  have e : ((cfg0.win 13).blk t).view.emb (ix2 r a) = ix2 (row t r) a := funext fun i => Fin.ext (by
    match i with
    | ⟨0, _⟩ => show win0_13.index t 0 * 256 + 1 * r.val = 256 * t.val + r.val; rw [h.1]; omega
    | ⟨1, _⟩ => show win0_13.index t 1 * 1024 + 1 * a.val = a.val; rw [h.2]; omega)
  rw [e, after0_13]
  exact (congrFun (rows m c t).2.1 _).trans (tileC m c t r a)
theorem arr14 : (dats m 0 c).arrAt 14 cfg0.N = outL m c := by
  refine (dats m 0 c).arrAt_eq_of_covers 14 (outL m c) (by decide +kernel) fun t hf y => ?_
  have h := (index_out t).2.2.1
  obtain ⟨r, a, rfl⟩ : ∃ (r : Fin 256) (a : Fin 1024), y = ix2 r a := ⟨y 0, y 1, eq_ix2 y⟩
  have e : ((cfg0.win 14).blk t).view.emb (ix2 r a) = ix2 (row t r) a := funext fun i => Fin.ext (by
    match i with
    | ⟨0, _⟩ => show win0_14.index t 0 * 256 + 1 * r.val = 256 * t.val + r.val; rw [h.1]; omega
    | ⟨1, _⟩ => show win0_14.index t 1 * 1024 + 1 * a.val = a.val; rw [h.2]; omega)
  rw [e, after0_14]
  exact (congrFun (rows m c t).2.2.1 _).trans (tileL m c t r a)
theorem gTile_apply (t : Fin cfg0.N) (r : Fin 256) (j : Fin 2048) : gTile m c t (ix2 r j) = outJ m c (ix2 (row t r) j) := by
  by_cases hj : j.val < 1024
  · exact gTile_left m c t r ⟨j.val, hj⟩
  · have hj' : j = ⟨1024 + (⟨j.val - 1024, by omega⟩ : Fin 1024).val, by show 1024 + (j.val - 1024) < 2048; omega⟩ :=
      Fin.ext (by show j.val = 1024 + (j.val - 1024); omega)
    rw [hj']
    exact gTile_right m c t r ⟨j.val - 1024, by omega⟩
theorem arr15 : (dats m 0 c).arrAt 15 cfg0.N = outJ m c := by
  refine (dats m 0 c).arrAt_eq_of_covers 15 (outJ m c) (by decide +kernel) fun t hf y => ?_
  have h := (index_out t).2.2.2.1
  obtain ⟨r, j, rfl⟩ : ∃ (r : Fin 256) (j : Fin 2048), y = ix2 r j := ⟨y 0, y 1, eq_ix2 y⟩
  have e : ((cfg0.win 15).blk t).view.emb (ix2 r j) = ix2 (row t r) j := funext fun i => Fin.ext (by
    match i with
    | ⟨0, _⟩ => show win0_15.index t 0 * 256 + 1 * r.val = 256 * t.val + r.val; rw [h.1]; omega
    | ⟨1, _⟩ => show win0_15.index t 1 * 2048 + 1 * j.val = j.val; rw [h.2]; omega)
  rw [e, after0_15]
  exact (congrFun (rows m c t).2.2.2 _).trans (gTile_apply m c t r j)

theorem flush16 : ∀ t : Fin cfg0.N, (cfg0.win 16).flush t = true → t.val = 15 := by decide +kernel
theorem flush17 : ∀ t : Fin cfg0.N, (cfg0.win 17).flush t = true → t.val = 15 := by decide +kernel
theorem flush18 : ∀ t : Fin cfg0.N, (cfg0.win 18).flush t = true → t.val = 15 := by decide +kernel

theorem arr16 : (dats m 0 c).arrAt 16 cfg0.N = outW m c := by
  refine (dats m 0 c).arrAt_eq_of_covers 16 (outW m c) (by decide +kernel) fun t hf y => ?_
  have h := (index_out t).2.2.2.2.1
  obtain ⟨a, b, rfl⟩ : ∃ (a b : Fin 1024), y = ix2 a b := ⟨y 0, y 1, eq_ix2 y⟩
  have e : ((cfg0.win 16).blk t).view.emb (ix2 a b) = ix2 a b := funext fun i => Fin.ext (by
    match i with
    | ⟨0, _⟩ => show win0_16.index t 0 * 1024 + 1 * a.val = a.val; rw [h.1]; omega
    | ⟨1, _⟩ => show win0_16.index t 1 * 1024 + 1 * b.val = b.val; rw [h.2]; omega)
  have h15 := flush16 t hf
  have hl := (at_last m c t (by omega) (by omega) (by omega) (lt_of_le_of_lt (Nat.sub_le _ _) t.isLt)).2
  rw [e, after0_16]
  refine (congrFun (hl.2.2.2.trans (congrArg _ hl.2.2.1.symm)) _).trans ((same' _ a b).trans ((sum3 m c a b t.val t.isLt).trans ?_))
  rw [h15]
  exact (sum_shares _).trans (Ref.weight_ref ..).symm
theorem arr17 : (dats m 0 c).arrAt 17 cfg0.N = outP m c := by
  refine (dats m 0 c).arrAt_eq_of_covers 17 (outP m c) (by decide +kernel) fun t hf y => ?_
  have h := (index_out t).2.2.2.2.2.1
  obtain ⟨z, a, rfl⟩ : ∃ (z : Fin 1) (a : Fin 1024), y = ix2 z a := ⟨y 0, y 1, eq_ix2 y⟩
  obtain rfl : z = 0 := Subsingleton.elim _ _
  have e : ((cfg0.win 17).blk t).view.emb (ix2 0 a) = ix2 0 a := funext fun i => Fin.ext (by
    match i with
    | ⟨0, _⟩ => show win0_17.index t 0 * 1 + 1 * 0 = 0; rw [h.1]
    | ⟨1, _⟩ => show win0_17.index t 1 * 1024 + 1 * a.val = a.val; rw [h.2]; omega)
  rw [e, after0_17]
  refine (sum1 m c a t.val t.isLt).trans ?_
  rw [flush17 t hf]
  exact (sum_shares _).trans (Ref.gain_ref ..).symm
theorem arr18 : (dats m 0 c).arrAt 18 cfg0.N = outQ m c := by
  refine (dats m 0 c).arrAt_eq_of_covers 18 (outQ m c) (by decide +kernel) fun t hf y => ?_
  have h := (index_out t).2.2.2.2.2.2
  obtain ⟨z, a, rfl⟩ : ∃ (z : Fin 1) (a : Fin 1024), y = ix2 z a := ⟨y 0, y 1, eq_ix2 y⟩
  obtain rfl : z = 0 := Subsingleton.elim _ _
  have e : ((cfg0.win 18).blk t).view.emb (ix2 0 a) = ix2 0 a := funext fun i => Fin.ext (by
    match i with
    | ⟨0, _⟩ => show win0_18.index t 0 * 1 + 1 * 0 = 0; rw [h.1]
    | ⟨1, _⟩ => show win0_18.index t 1 * 1024 + 1 * a.val = a.val; rw [h.2]; omega)
  rw [e, after0_18]
  refine (sum2 m c a t.val t.isLt).trans ?_
  rw [flush18 t hf]
  exact (sum_shares _).trans (Ref.gain_ref' ..).symm
end Cert.MergeVal
-- ==== Proof.MergeClaims.lean ====
module
public import proofs.«01_k».proof.Defs
public import proofs.«01_k».proof.Proof.MergeVal
public import proofs.«01_k».proof.Proof.Gen.Merge
public import proofs.«01_k».proof.Proof.Gen.Merge.Frame
public import proofs.«01_k».proof.Proof.Gen.MergeIdeal
public import proofs.«01_k».proof.Proof.Gen.MergeReferenceIdeal
public import proofs.«01_k».proof.Proof.Gen.MergeReferenceIdeal.Run
public import Idealize.ShloMosaic.Adequacy
public import Idealize.ShloMosaic.Init
@[expose] public section
noncomputable section
/-! The claims about the gradient through the merge of the branches. -/
namespace Cert.MergeVal
open Idealize.ShloMosaic Idealize.SL.Sem

/-- The kernel runs, keeps its arguments and leaves every counter at zero. -/
theorem frame_kernel : Cert.quiescent_Merge := fun m ρ _ => Cert.Merge.Gen.frame m ρ
/-- So does its idealization. -/
theorem frame_ideal : Cert.quiescent_MergeIdeal := fun m ρ _ => Cert.MergeIdeal.Gen.frame m ρ
/-- So does the reference. -/
theorem frame_reference : Cert.quiescent_MergeReferenceIdeal := fun m ρ _ =>
  (θ_run Cert.MergeReferenceIdeal.defs _ _).mono
    (fun r h => ⟨fun c => (h c).2.2.2.2.2.2.2, Idealize.ShloMosaic.sem_eq_zero_of_no_sems (by decide) r.2⟩)
    (Cert.MergeReferenceIdeal.Value.run (F := Ideal) m ρ)

/-- Both programs return the same seven gradients, on any arguments. -/
theorem values : Cert.algebraic_MergeIdeal_MergeReferenceIdeal := fun m ρ m' ρ' _ hm =>
  ⟨outH m, outC m, outL m, outJ m, outW m, outP m, outQ m, (θ_run Cert.MergeIdeal.defs _ _).mono (fun r h c => by
      obtain ⟨e0, e1, e2, e3, e4, e5, e6, hk⟩ := h c
      exact ⟨e0.trans (arr12 m c), e1.trans (arr13 m c), e2.trans (arr14 m c), e3.trans (arr15 m c), e4.trans (arr16 m c),
        e5.trans (arr17 m c), e6.trans (arr18 m c), hk⟩)
      (Cert.MergeIdeal.Value.run_blocks (F := Ideal) m ρ),
    (θ_run Cert.MergeReferenceIdeal.defs _ _).mono (fun r h c => by
      obtain ⟨e0, e1, e2, e3, e4, e5, e6, hk⟩ := h c
      obtain ⟨a0, a1, a2, a3, a4, a5, a6, a7, a8⟩ := hm c
      rw [Cert.MergeReferenceIdeal.Read.val_main_v52_eq, a0, a1, a2, a3] at e0
      rw [Cert.MergeReferenceIdeal.Read.val_main_v98_eq, a0, a1, a2, a3, a4, a5, a6, a7, a8] at e1
      rw [Cert.MergeReferenceIdeal.Read.val_main_v99_eq, a0, a1, a2, a3, a4, a5, a6, a7, a8] at e2
      rw [Cert.MergeReferenceIdeal.Read.val_main_v100_eq, a0, a1, a2, a3, a4, a5, a6, a7, a8] at e3
      rw [Cert.MergeReferenceIdeal.Read.val_main_v101_eq, a0, a1, a2, a3, a4, a5, a6, a7, a8] at e4
      rw [Cert.MergeReferenceIdeal.Read.val_main_v102_eq, a1, a2] at e5
      rw [Cert.MergeReferenceIdeal.Read.val_main_v103_eq, a0, a1, a2, a3, a5, a6, a7, a8] at e6
      exact ⟨e0, e1, e2, e3, e4, e5, e6, hk⟩)
      (Cert.MergeReferenceIdeal.Value.run (F := Ideal) m' ρ')⟩
end Cert.MergeVal
-- ==== Proof.lean ====
module

public import proofs.«01_k».proof.Defs
public import proofs.«01_k».proof.Proof.PoolClaims
public import proofs.«01_k».proof.Proof.MlpClaims
public import proofs.«01_k».proof.Proof.WeightClaims
public import proofs.«01_k».proof.Proof.InputClaims
public import proofs.«01_k».proof.Proof.MergeClaims

@[expose] public section

noncomputable section

namespace Cert.Proof

/-- Everything the certificate claims. -/
theorem claim : Cert.Claim := ⟨
  Cert.Kernel.Gen.facts, Cert.KernelIdeal.Gen.facts, Cert.ReferenceIdeal.Gen.facts, Cert.Mlp.Gen.facts, Cert.MlpIdeal.Gen.facts, Cert.MlpReferenceIdeal.Gen.facts, Cert.Weight.Gen.facts, Cert.WeightIdeal.Gen.facts, Cert.WeightReferenceIdeal.Gen.facts, Cert.Input.Gen.facts, Cert.InputIdeal.Gen.facts, Cert.InputReferenceIdeal.Gen.facts, Cert.Merge.Gen.facts, Cert.MergeIdeal.Gen.facts, Cert.MergeReferenceIdeal.Gen.facts, Cert.PoolVal.pre_facts,
  Cert.PoolVal.frame_kernel, Cert.PoolVal.frame_ideal, fun m ρ _ => Cert.PoolVal.frame_ideal m ρ trivial,
  Cert.PoolVal.frame_reference, fun m ρ _ => Cert.PoolVal.frame_reference m ρ trivial,
  Cert.MlpVal.frame_kernel, Cert.MlpVal.frame_ideal, Cert.MlpVal.frame_reference,
  Cert.WeightVal.frame_kernel, Cert.WeightVal.frame_ideal, Cert.WeightVal.frame_reference,
  Cert.InputVal.frame_kernel, Cert.InputVal.frame_ideal, Cert.InputVal.frame_reference,
  Cert.MergeVal.frame_kernel, Cert.MergeVal.frame_ideal, Cert.MergeVal.frame_reference,
  trivial, (haveI := Cert.PoolVal.pre_facts; Cert.PoolVal.values), trivial, Cert.MlpVal.values, trivial, Cert.WeightVal.values, trivial, Cert.InputVal.values, trivial, Cert.MergeVal.values⟩

end Cert.Proof
